-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v6)) (v1 : (c : Dev Cert.FinalIdeal.nD) → Buf (Elt Ideal) ((c.tc : Thread Cert.FinalIdeal.nD Cert.FinalIdeal.τ).loc Cert.FinalIdeal.main_v8)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v6) = v0 c
          ∧ r.2.mem ((c.tc : Thread Cert.FinalIdeal.nD Cert.FinalIdeal.τ).loc Cert.FinalIdeal.main_v8) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_v25) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v57)) (v1 : (c : Dev Cert.ProjIdeal.nD) → Buf (Elt Ideal) ((c.tc : Thread Cert.ProjIdeal.nD Cert.ProjIdeal.τ).loc Cert.ProjIdeal.main_v65)) (v2 : (c : Dev Cert.ProjIdeal.nD) → Buf (Elt Ideal) ((c.tc : Thread Cert.ProjIdeal.nD Cert.ProjIdeal.τ).loc Cert.ProjIdeal.main_v73)) (v3 : (c : Dev Cert.ProjIdeal.nD) → Buf (Elt Ideal) ((c.tc : Thread Cert.ProjIdeal.nD Cert.ProjIdeal.τ).loc Cert.ProjIdeal.main_v89)) (v4 : (c : Dev Cert.ProjIdeal.nD) → Buf (Elt Ideal) ((c.tc : Thread Cert.ProjIdeal.nD Cert.ProjIdeal.τ).loc Cert.ProjIdeal.main_v98)) (v5 : (c : Dev Cert.ProjIdeal.nD) → Buf (Elt Ideal) ((c.tc : Thread Cert.ProjIdeal.nD Cert.ProjIdeal.τ).loc Cert.ProjIdeal.main_v107)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v57) = v0 c
          ∧ r.2.mem ((c.tc : Thread Cert.ProjIdeal.nD Cert.ProjIdeal.τ).loc Cert.ProjIdeal.main_v65) = v1 c
          ∧ r.2.mem ((c.tc : Thread Cert.ProjIdeal.nD Cert.ProjIdeal.τ).loc Cert.ProjIdeal.main_v73) = v2 c
          ∧ r.2.mem ((c.tc : Thread Cert.ProjIdeal.nD Cert.ProjIdeal.τ).loc Cert.ProjIdeal.main_v89) = v3 c
          ∧ r.2.mem ((c.tc : Thread Cert.ProjIdeal.nD Cert.ProjIdeal.τ).loc Cert.ProjIdeal.main_v98) = v4 c
          ∧ r.2.mem ((c.tc : Thread Cert.ProjIdeal.nD Cert.ProjIdeal.τ).loc Cert.ProjIdeal.main_v107) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v60) = v0 c
          ∧ r.2.mem ((c.tc : Thread Cert.ProjRefIdeal.nD Cert.ProjRefIdeal.τ).loc Cert.ProjRefIdeal.main_v68) = v1 c
          ∧ r.2.mem ((c.tc : Thread Cert.ProjRefIdeal.nD Cert.ProjRefIdeal.τ).loc Cert.ProjRefIdeal.main_v76) = v2 c
          ∧ r.2.mem ((c.tc : Thread Cert.ProjRefIdeal.nD Cert.ProjRefIdeal.τ).loc Cert.ProjRefIdeal.main_v140) = v3 c
          ∧ r.2.mem ((c.tc : Thread Cert.ProjRefIdeal.nD Cert.ProjRefIdeal.τ).loc Cert.ProjRefIdeal.main_v149) = v4 c
          ∧ r.2.mem ((c.tc : Thread Cert.ProjRefIdeal.nD Cert.ProjRefIdeal.τ).loc Cert.ProjRefIdeal.main_v158) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v21)) (v1 : (c : Dev Cert.LatIdeal.nD) → Buf (Elt Ideal) ((c.tc : Thread Cert.LatIdeal.nD Cert.LatIdeal.τ).loc Cert.LatIdeal.main_v60)) (v2 : (c : Dev Cert.LatIdeal.nD) → Buf (Elt Ideal) ((c.tc : Thread Cert.LatIdeal.nD Cert.LatIdeal.τ).loc Cert.LatIdeal.main_v23)) (v3 : (c : Dev Cert.LatIdeal.nD) → Buf (Elt Ideal) ((c.tc : Thread Cert.LatIdeal.nD Cert.LatIdeal.τ).loc Cert.LatIdeal.main_v94)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v21) = v0 c
          ∧ r.2.mem ((c.tc : Thread Cert.LatIdeal.nD Cert.LatIdeal.τ).loc Cert.LatIdeal.main_v60) = v1 c
          ∧ r.2.mem ((c.tc : Thread Cert.LatIdeal.nD Cert.LatIdeal.τ).loc Cert.LatIdeal.main_v23) = v2 c
          ∧ r.2.mem ((c.tc : Thread Cert.LatIdeal.nD Cert.LatIdeal.τ).loc Cert.LatIdeal.main_v94) = v3 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v28) = v0 c
          ∧ r.2.mem ((c.tc : Thread Cert.LatRefIdeal.nD Cert.LatRefIdeal.τ).loc Cert.LatRefIdeal.main_v60) = v1 c
          ∧ r.2.mem ((c.tc : Thread Cert.LatRefIdeal.nD Cert.LatRefIdeal.τ).loc Cert.LatRefIdeal.main_v91) = v2 c
          ∧ r.2.mem ((c.tc : Thread Cert.LatRefIdeal.nD Cert.LatRefIdeal.τ).loc Cert.LatRefIdeal.main_v123) = v3 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v3) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v13) = v0 c
          ∧ r.2.mem ((c.tc : Thread Cert.RouterRefIdeal.nD Cert.RouterRefIdeal.τ).loc Cert.RouterRefIdeal.main_v14) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v0) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalRefIdeal : Cert.FinalRefIdeal.Facts) (hProj : Cert.Proj.Facts) (hProjIdeal : Cert.ProjIdeal.Facts) (hProjRefIdeal : Cert.ProjRefIdeal.Facts) (hLat : Cert.Lat.Facts) (hLatIdeal : Cert.LatIdeal.Facts) (hLatRefIdeal : Cert.LatRefIdeal.Facts) (hOut : Cert.Out.Facts) (hOutIdeal : Cert.OutIdeal.Facts) (hOutRefIdeal : Cert.OutRefIdeal.Facts) (hRouter : Cert.Router.Facts) (hRouterIdeal : Cert.RouterIdeal.Facts) (hRouterRefIdeal : Cert.RouterRefIdeal.Facts) (hUp : Cert.Up.Facts) (hUpIdeal : Cert.UpIdeal.Facts) (hUpRefIdeal : Cert.UpRefIdeal.Facts) (hKv : Cert.Kv.Facts) (hKvIdeal : Cert.KvIdeal.Facts) (hKvRefIdeal : Cert.KvRefIdeal.Facts) (hFfn : Cert.Ffn.Facts) (hFfnIdeal : Cert.FfnIdeal.Facts) (hFfnRefIdeal : Cert.FfnRefIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Final (hFinal := hFinal)
    ∧ quiescent_FinalIdeal (hFinalIdeal := hFinalIdeal)
    ∧ quiescent_FinalRefIdeal (hFinalRefIdeal := hFinalRefIdeal)
    ∧ quiescent_Proj (hProj := hProj)
    ∧ quiescent_ProjIdeal (hProjIdeal := hProjIdeal)
    ∧ quiescent_ProjRefIdeal (hProjRefIdeal := hProjRefIdeal)
    ∧ quiescent_Lat (hLat := hLat)
    ∧ quiescent_LatIdeal (hLatIdeal := hLatIdeal)
    ∧ quiescent_LatRefIdeal (hLatRefIdeal := hLatRefIdeal)
    ∧ quiescent_Out (hOut := hOut)
    ∧ quiescent_OutIdeal (hOutIdeal := hOutIdeal)
    ∧ quiescent_OutRefIdeal (hOutRefIdeal := hOutRefIdeal)
    ∧ quiescent_Router (hRouter := hRouter)
    ∧ quiescent_RouterIdeal (hRouterIdeal := hRouterIdeal)
    ∧ quiescent_RouterRefIdeal (hRouterRefIdeal := hRouterRefIdeal)
    ∧ quiescent_Up (hUp := hUp)
    ∧ quiescent_UpIdeal (hUpIdeal := hUpIdeal)
    ∧ quiescent_UpRefIdeal (hUpRefIdeal := hUpRefIdeal)
    ∧ quiescent_Kv (hKv := hKv)
    ∧ quiescent_KvIdeal (hKvIdeal := hKvIdeal)
    ∧ quiescent_KvRefIdeal (hKvRefIdeal := hKvRefIdeal)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal (hKernelIdeal := hKernelIdeal) (hReferenceIdeal := hReferenceIdeal) (hPre_in_range := hPre_in_range)
    ∧ preserves_Final_FinalIdeal
    ∧ algebraic_FinalIdeal_FinalRefIdeal (hFinalIdeal := hFinalIdeal) (hFinalRefIdeal := hFinalRefIdeal)
    ∧ preserves_Proj_ProjIdeal
    ∧ algebraic_ProjIdeal_ProjRefIdeal (hProjIdeal := hProjIdeal) (hProjRefIdeal := hProjRefIdeal)
    ∧ preserves_Lat_LatIdeal
    ∧ algebraic_LatIdeal_LatRefIdeal (hLatIdeal := hLatIdeal) (hLatRefIdeal := hLatRefIdeal)
    ∧ preserves_Out_OutIdeal
    ∧ algebraic_OutIdeal_OutRefIdeal (hOutIdeal := hOutIdeal) (hOutRefIdeal := hOutRefIdeal)
    ∧ preserves_Router_RouterIdeal
    ∧ algebraic_RouterIdeal_RouterRefIdeal (hRouterIdeal := hRouterIdeal) (hRouterRefIdeal := hRouterRefIdeal)
    ∧ preserves_Up_UpIdeal
    ∧ algebraic_UpIdeal_UpRefIdeal (hUpIdeal := hUpIdeal) (hUpRefIdeal := hUpRefIdeal)
    ∧ preserves_Kv_KvIdeal
    ∧ algebraic_KvIdeal_KvRefIdeal (hKvIdeal := hKvIdeal) (hKvRefIdeal := hKvRefIdeal)
    ∧ preserves_Ffn_FfnIdeal
    ∧ algebraic_FfnIdeal_FfnRefIdeal (hFfnIdeal := hFfnIdeal) (hFfnRefIdeal := hFfnRefIdeal)
-- ==== Pre_in_range.lean ====
abbrev S21504x2048 : Shape := ⟨2, ![21504, 2048]⟩
abbrev S21504x1 : Shape := ⟨2, ![21504, 1]⟩
abbrev S42 : Shape := ⟨1, ![42]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel

variable [Facts]

def fn {F : FTy → Type} [FloatOps F] (main_arg0 : FVec F S21504x2048 .bf16) (main_arg1 : FVec F S21504x1 .f32) (main_arg2 : IVec S42 32) (main_arg3 : IVec S42 32) (main_arg4 : FVec F S8x2048x11264 .f32) (main_arg5 : FVec F S8x5632x2048 .f32) : IVec S_ 1 :=
  let main_c : IVec S_ 32 := constantI S_ 32 0#32
  let main_v0 : IVec S42 32 := broadcastInDim S42 ![] bcast_S_S42 main_c
  let main_v1 : IVec S42 1 := cmpi .sge main_arg2 main_v0
  let main_c_0 : IVec S_ 32 := constantI S_ 32 8#32
  let main_v2 : IVec S42 32 := broadcastInDim S42 ![] bcast_S_S42 main_c_0
  let main_v3 : IVec S42 1 := cmpi .slt main_arg2 main_v2
  let main_v4 : IVec S42 1 := andi main_v1 main_v3
  let main_c_1 : IVec S_ 1 := constantI S_ 1 1#1
  let main_v5 : IVec S_ 1 := (fun x v => Host.reduce IntOp.andi x v reducesTo_S42_S_d0 h_S_) main_v4 main_c_1
  main_v5
-- ==== Kernel.lean ====
abbrev S21504x2048 : Shape := ⟨2, ![21504, 2048]⟩
abbrev S21504x1 : Shape := ⟨2, ![21504, 1]⟩
abbrev S42 : Shape := ⟨1, ![42]⟩
abbrev S8x2048x11264 : Shape := ⟨3, ![8, 2048, 11264]⟩
abbrev S8x5632x2048 : Shape := ⟨3, ![8, 5632, 2048]⟩
abbrev S512x2048 : Shape := ⟨2, ![512, 2048]⟩
abbrev S512x1 : Shape := ⟨2, ![512, 1]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S21504x2048, .bf16⟩
  | .hbm, ⟨1, _⟩ => ⟨S21504x1, .f32⟩
  | .hbm, ⟨2, _⟩ => ⟨S8x2048x11264, .f32⟩
  | .hbm, ⟨3, _⟩ => ⟨S8x5632x2048, .f32⟩
  | .hbm, ⟨4, _⟩ => ⟨S21504x2048, .f32⟩
  | .local _ .vmem, ⟨0, _⟩ => ⟨S512x2048, .bf16⟩
  | .local _ .vmem, ⟨1, _⟩ => ⟨S512x2048, .bf16⟩
  | .local _ .vmem, ⟨2, _⟩ => ⟨S512x1, .f32⟩
  | .local _ .vmem, ⟨3, _⟩ => ⟨S512x1, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | .local _ .vmem, ⟨11, _⟩ => ⟨S512x2048, .f32⟩
  | .local _ .smem, ⟨0, _⟩ => ⟨S42, .i32⟩
  | .local _ .smem, ⟨1, _⟩ => ⟨S42, .i32⟩
  | _, _ => ⟨S21504x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![42, 11], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c10_i32 : BitVec 32 := 10#32
  let v8 : BitVec 1 := Scalar.cmpi .eq arg1 c10_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c11_i32 : BitVec 32 := 11#32
  let v6 : BitVec 32 := Scalar.addi c11_i32 v5
  let c0_i32 : BitVec 32 := 0#32
  let c0_i32_0 : BitVec 32 := 0#32
  ![v1.toNat, c0_i32.toNat, v6.toNat]

def cc0_transform_4 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  ![v1.toNat, v5.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S21504x2048 : Shape := ⟨2, ![21504, 2048]⟩
abbrev S21504x1 : Shape := ⟨2, ![21504, 1]⟩
abbrev S42 : Shape := ⟨1, ![42]⟩
abbrev S8x2048x11264 : Shape := ⟨3, ![8, 2048, 11264]⟩
abbrev S8x5632x2048 : Shape := ⟨3, ![8, 5632, 2048]⟩
abbrev S42x512 : Shape := ⟨2, ![42, 512]⟩
abbrev S21504 : Shape := ⟨1, ![21504]⟩
abbrev S_ : Shape := ⟨0, ![]⟩
abbrev S1x2048x11264 : Shape := ⟨3, ![1, 2048, 11264]⟩
abbrev S2048x11264 : Shape := ⟨2, ![2048, 11264]⟩
abbrev S21504x11264 : Shape := ⟨2, ![21504, 11264]⟩
abbrev S21504x5632 : Shape := ⟨2, ![21504, 5632]⟩
abbrev S1x5632x2048 : Shape := ⟨3, ![1, 5632, 2048]⟩
abbrev S5632x2048 : Shape := ⟨2, ![5632, 2048]⟩

abbrev nBuf : Space → Nat
  | .hbm => 271
  | .vmem => 0
  | .smem => 0
  | _ => 0

abbrev hbmTy0_0 (i : Nat) : BufTy := match i % 128 with
  | 0 => ⟨S21504x2048, .bf16⟩
  | 1 => ⟨S21504x1, .f32⟩
  | 2 => ⟨S42, .i32⟩
  | 3 => ⟨S42, .i32⟩
  | 4 => ⟨S8x2048x11264, .f32⟩
  | 5 => ⟨S8x5632x2048, .f32⟩
  | 6 => ⟨S21504x2048, .f32⟩
  | 7 => ⟨S42x512, .i32⟩
  | 8 => ⟨S21504, .i32⟩
  | 9 => ⟨S21504x1, .i32⟩
  | 10 => ⟨S42x512, .i32⟩
  | 11 => ⟨S21504, .i32⟩
  | 12 => ⟨S21504x1, .i32⟩
  | 13 => ⟨S_, .f32⟩
  | 14 => ⟨S21504x2048, .f32⟩
  | 15 => ⟨S_, .i32⟩
  | 16 => ⟨S21504x1, .i32⟩
  | 17 => ⟨S21504x1, .i1⟩
  | 18 => ⟨S_, .i32⟩
  | 19 => ⟨S21504x1, .i32⟩
  | 20 => ⟨S21504x1, .i1⟩
  | 21 => ⟨S21504x1, .i1⟩
  | 22 => ⟨S_, .f32⟩
  | 23 => ⟨S_, .f32⟩
  | 24 => ⟨S21504x1, .f32⟩
  | 25 => ⟨S21504x1, .f32⟩
  | 26 => ⟨S1x2048x11264, .f32⟩
  | 27 => ⟨S2048x11264, .f32⟩
  | 28 => ⟨S21504x11264, .f32⟩
  | 29 => ⟨S21504x5632, .f32⟩
  | 30 => ⟨S21504x5632, .f32⟩
  | 31 => ⟨S21504x5632, .f32⟩
  | 32 => ⟨S_, .f32⟩
  | 33 => ⟨S21504x5632, .f32⟩
  | 34 => ⟨S21504x5632, .f32⟩
  | 35 => ⟨S_, .f32⟩
  | 36 => ⟨S21504x5632, .f32⟩
  | 37 => ⟨S21504x5632, .f32⟩
  | 38 => ⟨S21504x5632, .f32⟩
  | 39 => ⟨S21504x5632, .f32⟩
  | 40 => ⟨S21504x5632, .f32⟩
  | 41 => ⟨S1x5632x2048, .f32⟩
  | 42 => ⟨S5632x2048, .f32⟩
  | 43 => ⟨S21504x2048, .f32⟩
  | 44 => ⟨S21504x2048, .f32⟩
  | 45 => ⟨S21504x2048, .f32⟩
  | 46 => ⟨S21504x2048, .f32⟩
  | 47 => ⟨S_, .i32⟩
  | 48 => ⟨S21504x1, .i32⟩
  | 49 => ⟨S21504x1, .i1⟩
  | 50 => ⟨S_, .i32⟩
  | 51 => ⟨S21504x1, .i32⟩
  | 52 => ⟨S21504x1, .i1⟩
  | 53 => ⟨S21504x1, .i1⟩
  | 54 => ⟨S_, .f32⟩
  | 55 => ⟨S_, .f32⟩
  | 56 => ⟨S21504x1, .f32⟩
  | 57 => ⟨S21504x1, .f32⟩
  | 58 => ⟨S1x2048x11264, .f32⟩
  | 59 => ⟨S2048x11264, .f32⟩
  | 60 => ⟨S21504x11264, .f32⟩
  | 61 => ⟨S21504x5632, .f32⟩
  | 62 => ⟨S21504x5632, .f32⟩
  | 63 => ⟨S21504x5632, .f32⟩
  | 64 => ⟨S_, .f32⟩
  | 65 => ⟨S21504x5632, .f32⟩
  | 66 => ⟨S21504x5632, .f32⟩
  | 67 => ⟨S_, .f32⟩
  | 68 => ⟨S21504x5632, .f32⟩
  | 69 => ⟨S21504x5632, .f32⟩
  | 70 => ⟨S21504x5632, .f32⟩
  | 71 => ⟨S21504x5632, .f32⟩
  | 72 => ⟨S21504x5632, .f32⟩
  | 73 => ⟨S1x5632x2048, .f32⟩
  | 74 => ⟨S5632x2048, .f32⟩
  | 75 => ⟨S21504x2048, .f32⟩
  | 76 => ⟨S21504x2048, .f32⟩
  | 77 => ⟨S21504x2048, .f32⟩
  | 78 => ⟨S21504x2048, .f32⟩
  | 79 => ⟨S_, .i32⟩
  | 80 => ⟨S21504x1, .i32⟩
  | 81 => ⟨S21504x1, .i1⟩
  | 82 => ⟨S_, .i32⟩
  | 83 => ⟨S21504x1, .i32⟩
  | 84 => ⟨S21504x1, .i1⟩
  | 85 => ⟨S21504x1, .i1⟩
  | 86 => ⟨S_, .f32⟩
  | 87 => ⟨S_, .f32⟩
  | 88 => ⟨S21504x1, .f32⟩
  | 89 => ⟨S21504x1, .f32⟩
  | 90 => ⟨S1x2048x11264, .f32⟩
  | 91 => ⟨S2048x11264, .f32⟩
  | 92 => ⟨S21504x11264, .f32⟩
  | 93 => ⟨S21504x5632, .f32⟩
  | 94 => ⟨S21504x5632, .f32⟩
  | 95 => ⟨S21504x5632, .f32⟩
  | 96 => ⟨S_, .f32⟩
  | 97 => ⟨S21504x5632, .f32⟩
  | 98 => ⟨S21504x5632, .f32⟩
  | 99 => ⟨S_, .f32⟩
  | 100 => ⟨S21504x5632, .f32⟩
  | 101 => ⟨S21504x5632, .f32⟩
  | 102 => ⟨S21504x5632, .f32⟩
  | 103 => ⟨S21504x5632, .f32⟩
  | 104 => ⟨S21504x5632, .f32⟩
  | 105 => ⟨S1x5632x2048, .f32⟩
  | 106 => ⟨S5632x2048, .f32⟩
  | 107 => ⟨S21504x2048, .f32⟩
  | 108 => ⟨S21504x2048, .f32⟩
  | 109 => ⟨S21504x2048, .f32⟩
  | 110 => ⟨S21504x2048, .f32⟩
  | 111 => ⟨S_, .i32⟩
  | 112 => ⟨S21504x1, .i32⟩
  | 113 => ⟨S21504x1, .i1⟩
  | 114 => ⟨S_, .i32⟩
  | 115 => ⟨S21504x1, .i32⟩
  | 116 => ⟨S21504x1, .i1⟩
  | 117 => ⟨S21504x1, .i1⟩
  | 118 => ⟨S_, .f32⟩
  | 119 => ⟨S_, .f32⟩
  | 120 => ⟨S21504x1, .f32⟩
  | 121 => ⟨S21504x1, .f32⟩
  | 122 => ⟨S1x2048x11264, .f32⟩
  | 123 => ⟨S2048x11264, .f32⟩
  | 124 => ⟨S21504x11264, .f32⟩
  | 125 => ⟨S21504x5632, .f32⟩
  | 126 => ⟨S21504x5632, .f32⟩
  | 127 => ⟨S21504x5632, .f32⟩
  | _ => ⟨S21504x2048, .bf16⟩

abbrev hbmTy0_1 (i : Nat) : BufTy := match i % 128 with
  | 0 => ⟨S_, .f32⟩
  | 1 => ⟨S21504x5632, .f32⟩
  | 2 => ⟨S21504x5632, .f32⟩
  | 3 => ⟨S_, .f32⟩
  | 4 => ⟨S21504x5632, .f32⟩
  | 5 => ⟨S21504x5632, .f32⟩
  | 6 => ⟨S21504x5632, .f32⟩
  | 7 => ⟨S21504x5632, .f32⟩
  | 8 => ⟨S21504x5632, .f32⟩
  | 9 => ⟨S1x5632x2048, .f32⟩
  | 10 => ⟨S5632x2048, .f32⟩
  | 11 => ⟨S21504x2048, .f32⟩
  | 12 => ⟨S21504x2048, .f32⟩
  | 13 => ⟨S21504x2048, .f32⟩
  | 14 => ⟨S21504x2048, .f32⟩
  | 15 => ⟨S_, .i32⟩
  | 16 => ⟨S21504x1, .i32⟩
  | 17 => ⟨S21504x1, .i1⟩
  | 18 => ⟨S_, .i32⟩
  | 19 => ⟨S21504x1, .i32⟩
  | 20 => ⟨S21504x1, .i1⟩
  | 21 => ⟨S21504x1, .i1⟩
  | 22 => ⟨S_, .f32⟩
  | 23 => ⟨S_, .f32⟩
  | 24 => ⟨S21504x1, .f32⟩
  | 25 => ⟨S21504x1, .f32⟩
  | 26 => ⟨S1x2048x11264, .f32⟩
  | 27 => ⟨S2048x11264, .f32⟩
  | 28 => ⟨S21504x11264, .f32⟩
  | 29 => ⟨S21504x5632, .f32⟩
  | 30 => ⟨S21504x5632, .f32⟩
  | 31 => ⟨S21504x5632, .f32⟩
  | 32 => ⟨S_, .f32⟩
  | 33 => ⟨S21504x5632, .f32⟩
  | 34 => ⟨S21504x5632, .f32⟩
  | 35 => ⟨S_, .f32⟩
  | 36 => ⟨S21504x5632, .f32⟩
  | 37 => ⟨S21504x5632, .f32⟩
  | 38 => ⟨S21504x5632, .f32⟩
  | 39 => ⟨S21504x5632, .f32⟩
  | 40 => ⟨S21504x5632, .f32⟩
  | 41 => ⟨S1x5632x2048, .f32⟩
  | 42 => ⟨S5632x2048, .f32⟩
  | 43 => ⟨S21504x2048, .f32⟩
  | 44 => ⟨S21504x2048, .f32⟩
  | 45 => ⟨S21504x2048, .f32⟩
  | 46 => ⟨S21504x2048, .f32⟩
  | 47 => ⟨S_, .i32⟩
  | 48 => ⟨S21504x1, .i32⟩
  | 49 => ⟨S21504x1, .i1⟩
  | 50 => ⟨S_, .i32⟩
  | 51 => ⟨S21504x1, .i32⟩
  | 52 => ⟨S21504x1, .i1⟩
  | 53 => ⟨S21504x1, .i1⟩
  | 54 => ⟨S_, .f32⟩
  | 55 => ⟨S_, .f32⟩
  | 56 => ⟨S21504x1, .f32⟩
  | 57 => ⟨S21504x1, .f32⟩
  | 58 => ⟨S1x2048x11264, .f32⟩
  | 59 => ⟨S2048x11264, .f32⟩
  | 60 => ⟨S21504x11264, .f32⟩
  | 61 => ⟨S21504x5632, .f32⟩
  | 62 => ⟨S21504x5632, .f32⟩
  | 63 => ⟨S21504x5632, .f32⟩
  | 64 => ⟨S_, .f32⟩
  | 65 => ⟨S21504x5632, .f32⟩
  | 66 => ⟨S21504x5632, .f32⟩
  | 67 => ⟨S_, .f32⟩
  | 68 => ⟨S21504x5632, .f32⟩
  | 69 => ⟨S21504x5632, .f32⟩
  | 70 => ⟨S21504x5632, .f32⟩
  | 71 => ⟨S21504x5632, .f32⟩
  | 72 => ⟨S21504x5632, .f32⟩
  | 73 => ⟨S1x5632x2048, .f32⟩
  | 74 => ⟨S5632x2048, .f32⟩
  | 75 => ⟨S21504x2048, .f32⟩
  | 76 => ⟨S21504x2048, .f32⟩
  | 77 => ⟨S21504x2048, .f32⟩
  | 78 => ⟨S21504x2048, .f32⟩
  | 79 => ⟨S_, .i32⟩
  | 80 => ⟨S21504x1, .i32⟩
  | 81 => ⟨S21504x1, .i1⟩
  | 82 => ⟨S_, .i32⟩
  | 83 => ⟨S21504x1, .i32⟩
  | 84 => ⟨S21504x1, .i1⟩
  | 85 => ⟨S21504x1, .i1⟩
  | 86 => ⟨S_, .f32⟩
  | 87 => ⟨S_, .f32⟩
  | 88 => ⟨S21504x1, .f32⟩
  | 89 => ⟨S21504x1, .f32⟩
  | 90 => ⟨S1x2048x11264, .f32⟩
  | 91 => ⟨S2048x11264, .f32⟩
  | 92 => ⟨S21504x11264, .f32⟩
  | 93 => ⟨S21504x5632, .f32⟩
  | 94 => ⟨S21504x5632, .f32⟩
  | 95 => ⟨S21504x5632, .f32⟩
  | 96 => ⟨S_, .f32⟩
  | 97 => ⟨S21504x5632, .f32⟩
  | 98 => ⟨S21504x5632, .f32⟩
  | 99 => ⟨S_, .f32⟩
  | 100 => ⟨S21504x5632, .f32⟩
  | 101 => ⟨S21504x5632, .f32⟩
  | 102 => ⟨S21504x5632, .f32⟩
  | 103 => ⟨S21504x5632, .f32⟩
  | 104 => ⟨S21504x5632, .f32⟩
  | 105 => ⟨S1x5632x2048, .f32⟩
  | 106 => ⟨S5632x2048, .f32⟩
  | 107 => ⟨S21504x2048, .f32⟩
  | 108 => ⟨S21504x2048, .f32⟩
  | 109 => ⟨S21504x2048, .f32⟩
  | 110 => ⟨S21504x2048, .f32⟩
  | 111 => ⟨S_, .i32⟩
  | 112 => ⟨S21504x1, .i32⟩
  | 113 => ⟨S21504x1, .i1⟩
  | 114 => ⟨S_, .i32⟩
  | 115 => ⟨S21504x1, .i32⟩
  | 116 => ⟨S21504x1, .i1⟩
  | 117 => ⟨S21504x1, .i1⟩
  | 118 => ⟨S_, .f32⟩
  | 119 => ⟨S_, .f32⟩
  | 120 => ⟨S21504x1, .f32⟩
  | 121 => ⟨S21504x1, .f32⟩
  | 122 => ⟨S1x2048x11264, .f32⟩
  | 123 => ⟨S2048x11264, .f32⟩
  | 124 => ⟨S21504x11264, .f32⟩
  | 125 => ⟨S21504x5632, .f32⟩
  | 126 => ⟨S21504x5632, .f32⟩
  | 127 => ⟨S21504x5632, .f32⟩
  | _ => ⟨S21504x2048, .bf16⟩

abbrev hbmTy0_2 (i : Nat) : BufTy := match i % 128 with
  | 0 => ⟨S_, .f32⟩
  | 1 => ⟨S21504x5632, .f32⟩
  | 2 => ⟨S21504x5632, .f32⟩
  | 3 => ⟨S_, .f32⟩
  | 4 => ⟨S21504x5632, .f32⟩
  | 5 => ⟨S21504x5632, .f32⟩
  | 6 => ⟨S21504x5632, .f32⟩
  | 7 => ⟨S21504x5632, .f32⟩
  | 8 => ⟨S21504x5632, .f32⟩
  | 9 => ⟨S1x5632x2048, .f32⟩
  | 10 => ⟨S5632x2048, .f32⟩
  | 11 => ⟨S21504x2048, .f32⟩
  | 12 => ⟨S21504x2048, .f32⟩
  | 13 => ⟨S21504x2048, .f32⟩
  | 14 => ⟨S21504x2048, .f32⟩
  | _ => ⟨S21504x2048, .bf16⟩

abbrev hbmTy (i : Nat) : BufTy := match i / 128 with
  | 0 => hbmTy0_0 i
  | 1 => hbmTy0_1 i
  | 2 => hbmTy0_2 i
  | _ => ⟨S21504x2048, .bf16⟩

abbrev bufTy : (tb : Table) → Fin (tcTables nBuf tb) → BufTy
  | .hbm, ⟨i, _⟩ => hbmTy i
  | _, _ => ⟨S21504x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_5 : Ref sig .tc := ⟨.hbm, 79, rfl⟩
abbrev main_v46 : Ref sig .tc := ⟨.hbm, 80, rfl⟩
abbrev main_v47 : Ref sig .tc := ⟨.hbm, 81, rfl⟩
abbrev main_c_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_call4_v0 : Ref sig .tc := ⟨.hbm, 87, rfl⟩
abbrev main_call4_v1 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call5_v0 : Ref sig .tc := ⟨.hbm, 94, rfl⟩
abbrev main_call5_v1 : Ref sig .tc := ⟨.hbm, 95, rfl⟩
abbrev main_call5_cst : Ref sig .tc := ⟨.hbm, 96, rfl⟩
abbrev main_call5_v2 : Ref sig .tc := ⟨.hbm, 97, rfl⟩
abbrev main_call5_v3 : Ref sig .tc := ⟨.hbm, 98, rfl⟩
abbrev main_call5_cst_0 : Ref sig .tc := ⟨.hbm, 99, rfl⟩
abbrev main_call5_v4 : Ref sig .tc := ⟨.hbm, 100, rfl⟩
abbrev main_call5_v5 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_8 : Ref sig .tc := ⟨.hbm, 111, rfl⟩
abbrev main_v65 : Ref sig .tc := ⟨.hbm, 112, rfl⟩
abbrev main_v66 : Ref sig .tc := ⟨.hbm, 113, rfl⟩
abbrev main_c_9 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_10 : Ref sig .tc := ⟨.hbm, 118, rfl⟩
abbrev main_call6_v0 : Ref sig .tc := ⟨.hbm, 119, rfl⟩
abbrev main_call6_v1 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_call7_v0 : Ref sig .tc := ⟨.hbm, 126, rfl⟩
abbrev main_call7_v1 : Ref sig .tc := ⟨.hbm, 127, rfl⟩
abbrev main_call7_cst : Ref sig .tc := ⟨.hbm, 128, rfl⟩
abbrev main_call7_v2 : Ref sig .tc := ⟨.hbm, 129, rfl⟩
abbrev main_call7_v3 : Ref sig .tc := ⟨.hbm, 130, rfl⟩
abbrev main_call7_cst_0 : Ref sig .tc := ⟨.hbm, 131, rfl⟩
abbrev main_call7_v4 : Ref sig .tc := ⟨.hbm, 132, rfl⟩
abbrev main_call7_v5 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_c_11 : Ref sig .tc := ⟨.hbm, 143, rfl⟩
abbrev main_v84 : Ref sig .tc := ⟨.hbm, 144, rfl⟩
abbrev main_v85 : Ref sig .tc := ⟨.hbm, 145, rfl⟩
abbrev main_c_12 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_13 : Ref sig .tc := ⟨.hbm, 150, rfl⟩
abbrev main_call8_v0 : Ref sig .tc := ⟨.hbm, 151, rfl⟩
abbrev main_call8_v1 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_call9_v0 : Ref sig .tc := ⟨.hbm, 158, rfl⟩
abbrev main_call9_v1 : Ref sig .tc := ⟨.hbm, 159, rfl⟩
abbrev main_call9_cst : Ref sig .tc := ⟨.hbm, 160, rfl⟩
abbrev main_call9_v2 : Ref sig .tc := ⟨.hbm, 161, rfl⟩
abbrev main_call9_v3 : Ref sig .tc := ⟨.hbm, 162, rfl⟩
abbrev main_call9_cst_0 : Ref sig .tc := ⟨.hbm, 163, rfl⟩
abbrev main_call9_v4 : Ref sig .tc := ⟨.hbm, 164, rfl⟩
abbrev main_call9_v5 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_c_14 : Ref sig .tc := ⟨.hbm, 175, rfl⟩
abbrev main_v103 : Ref sig .tc := ⟨.hbm, 176, rfl⟩
abbrev main_v104 : Ref sig .tc := ⟨.hbm, 177, rfl⟩
abbrev main_c_15 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_16 : Ref sig .tc := ⟨.hbm, 182, rfl⟩
abbrev main_call10_v0 : Ref sig .tc := ⟨.hbm, 183, rfl⟩
abbrev main_call10_v1 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_call11_v0 : Ref sig .tc := ⟨.hbm, 190, rfl⟩
abbrev main_call11_v1 : Ref sig .tc := ⟨.hbm, 191, rfl⟩
abbrev main_call11_cst : Ref sig .tc := ⟨.hbm, 192, rfl⟩
abbrev main_call11_v2 : Ref sig .tc := ⟨.hbm, 193, rfl⟩
abbrev main_call11_v3 : Ref sig .tc := ⟨.hbm, 194, rfl⟩
abbrev main_call11_cst_0 : Ref sig .tc := ⟨.hbm, 195, rfl⟩
abbrev main_call11_v4 : Ref sig .tc := ⟨.hbm, 196, rfl⟩
abbrev main_call11_v5 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_c_17 : Ref sig .tc := ⟨.hbm, 207, rfl⟩
abbrev main_v122 : Ref sig .tc := ⟨.hbm, 208, rfl⟩
abbrev main_v123 : Ref sig .tc := ⟨.hbm, 209, rfl⟩
abbrev main_c_18 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_cst_19 : Ref sig .tc := ⟨.hbm, 214, rfl⟩
abbrev main_call12_v0 : Ref sig .tc := ⟨.hbm, 215, rfl⟩
abbrev main_call12_v1 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_call13_v0 : Ref sig .tc := ⟨.hbm, 222, rfl⟩
abbrev main_call13_v1 : Ref sig .tc := ⟨.hbm, 223, rfl⟩
abbrev main_call13_cst : Ref sig .tc := ⟨.hbm, 224, rfl⟩
abbrev main_call13_v2 : Ref sig .tc := ⟨.hbm, 225, rfl⟩
abbrev main_call13_v3 : Ref sig .tc := ⟨.hbm, 226, rfl⟩
abbrev main_call13_cst_0 : Ref sig .tc := ⟨.hbm, 227, rfl⟩
abbrev main_call13_v4 : Ref sig .tc := ⟨.hbm, 228, rfl⟩
abbrev main_call13_v5 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_c_20 : Ref sig .tc := ⟨.hbm, 239, rfl⟩
abbrev main_v141 : Ref sig .tc := ⟨.hbm, 240, rfl⟩
abbrev main_v142 : Ref sig .tc := ⟨.hbm, 241, rfl⟩
abbrev main_c_21 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_cst_22 : Ref sig .tc := ⟨.hbm, 246, rfl⟩
abbrev main_call14_v0 : Ref sig .tc := ⟨.hbm, 247, rfl⟩
abbrev main_call14_v1 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_call15_v0 : Ref sig .tc := ⟨.hbm, 254, rfl⟩
abbrev main_call15_v1 : Ref sig .tc := ⟨.hbm, 255, rfl⟩
abbrev main_call15_cst : Ref sig .tc := ⟨.hbm, 256, rfl⟩
abbrev main_call15_v2 : Ref sig .tc := ⟨.hbm, 257, rfl⟩
abbrev main_call15_v3 : Ref sig .tc := ⟨.hbm, 258, rfl⟩
abbrev main_call15_cst_0 : Ref sig .tc := ⟨.hbm, 259, rfl⟩
abbrev main_call15_v4 : Ref sig .tc := ⟨.hbm, 260, rfl⟩
abbrev main_call15_v5 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩

abbrev nD : Nat := 1
abbrev τ : Topo := Topo.v7x

variable {F : FTy → Type} [FloatOps F]
-- ==== Final.lean ====
abbrev S2x4096x2048 : Shape := ⟨3, ![2, 4096, 2048]⟩
abbrev S128x4x2048 : Shape := ⟨3, ![128, 4, 2048]⟩
abbrev S2048 : Shape := ⟨1, ![2048]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S544x2048 : Shape := ⟨2, ![544, 2048]⟩
abbrev S544 : Shape := ⟨1, ![544]⟩
abbrev S544x1 : Shape := ⟨2, ![544, 1]⟩

abbrev nBuf : Space → Nat
  | .hbm => 12
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2048, .f32⟩
  | .hbm, ⟨3, _⟩ => ⟨S8192x2048, .f32⟩
  | .hbm, ⟨4, _⟩ => ⟨S512x2048, .f32⟩
  | .hbm, ⟨5, _⟩ => ⟨S8704x2048, .f32⟩
  | .hbm, ⟨6, _⟩ => ⟨S1x2048, .f32⟩
  | .hbm, ⟨7, _⟩ => ⟨S8704x2048, .f32⟩
  | .hbm, ⟨8, _⟩ => ⟨S8192x2048, .f32⟩
  | .hbm, ⟨9, _⟩ => ⟨S2x4096x2048, .f32⟩
  | .hbm, ⟨10, _⟩ => ⟨S512x2048, .f32⟩
  | .hbm, ⟨11, _⟩ => ⟨S128x4x2048, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S544x2048, .f32⟩
  | .local _ .vmem, ⟨4, _⟩ => ⟨S544x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S2x4096x2048 : Shape := ⟨3, ![2, 4096, 2048]⟩
abbrev S128x4x2048 : Shape := ⟨3, ![128, 4, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S128x4 : Shape := ⟨2, ![128, 4]⟩
abbrev S128x4x1 : Shape := ⟨3, ![128, 4, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S128x4x2048, .f32⟩
  | .hbm, ⟨20, _⟩ => ⟨S_, .f32⟩
  | .hbm, ⟨21, _⟩ => ⟨S128x4, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S128x4x1, .f32⟩
  | .hbm, ⟨30, _⟩ => ⟨S128x4x2048, .f32⟩
  | .hbm, ⟨31, _⟩ => ⟨S128x4x2048, .f32⟩
  | .hbm, ⟨32, _⟩ => ⟨S1x1x2048, .f32⟩
  | .hbm, ⟨33, _⟩ => ⟨S128x4x2048, .f32⟩
  | .hbm, ⟨34, _⟩ => ⟨S128x4x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proj.lean ====
abbrev S2x4096x2048 : Shape := ⟨3, ![2, 4096, 2048]⟩
abbrev S128x4x2048 : Shape := ⟨3, ![128, 4, 2048]⟩
abbrev S128x128x2x8x64 : Shape := ⟨5, ![128, 128, 2, 8, 64]⟩
abbrev S128x512x2x8x64 : Shape := ⟨5, ![128, 512, 2, 8, 64]⟩
abbrev S128x2048x2x8x64 : Shape := ⟨5, ![128, 2048, 2, 8, 64]⟩
abbrev S2048 : Shape := ⟨1, ![2048]⟩
abbrev S2048x4608 : Shape := ⟨2, ![2048, 4608]⟩
abbrev S8192x2048 : Shape := ⟨2, ![8192, 2048]⟩
abbrev S512x2048 : Shape := ⟨2, ![512, 2048]⟩
abbrev S8704x2048 : Shape := ⟨2, ![8704, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S1x2048 : Shape := ⟨2, ![1, 2048]⟩
abbrev S8704x4608 : Shape := ⟨2, ![8704, 4608]⟩
abbrev S544x2048 : Shape := ⟨2, ![544, 2048]⟩
abbrev S2048x512 : Shape := ⟨2, ![2048, 512]⟩
abbrev S544x128 : Shape := ⟨2, ![544, 128]⟩
abbrev S544x512 : Shape := ⟨2, ![544, 512]⟩
abbrev S544 : Shape := ⟨1, ![544]⟩
abbrev S544x1 : Shape := ⟨2, ![544, 1]⟩
abbrev S8192x4608 : Shape := ⟨2, ![8192, 4608]⟩
abbrev S2x4096x4608 : Shape := ⟨3, ![2, 4096, 4608]⟩
abbrev S512x4608 : Shape := ⟨2, ![512, 4608]⟩
abbrev S128x4x4608 : Shape := ⟨3, ![128, 4, 4608]⟩
abbrev S2x4096x3x3x8x64 : Shape := ⟨6, ![2, 4096, 3, 3, 8, 64]⟩
abbrev S2x4096x1x3x8x64 : Shape := ⟨6, ![2, 4096, 1, 3, 8, 64]⟩
abbrev S2x4096x3x8x64 : Shape := ⟨5, ![2, 4096, 3, 8, 64]⟩
abbrev S2x4096x1x8x64 : Shape := ⟨5, ![2, 4096, 1, 8, 64]⟩
abbrev S2x4096x8x64 : Shape := ⟨4, ![2, 4096, 8, 64]⟩
abbrev S2x4096x2x8x64 : Shape := ⟨5, ![2, 4096, 2, 8, 64]⟩
abbrev S2x128x2x8x64 : Shape := ⟨5, ![2, 128, 2, 8, 64]⟩
abbrev S2x512x2x8x64 : Shape := ⟨5, ![2, 512, 2, 8, 64]⟩
abbrev S2x2048x2x8x64 : Shape := ⟨5, ![2, 2048, 2, 8, 64]⟩
abbrev S128x4x3x3x8x64 : Shape := ⟨6, ![128, 4, 3, 3, 8, 64]⟩
abbrev S128x4x1x3x8x64 : Shape := ⟨6, ![128, 4, 1, 3, 8, 64]⟩
abbrev S128x4x3x8x64 : Shape := ⟨5, ![128, 4, 3, 8, 64]⟩
abbrev S128x4x1x8x64 : Shape := ⟨5, ![128, 4, 1, 8, 64]⟩
abbrev S128x4x8x64 : Shape := ⟨4, ![128, 4, 8, 64]⟩
abbrev S128x4x2x8x64 : Shape := ⟨5, ![128, 4, 2, 8, 64]⟩
abbrev S128x132x2x8x64 : Shape := ⟨5, ![128, 132, 2, 8, 64]⟩
abbrev S128x516x2x8x64 : Shape := ⟨5, ![128, 516, 2, 8, 64]⟩
abbrev S128x2052x2x8x64 : Shape := ⟨5, ![128, 2052, 2, 8, 64]⟩

abbrev nBuf : Space → Nat
  | .hbm => 118
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S128x128x2x8x64, .f32⟩
  | .hbm, ⟨3, _⟩ => ⟨S128x512x2x8x64, .f32⟩
  | .hbm, ⟨4, _⟩ => ⟨S128x2048x2x8x64, .f32⟩
  | .hbm, ⟨5, _⟩ => ⟨S2048, .f32⟩
  | .hbm, ⟨6, _⟩ => ⟨S2048x4608, .f32⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S4096, .i32⟩
  | .hbm, ⟨11, _⟩ => ⟨S1x4096, .i32⟩
  | .hbm, ⟨12, _⟩ => ⟨S2x4096, .i32⟩
  | .hbm, ⟨13, _⟩ => ⟨S8192, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S1x4, .i32⟩
  | .hbm, ⟨19, _⟩ => ⟨S128x4, .i32⟩
  | .hbm, ⟨20, _⟩ => ⟨S512, .i32⟩
  | .hbm, ⟨21, _⟩ => ⟨S8704, .i32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S8704, .f32⟩
  | .hbm, ⟨31, _⟩ => ⟨S8704x1, .f32⟩
  | .hbm, ⟨32, _⟩ => ⟨S1x32, .f32⟩
  | .hbm, ⟨33, _⟩ => ⟨S8704x32, .f32⟩
  | .hbm, ⟨34, _⟩ => ⟨S8704x32, .f32⟩
  | .hbm, ⟨35, _⟩ => ⟨S8704x32, .f32⟩
  | .hbm, ⟨36, _⟩ => ⟨S8704x32, .f32⟩
  | .hbm, ⟨37, _⟩ => ⟨S8704x32, .f32⟩
  | .hbm, ⟨38, _⟩ => ⟨S8704x64, .f32⟩
  | .hbm, ⟨39, _⟩ => ⟨S1x8704x1x64, .f32⟩
  | .hbm, ⟨40, _⟩ => ⟨S1x8704x2x64, .f32⟩
  | .hbm, ⟨41, _⟩ => ⟨S8704x128, .f32⟩
  | .hbm, ⟨42, _⟩ => ⟨S8704x32, .f32⟩
  | .hbm, ⟨43, _⟩ => ⟨S8704x64, .f32⟩
  | .hbm, ⟨44, _⟩ => ⟨S1x8704x1x64, .f32⟩
  | .hbm, ⟨45, _⟩ => ⟨S1x8704x2x64, .f32⟩
  | .hbm, ⟨46, _⟩ => ⟨S8704x128, .f32⟩
  | .hbm, ⟨47, _⟩ => ⟨S1x2048, .f32⟩
  | .hbm, ⟨48, _⟩ => ⟨S8704x4608, .f32⟩
  | .hbm, ⟨49, _⟩ => ⟨S8192x4608, .f32⟩
  | .hbm, ⟨50, _⟩ => ⟨S2x4096x4608, .f32⟩
  | .hbm, ⟨51, _⟩ => ⟨S512x4608, .f32⟩
  | .hbm, ⟨52, _⟩ => ⟨S128x4x4608, .f32⟩
  | .hbm, ⟨53, _⟩ => ⟨S2x4096x3x3x8x64, .f32⟩
  | .hbm, ⟨54, _⟩ => ⟨S2x4096x1x3x8x64, .f32⟩
  | .hbm, ⟨55, _⟩ => ⟨S2x4096x3x8x64, .f32⟩
  | .hbm, ⟨56, _⟩ => ⟨S2x4096x1x3x8x64, .f32⟩
  | .hbm, ⟨57, _⟩ => ⟨S2x4096x3x8x64, .f32⟩
  | .hbm, ⟨58, _⟩ => ⟨S2x4096x1x3x8x64, .f32⟩
  | .hbm, ⟨59, _⟩ => ⟨S2x4096x3x8x64, .f32⟩
  | .hbm, ⟨60, _⟩ => ⟨S2x4096x1x8x64, .f32⟩
  | .hbm, ⟨61, _⟩ => ⟨S2x4096x8x64, .f32⟩
  | .hbm, ⟨62, _⟩ => ⟨S2x4096x1x8x64, .f32⟩
  | .hbm, ⟨63, _⟩ => ⟨S2x4096x8x64, .f32⟩
  | .hbm, ⟨64, _⟩ => ⟨S2x4096x1x8x64, .f32⟩
  | .hbm, ⟨65, _⟩ => ⟨S2x4096x1x8x64, .f32⟩
  | .hbm, ⟨66, _⟩ => ⟨S2x4096x2x8x64, .f32⟩
  | .hbm, ⟨67, _⟩ => ⟨S2x128x2x8x64, .f32⟩
  | .hbm, ⟨68, _⟩ => ⟨S2x4096x1x8x64, .f32⟩
  | .hbm, ⟨69, _⟩ => ⟨S2x4096x8x64, .f32⟩
  | .hbm, ⟨70, _⟩ => ⟨S2x4096x1x8x64, .f32⟩
  | .hbm, ⟨71, _⟩ => ⟨S2x4096x8x64, .f32⟩
  | .hbm, ⟨72, _⟩ => ⟨S2x4096x1x8x64, .f32⟩
  | .hbm, ⟨73, _⟩ => ⟨S2x4096x1x8x64, .f32⟩
  | .hbm, ⟨74, _⟩ => ⟨S2x4096x2x8x64, .f32⟩
  | .hbm, ⟨75, _⟩ => ⟨S2x512x2x8x64, .f32⟩
  | .hbm, ⟨76, _⟩ => ⟨S2x4096x1x8x64, .f32⟩
  | .hbm, ⟨77, _⟩ => ⟨S2x4096x8x64, .f32⟩
  | .hbm, ⟨78, _⟩ => ⟨S2x4096x1x8x64, .f32⟩
  | .hbm, ⟨79, _⟩ => ⟨S2x4096x8x64, .f32⟩
  | .hbm, ⟨80, _⟩ => ⟨S2x4096x1x8x64, .f32⟩
  | .hbm, ⟨81, _⟩ => ⟨S2x4096x1x8x64, .f32⟩
  | .hbm, ⟨82, _⟩ => ⟨S2x4096x2x8x64, .f32⟩
  | .hbm, ⟨83, _⟩ => ⟨S2x2048x2x8x64, .f32⟩
  | .hbm, ⟨84, _⟩ => ⟨S128x4x3x3x8x64, .f32⟩
  | .hbm, ⟨85, _⟩ => ⟨S128x4x1x3x8x64, .f32⟩
  | .hbm, ⟨86, _⟩ => ⟨S128x4x3x8x64, .f32⟩
  | .hbm, ⟨87, _⟩ => ⟨S128x4x1x3x8x64, .f32⟩
  | .hbm, ⟨88, _⟩ => ⟨S128x4x3x8x64, .f32⟩
  | .hbm, ⟨89, _⟩ => ⟨S128x4x1x3x8x64, .f32⟩
  | .hbm, ⟨90, _⟩ => ⟨S128x4x3x8x64, .f32⟩
  | .hbm, ⟨91, _⟩ => ⟨S128x4x1x8x64, .f32⟩
  | .hbm, ⟨92, _⟩ => ⟨S128x4x8x64, .f32⟩
  | .hbm, ⟨93, _⟩ => ⟨S128x4x1x8x64, .f32⟩
  | .hbm, ⟨94, _⟩ => ⟨S128x4x8x64, .f32⟩
  | .hbm, ⟨95, _⟩ => ⟨S128x4x1x8x64, .f32⟩
  | .hbm, ⟨96, _⟩ => ⟨S128x4x1x8x64, .f32⟩
  | .hbm, ⟨97, _⟩ => ⟨S128x4x2x8x64, .f32⟩
  | .hbm, ⟨98, _⟩ => ⟨S128x132x2x8x64, .f32⟩
  | .hbm, ⟨99, _⟩ => ⟨S128x128x2x8x64, .f32⟩
  | .hbm, ⟨100, _⟩ => ⟨S128x4x1x8x64, .f32⟩
  | .hbm, ⟨101, _⟩ => ⟨S128x4x8x64, .f32⟩
  | .hbm, ⟨102, _⟩ => ⟨S128x4x1x8x64, .f32⟩
  | .hbm, ⟨103, _⟩ => ⟨S128x4x8x64, .f32⟩
  | .hbm, ⟨104, _⟩ => ⟨S128x4x1x8x64, .f32⟩
  | .hbm, ⟨105, _⟩ => ⟨S128x4x1x8x64, .f32⟩
  | .hbm, ⟨106, _⟩ => ⟨S128x4x2x8x64, .f32⟩
  | .hbm, ⟨107, _⟩ => ⟨S128x516x2x8x64, .f32⟩
  | .hbm, ⟨108, _⟩ => ⟨S128x512x2x8x64, .f32⟩
  | .hbm, ⟨109, _⟩ => ⟨S128x4x1x8x64, .f32⟩
  | .hbm, ⟨110, _⟩ => ⟨S128x4x8x64, .f32⟩
  | .hbm, ⟨111, _⟩ => ⟨S128x4x1x8x64, .f32⟩
  | .hbm, ⟨112, _⟩ => ⟨S128x4x8x64, .f32⟩
  | .hbm, ⟨113, _⟩ => ⟨S128x4x1x8x64, .f32⟩
  | .hbm, ⟨114, _⟩ => ⟨S128x4x1x8x64, .f32⟩
  | .hbm, ⟨115, _⟩ => ⟨S128x4x2x8x64, .f32⟩
  | .hbm, ⟨116, _⟩ => ⟨S128x2052x2x8x64, .f32⟩
  | .hbm, ⟨117, _⟩ => ⟨S128x2048x2x8x64, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x512, .f32⟩
  | .local _ .vmem, ⟨10, _⟩ => ⟨S544x512, .f32⟩
  | .local _ .vmem, ⟨11, _⟩ => ⟨S544x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let c1_i32 : BitVec 32 := 1#32
  let v8 : BitVec 1 := Scalar.cmpi .eq arg1 c1_i32
  let v13 : BitVec 1 := Scalar.ori v7 v8
  let c2_i32 : BitVec 32 := 2#32
  let v9 : BitVec 1 := Scalar.cmpi .eq arg1 c2_i32
  let v14 : BitVec 1 := Scalar.ori v13 v9
  let c3_i32 : BitVec 32 := 3#32
  let v10 : BitVec 1 := Scalar.cmpi .eq arg1 c3_i32
  let v15 : BitVec 1 := Scalar.ori v14 v10
  let c4_i32 : BitVec 32 := 4#32
  let v11 : BitVec 1 := Scalar.cmpi .eq arg1 c4_i32
  let v16 : BitVec 1 := Scalar.ori v15 v11
  let c5_i32 : BitVec 32 := 5#32
  let v12 : BitVec 1 := Scalar.cmpi .eq arg1 c5_i32
  let v17 : BitVec 1 := Scalar.ori v16 v12
  let v18 : BitVec 32 := Scalar.extui v17
  let c0_i32_5 : BitVec 32 := 0#32
  let v19 : BitVec 1 := Scalar.cmpi .ne v18 c0_i32_5
  v19

def k0_cond3 (i : grid0.Coords) : BitVec 1 :=
  let arg1 : BitVec 32 := BitVec.ofNat 32 (i 1).val
  let c0_i32_4 : BitVec 32 := 0#32
  let v7 : BitVec 1 := Scalar.cmpi .eq arg1 c0_i32_4
  let c1_i32 : BitVec 32 := 1#32
  let v8 : BitVec 1 := Scalar.cmpi .eq arg1 c1_i32
  let v13 : BitVec 1 := Scalar.ori v7 v8
  let c2_i32 : BitVec 32 := 2#32
  let v9 : BitVec 1 := Scalar.cmpi .eq arg1 c2_i32
  let v14 : BitVec 1 := Scalar.ori v13 v9
  let c3_i32 : BitVec 32 := 3#32
  let v10 : BitVec 1 := Scalar.cmpi .eq arg1 c3_i32
  let v15 : BitVec 1 := Scalar.ori v14 v10
  let c4_i32 : BitVec 32 := 4#32
  let v11 : BitVec 1 := Scalar.cmpi .eq arg1 c4_i32
  let v16 : BitVec 1 := Scalar.ori v15 v11
  let c5_i32 : BitVec 32 := 5#32
  let v12 : BitVec 1 := Scalar.cmpi .eq arg1 c5_i32
  let v17 : BitVec 1 := Scalar.ori v16 v12
  let v_true : BitVec 1 := 1#1
  let v20 : BitVec 1 := Scalar.xori v17 v_true
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S2x4096x2048 : Shape := ⟨3, ![2, 4096, 2048]⟩
abbrev S128x4x2048 : Shape := ⟨3, ![128, 4, 2048]⟩
abbrev S128x128x2x8x64 : Shape := ⟨5, ![128, 128, 2, 8, 64]⟩
abbrev S128x512x2x8x64 : Shape := ⟨5, ![128, 512, 2, 8, 64]⟩
abbrev S128x2048x2x8x64 : Shape := ⟨5, ![128, 2048, 2, 8, 64]⟩
abbrev S2048 : Shape := ⟨1, ![2048]⟩
abbrev S2048x4608 : Shape := ⟨2, ![2048, 4608]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x4608 : Shape := ⟨3, ![2, 4096, 4608]⟩
abbrev S2x4096x3x3x8x64 : Shape := ⟨6, ![2, 4096, 3, 3, 8, 64]⟩
abbrev S2x4096x1x3x8x64 : Shape := ⟨6, ![2, 4096, 1, 3, 8, 64]⟩
abbrev S2x4096x3x8x64 : Shape := ⟨5, ![2, 4096, 3, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S2x4096x3x8x32 : Shape := ⟨5, ![2, 4096, 3, 8, 32]⟩
abbrev S1x4096x1x1x32 : Shape := ⟨5, ![1, 4096, 1, 1, 32]⟩
abbrev S2x4096x1x8x64 : Shape := ⟨5, ![2, 4096, 1, 8, 64]⟩
abbrev S2x4096x8x64 : Shape := ⟨4, ![2, 4096, 8, 64]⟩
abbrev S2x4096x2x8x64 : Shape := ⟨5, ![2, 4096, 2, 8, 64]⟩
abbrev S2x128x2x8x64 : Shape := ⟨5, ![2, 128, 2, 8, 64]⟩
abbrev S2x512x2x8x64 : Shape := ⟨5, ![2, 512, 2, 8, 64]⟩
abbrev S2x2048x2x8x64 : Shape := ⟨5, ![2, 2048, 2, 8, 64]⟩
abbrev S128x4 : Shape := ⟨2, ![128, 4]⟩
abbrev S128x4x1 : Shape := ⟨3, ![128, 4, 1]⟩
abbrev S4 : Shape := ⟨1, ![4]⟩
abbrev S128x4x4608 : Shape := ⟨3, ![128, 4, 4608]⟩
abbrev S128x4x3x3x8x64 : Shape := ⟨6, ![128, 4, 3, 3, 8, 64]⟩
abbrev S128x4x1x3x8x64 : Shape := ⟨6, ![128, 4, 1, 3, 8, 64]⟩
abbrev S128x4x3x8x64 : Shape := ⟨5, ![128, 4, 3, 8, 64]⟩
abbrev S4x1 : Shape := ⟨2, ![4, 1]⟩
abbrev S4x32 : Shape := ⟨2, ![4, 32]⟩
abbrev S4x1x1x32 : Shape := ⟨4, ![4, 1, 1, 32]⟩
abbrev S128x4x3x8x32 : Shape := ⟨5, ![128, 4, 3, 8, 32]⟩
abbrev S1x4x1x1x32 : Shape := ⟨5, ![1, 4, 1, 1, 32]⟩
abbrev S128x4x1x8x64 : Shape := ⟨5, ![128, 4, 1, 8, 64]⟩
abbrev S128x4x8x64 : Shape := ⟨4, ![128, 4, 8, 64]⟩
abbrev S128x4x2x8x64 : Shape := ⟨5, ![128, 4, 2, 8, 64]⟩
abbrev S128x132x2x8x64 : Shape := ⟨5, ![128, 132, 2, 8, 64]⟩
abbrev S128x516x2x8x64 : Shape := ⟨5, ![128, 516, 2, 8, 64]⟩
abbrev S128x2052x2x8x64 : Shape := ⟨5, ![128, 2052, 2, 8, 64]⟩

abbrev nBuf : Space → Nat
  | .hbm => 177
  | .vmem => 0
  | .smem => 0
  | _ => 0

abbrev hbmTy0_0 (i : Nat) : BufTy := match i % 128 with
  | 0 => ⟨S2x4096x2048, .f32⟩
  | 1 => ⟨S128x4x2048, .f32⟩
  | 2 => ⟨S128x128x2x8x64, .f32⟩
  | 3 => ⟨S128x512x2x8x64, .f32⟩
  | 4 => ⟨S128x2048x2x8x64, .f32⟩
  | 5 => ⟨S2048, .f32⟩
  | 6 => ⟨S2048x4608, .f32⟩
  | 7 => ⟨S2x4096x2048, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S_, .f32⟩
  | 15 => ⟨S2x4096x1, .f32⟩
  | 16 => ⟨S2x4096x1, .f32⟩
  | 17 => ⟨S2x4096x1, .f32⟩
  | 18 => ⟨S2x4096x2048, .f32⟩
  | 19 => ⟨S2x4096x2048, .f32⟩
  | 20 => ⟨S1x1x2048, .f32⟩
  | 21 => ⟨S2x4096x2048, .f32⟩
  | 22 => ⟨S2x4096x2048, .f32⟩
  | 23 => ⟨S4096, .i32⟩
  | 24 => ⟨S2x4096x4608, .f32⟩
  | 25 => ⟨S2x4096x3x3x8x64, .f32⟩
  | 26 => ⟨S2x4096x1x3x8x64, .f32⟩
  | 27 => ⟨S2x4096x3x8x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S4096, .f32⟩
  | 37 => ⟨S4096x1, .f32⟩
  | 38 => ⟨S1x32, .f32⟩
  | 39 => ⟨S4096x32, .f32⟩
  | 40 => ⟨S4096x32, .f32⟩
  | 41 => ⟨S4096x32, .f32⟩
  | 42 => ⟨S4096x32, .f32⟩
  | 43 => ⟨S4096x1x1x32, .f32⟩
  | 44 => ⟨S4096x32, .f32⟩
  | 45 => ⟨S4096x1x1x32, .f32⟩
  | 46 => ⟨S2x4096x3x8x32, .f32⟩
  | 47 => ⟨S2x4096x3x8x32, .f32⟩
  | 48 => ⟨S1x4096x1x1x32, .f32⟩
  | 49 => ⟨S2x4096x3x8x32, .f32⟩
  | 50 => ⟨S2x4096x3x8x32, .f32⟩
  | 51 => ⟨S1x4096x1x1x32, .f32⟩
  | 52 => ⟨S2x4096x3x8x32, .f32⟩
  | 53 => ⟨S2x4096x3x8x32, .f32⟩
  | 54 => ⟨S2x4096x3x8x32, .f32⟩
  | 55 => ⟨S1x4096x1x1x32, .f32⟩
  | 56 => ⟨S2x4096x3x8x32, .f32⟩
  | 57 => ⟨S2x4096x3x8x32, .f32⟩
  | 58 => ⟨S1x4096x1x1x32, .f32⟩
  | 59 => ⟨S2x4096x3x8x32, .f32⟩
  | 60 => ⟨S2x4096x3x8x32, .f32⟩
  | 61 => ⟨S2x4096x3x8x32, .f32⟩
  | 62 => ⟨S2x4096x3x8x64, .f32⟩
  | 63 => ⟨S2x4096x1x3x8x64, .f32⟩
  | 64 => ⟨S2x4096x3x8x64, .f32⟩
  | 65 => ⟨S2x4096x1x8x64, .f32⟩
  | 66 => ⟨S2x4096x8x64, .f32⟩
  | 67 => ⟨S2x4096x1x8x64, .f32⟩
  | 68 => ⟨S2x4096x8x64, .f32⟩
  | 69 => ⟨S2x4096x1x8x64, .f32⟩
  | 70 => ⟨S2x4096x1x8x64, .f32⟩
  | 71 => ⟨S2x4096x2x8x64, .f32⟩
  | 72 => ⟨S2x128x2x8x64, .f32⟩
  | 73 => ⟨S2x4096x1x8x64, .f32⟩
  | 74 => ⟨S2x4096x8x64, .f32⟩
  | 75 => ⟨S2x4096x1x8x64, .f32⟩
  | 76 => ⟨S2x4096x8x64, .f32⟩
  | 77 => ⟨S2x4096x1x8x64, .f32⟩
  | 78 => ⟨S2x4096x1x8x64, .f32⟩
  | 79 => ⟨S2x4096x2x8x64, .f32⟩
  | 80 => ⟨S2x512x2x8x64, .f32⟩
  | 81 => ⟨S2x4096x1x8x64, .f32⟩
  | 82 => ⟨S2x4096x8x64, .f32⟩
  | 83 => ⟨S2x4096x1x8x64, .f32⟩
  | 84 => ⟨S2x4096x8x64, .f32⟩
  | 85 => ⟨S2x4096x1x8x64, .f32⟩
  | 86 => ⟨S2x4096x1x8x64, .f32⟩
  | 87 => ⟨S2x4096x2x8x64, .f32⟩
  | 88 => ⟨S2x2048x2x8x64, .f32⟩
  | 89 => ⟨S128x4x2048, .f32⟩
  | 90 => ⟨S_, .f32⟩
  | 91 => ⟨S128x4, .f32⟩
  | 92 => ⟨S128x4x1, .f32⟩
  | 93 => ⟨S_, .f32⟩
  | 94 => ⟨S128x4x1, .f32⟩
  | 95 => ⟨S128x4x1, .f32⟩
  | 96 => ⟨S_, .f32⟩
  | 97 => ⟨S128x4x1, .f32⟩
  | 98 => ⟨S128x4x1, .f32⟩
  | 99 => ⟨S128x4x1, .f32⟩
  | 100 => ⟨S128x4x2048, .f32⟩
  | 101 => ⟨S128x4x2048, .f32⟩
  | 102 => ⟨S1x1x2048, .f32⟩
  | 103 => ⟨S128x4x2048, .f32⟩
  | 104 => ⟨S128x4x2048, .f32⟩
  | 105 => ⟨S4, .i32⟩
  | 106 => ⟨S_, .i32⟩
  | 107 => ⟨S4, .i32⟩
  | 108 => ⟨S4, .i32⟩
  | 109 => ⟨S128x4x4608, .f32⟩
  | 110 => ⟨S128x4x3x3x8x64, .f32⟩
  | 111 => ⟨S128x4x1x3x8x64, .f32⟩
  | 112 => ⟨S128x4x3x8x64, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S4, .f32⟩
  | 122 => ⟨S4x1, .f32⟩
  | 123 => ⟨S1x32, .f32⟩
  | 124 => ⟨S4x32, .f32⟩
  | 125 => ⟨S4x32, .f32⟩
  | 126 => ⟨S4x32, .f32⟩
  | 127 => ⟨S4x32, .f32⟩
  | _ => ⟨S2x4096x2048, .f32⟩

abbrev hbmTy0_1 (i : Nat) : BufTy := match i % 128 with
  | 0 => ⟨S4x1x1x32, .f32⟩
  | 1 => ⟨S4x32, .f32⟩
  | 2 => ⟨S4x1x1x32, .f32⟩
  | 3 => ⟨S128x4x3x8x32, .f32⟩
  | 4 => ⟨S128x4x3x8x32, .f32⟩
  | 5 => ⟨S1x4x1x1x32, .f32⟩
  | 6 => ⟨S128x4x3x8x32, .f32⟩
  | 7 => ⟨S128x4x3x8x32, .f32⟩
  | 8 => ⟨S1x4x1x1x32, .f32⟩
  | 9 => ⟨S128x4x3x8x32, .f32⟩
  | 10 => ⟨S128x4x3x8x32, .f32⟩
  | 11 => ⟨S128x4x3x8x32, .f32⟩
  | 12 => ⟨S1x4x1x1x32, .f32⟩
  | 13 => ⟨S128x4x3x8x32, .f32⟩
  | 14 => ⟨S128x4x3x8x32, .f32⟩
  | 15 => ⟨S1x4x1x1x32, .f32⟩
  | 16 => ⟨S128x4x3x8x32, .f32⟩
  | 17 => ⟨S128x4x3x8x32, .f32⟩
  | 18 => ⟨S128x4x3x8x32, .f32⟩
  | 19 => ⟨S128x4x3x8x64, .f32⟩
  | 20 => ⟨S128x4x1x3x8x64, .f32⟩
  | 21 => ⟨S128x4x3x8x64, .f32⟩
  | 22 => ⟨S128x4x1x8x64, .f32⟩
  | 23 => ⟨S128x4x8x64, .f32⟩
  | 24 => ⟨S128x4x1x8x64, .f32⟩
  | 25 => ⟨S128x4x8x64, .f32⟩
  | 26 => ⟨S128x4x1x8x64, .f32⟩
  | 27 => ⟨S128x4x1x8x64, .f32⟩
  | 28 => ⟨S128x4x2x8x64, .f32⟩
  | 29 => ⟨S128x132x2x8x64, .f32⟩
  | 30 => ⟨S128x128x2x8x64, .f32⟩
  | 31 => ⟨S128x4x1x8x64, .f32⟩
  | 32 => ⟨S128x4x8x64, .f32⟩
  | 33 => ⟨S128x4x1x8x64, .f32⟩
  | 34 => ⟨S128x4x8x64, .f32⟩
  | 35 => ⟨S128x4x1x8x64, .f32⟩
  | 36 => ⟨S128x4x1x8x64, .f32⟩
  | 37 => ⟨S128x4x2x8x64, .f32⟩
  | 38 => ⟨S128x516x2x8x64, .f32⟩
  | 39 => ⟨S128x512x2x8x64, .f32⟩
  | 40 => ⟨S128x4x1x8x64, .f32⟩
  | 41 => ⟨S128x4x8x64, .f32⟩
  | 42 => ⟨S128x4x1x8x64, .f32⟩
  | 43 => ⟨S128x4x8x64, .f32⟩
  | 44 => ⟨S128x4x1x8x64, .f32⟩
  | 45 => ⟨S128x4x1x8x64, .f32⟩
  | 46 => ⟨S128x4x2x8x64, .f32⟩
  | 47 => ⟨S128x2052x2x8x64, .f32⟩
  | 48 => ⟨S128x2048x2x8x64, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_4 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_cst_6 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_c : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_7 : Ref sig .tc := ⟨.hbm, 115, rfl⟩
abbrev main_v99 : Ref sig .tc := ⟨.hbm, 116, rfl⟩
abbrev main_v100 : Ref sig .tc := ⟨.hbm, 117, rfl⟩
abbrev main_cst_8 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩

abbrev nD : Nat := 1
abbrev τ : Topo := Topo.v7x

variable {F : FTy → Type} [FloatOps F]
-- ==== Lat.lean ====
abbrev S2x4096x2048 : Shape := ⟨3, ![2, 4096, 2048]⟩
abbrev S128x4x2048 : Shape := ⟨3, ![128, 4, 2048]⟩
abbrev S2048 : Shape := ⟨1, ![2048]⟩
abbrev S2048x1344 : Shape := ⟨2, ![2048, 1344]⟩
abbrev S512 : Shape := ⟨1, ![512]⟩
abbrev S8192x2048 : Shape := ⟨2, ![8192, 2048]⟩
abbrev S512x2048 : Shape := ⟨2, ![512, 2048]⟩
abbrev S8704x2048 : Shape := ⟨2, ![8704, 2048]⟩
abbrev S_ : Shape := ⟨0, ![]⟩
abbrev S8704x128 : Shape := ⟨2, ![8704, 128]⟩
abbrev S1x2048 : Shape := ⟨2, ![1, 2048]⟩
abbrev S8704x1344 : Shape := ⟨2, ![8704, 1344]⟩
abbrev S544x2048 : Shape := ⟨2, ![544, 2048]⟩
abbrev S544x128 : Shape := ⟨2, ![544, 128]⟩
abbrev S544x1344 : Shape := ⟨2, ![544, 1344]⟩
abbrev S544 : Shape := ⟨1, ![544]⟩
abbrev S544x1 : Shape := ⟨2, ![544, 1]⟩
abbrev S8704x512 : Shape := ⟨2, ![8704, 512]⟩
abbrev S8704 : Shape := ⟨1, ![8704]⟩
abbrev S8704x1 : Shape := ⟨2, ![8704, 1]⟩
abbrev S1x512 : Shape := ⟨2, ![1, 512]⟩
abbrev S8192x512 : Shape := ⟨2, ![8192, 512]⟩
abbrev S2x4096x512 : Shape := ⟨3, ![2, 4096, 512]⟩
abbrev S512x512 : Shape := ⟨2, ![512, 512]⟩
abbrev S128x4x512 : Shape := ⟨3, ![128, 4, 512]⟩
abbrev S8704x64 : Shape := ⟨2, ![8704, 64]⟩
abbrev S8192x64 : Shape := ⟨2, ![8192, 64]⟩
abbrev S2x4096x64 : Shape := ⟨3, ![2, 4096, 64]⟩
abbrev S512x64 : Shape := ⟨2, ![512, 64]⟩
abbrev S128x4x64 : Shape := ⟨3, ![128, 4, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S2x4096x32 : Shape := ⟨3, ![2, 4096, 32]⟩
abbrev S1x4096x32 : Shape := ⟨3, ![1, 4096, 32]⟩
abbrev S4 : Shape := ⟨1, ![4]⟩
abbrev S4x1 : Shape := ⟨2, ![4, 1]⟩
abbrev S4x32 : Shape := ⟨2, ![4, 32]⟩
abbrev S128x4x32 : Shape := ⟨3, ![128, 4, 32]⟩
abbrev S1x4x32 : Shape := ⟨3, ![1, 4, 32]⟩

abbrev nBuf : Space → Nat
  | .hbm => 109
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2048, .f32⟩
  | .hbm, ⟨3, _⟩ => ⟨S2048x1344, .f32⟩
  | .hbm, ⟨4, _⟩ => ⟨S512, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S_, .f32⟩
  | .hbm, ⟨9, _⟩ => ⟨S8704x128, .f32⟩
  | .hbm, ⟨10, _⟩ => ⟨S1x2048, .f32⟩
  | .hbm, ⟨11, _⟩ => ⟨S8704x1344, .f32⟩
  | .hbm, ⟨12, _⟩ => ⟨S8704x512, .f32⟩
  | .hbm, ⟨13, _⟩ => ⟨S8704x512, .f32⟩
  | .hbm, ⟨14, _⟩ => ⟨S_, .f32⟩
  | .hbm, ⟨15, _⟩ => ⟨S8704, .f32⟩
  | .hbm, ⟨16, _⟩ => ⟨S8704x1, .f32⟩
  | .hbm, ⟨17, _⟩ => ⟨S_, .f32⟩
  | .hbm, ⟨18, _⟩ => ⟨S8704x1, .f32⟩
  | .hbm, ⟨19, _⟩ => ⟨S8704x1, .f32⟩
  | .hbm, ⟨20, _⟩ => ⟨S_, .f32⟩
  | .hbm, ⟨21, _⟩ => ⟨S8704x1, .f32⟩
  | .hbm, ⟨22, _⟩ => ⟨S8704x1, .f32⟩
  | .hbm, ⟨23, _⟩ => ⟨S8704x1, .f32⟩
  | .hbm, ⟨24, _⟩ => ⟨S8704x512, .f32⟩
  | .hbm, ⟨25, _⟩ => ⟨S8704x512, .f32⟩
  | .hbm, ⟨26, _⟩ => ⟨S1x512, .f32⟩
  | .hbm, ⟨27, _⟩ => ⟨S8704x512, .f32⟩
  | .hbm, ⟨28, _⟩ => ⟨S8704x512, .f32⟩
  | .hbm, ⟨29, _⟩ => ⟨S8192x512, .f32⟩
  | .hbm, ⟨30, _⟩ => ⟨S2x4096x512, .f32⟩
  | .hbm, ⟨31, _⟩ => ⟨S512x512, .f32⟩
  | .hbm, ⟨32, _⟩ => ⟨S128x4x512, .f32⟩
  | .hbm, ⟨33, _⟩ => ⟨S8704x64, .f32⟩
  | .hbm, ⟨34, _⟩ => ⟨S8192x64, .f32⟩
  | .hbm, ⟨35, _⟩ => ⟨S2x4096x64, .f32⟩
  | .hbm, ⟨36, _⟩ => ⟨S512x64, .f32⟩
  | .hbm, ⟨37, _⟩ => ⟨S128x4x64, .f32⟩
  | .hbm, ⟨38, _⟩ => ⟨S4096, .i32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S2x4096x32, .f32⟩
  | .hbm, ⟨56, _⟩ => ⟨S2x4096x32, .f32⟩
  | .hbm, ⟨57, _⟩ => ⟨S1x4096x32, .f32⟩
  | .hbm, ⟨58, _⟩ => ⟨S2x4096x32, .f32⟩
  | .hbm, ⟨59, _⟩ => ⟨S2x4096x32, .f32⟩
  | .hbm, ⟨60, _⟩ => ⟨S1x4096x32, .f32⟩
  | .hbm, ⟨61, _⟩ => ⟨S2x4096x32, .f32⟩
  | .hbm, ⟨62, _⟩ => ⟨S2x4096x32, .f32⟩
  | .hbm, ⟨63, _⟩ => ⟨S2x4096x32, .f32⟩
  | .hbm, ⟨64, _⟩ => ⟨S1x4096x32, .f32⟩
  | .hbm, ⟨65, _⟩ => ⟨S2x4096x32, .f32⟩
  | .hbm, ⟨66, _⟩ => ⟨S2x4096x32, .f32⟩
  | .hbm, ⟨67, _⟩ => ⟨S1x4096x32, .f32⟩
  | .hbm, ⟨68, _⟩ => ⟨S2x4096x32, .f32⟩
  | .hbm, ⟨69, _⟩ => ⟨S2x4096x32, .f32⟩
  | .hbm, ⟨70, _⟩ => ⟨S2x4096x32, .f32⟩
  | .hbm, ⟨71, _⟩ => ⟨S2x4096x64, .f32⟩
  | .hbm, ⟨72, _⟩ => ⟨S4, .i32⟩
  | .hbm, ⟨73, _⟩ => ⟨S_, .i32⟩
  | .hbm, ⟨74, _⟩ => ⟨S4, .i32⟩
  | .hbm, ⟨75, _⟩ => ⟨S4, .i32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S4, .f32⟩
  | .hbm, ⟨85, _⟩ => ⟨S4x1, .f32⟩
  | .hbm, ⟨86, _⟩ => ⟨S1x32, .f32⟩
  | .hbm, ⟨87, _⟩ => ⟨S4x32, .f32⟩
  | .hbm, ⟨88, _⟩ => ⟨S4x32, .f32⟩
  | .hbm, ⟨89, _⟩ => ⟨S4x32, .f32⟩
  | .hbm, ⟨90, _⟩ => ⟨S4x32, .f32⟩
  | .hbm, ⟨91, _⟩ => ⟨S4x32, .f32⟩
  | .hbm, ⟨92, _⟩ => ⟨S128x4x32, .f32⟩
  | .hbm, ⟨93, _⟩ => ⟨S128x4x32, .f32⟩
  | .hbm, ⟨94, _⟩ => ⟨S1x4x32, .f32⟩
  | .hbm, ⟨95, _⟩ => ⟨S128x4x32, .f32⟩
  | .hbm, ⟨96, _⟩ => ⟨S128x4x32, .f32⟩
  | .hbm, ⟨97, _⟩ => ⟨S1x4x32, .f32⟩
  | .hbm, ⟨98, _⟩ => ⟨S128x4x32, .f32⟩
  | .hbm, ⟨99, _⟩ => ⟨S128x4x32, .f32⟩
  | .hbm, ⟨100, _⟩ => ⟨S128x4x32, .f32⟩
  | .hbm, ⟨101, _⟩ => ⟨S1x4x32, .f32⟩
  | .hbm, ⟨102, _⟩ => ⟨S128x4x32, .f32⟩
  | .hbm, ⟨103, _⟩ => ⟨S128x4x32, .f32⟩
  | .hbm, ⟨104, _⟩ => ⟨S1x4x32, .f32⟩
  | .hbm, ⟨105, _⟩ => ⟨S128x4x32, .f32⟩
  | .hbm, ⟨106, _⟩ => ⟨S128x4x32, .f32⟩
  | .hbm, ⟨107, _⟩ => ⟨S128x4x32, .f32⟩
  | .hbm, ⟨108, _⟩ => ⟨S128x4x64, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S2048x1344, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x1344, .f32⟩
  | .local _ .vmem, ⟨9, _⟩ => ⟨S544x1344, .f32⟩
  | .local _ .vmem, ⟨10, _⟩ => ⟨S544x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_c : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1344 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LatRefIdeal.lean ====
abbrev S2x4096x2048 : Shape := ⟨3, ![2, 4096, 2048]⟩
abbrev S128x4x2048 : Shape := ⟨3, ![128, 4, 2048]⟩
abbrev S2048 : Shape := ⟨1, ![2048]⟩
abbrev S2048x1344 : Shape := ⟨2, ![2048, 1344]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x1344 : Shape := ⟨3, ![2, 4096, 1344]⟩
abbrev S2x4096x512 : Shape := ⟨3, ![2, 4096, 512]⟩
abbrev S1x1x512 : Shape := ⟨3, ![1, 1, 512]⟩
abbrev S2x4096x64 : Shape := ⟨3, ![2, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S2x4096x32 : Shape := ⟨3, ![2, 4096, 32]⟩
abbrev S1x4096x32 : Shape := ⟨3, ![1, 4096, 32]⟩
abbrev S128x4 : Shape := ⟨2, ![128, 4]⟩
abbrev S128x4x1 : Shape := ⟨3, ![128, 4, 1]⟩
abbrev S4 : Shape := ⟨1, ![4]⟩
abbrev S128x4x1344 : Shape := ⟨3, ![128, 4, 1344]⟩
abbrev S128x4x512 : Shape := ⟨3, ![128, 4, 512]⟩
abbrev S128x4x64 : Shape := ⟨3, ![128, 4, 64]⟩
abbrev S4x1 : Shape := ⟨2, ![4, 1]⟩
abbrev S4x32 : Shape := ⟨2, ![4, 32]⟩
abbrev S128x4x32 : Shape := ⟨3, ![128, 4, 32]⟩
abbrev S1x4x32 : Shape := ⟨3, ![1, 4, 32]⟩

abbrev nBuf : Space → Nat
  | .hbm => 146
  | .vmem => 0
  | .smem => 0
  | _ => 0

abbrev hbmTy0_0 (i : Nat) : BufTy := match i % 128 with
  | 0 => ⟨S2x4096x2048, .f32⟩
  | 1 => ⟨S128x4x2048, .f32⟩
  | 2 => ⟨S2048, .f32⟩
  | 3 => ⟨S2048x1344, .f32⟩
  | 4 => ⟨S512, .f32⟩
  | 5 => ⟨S2x4096x2048, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x2048, .f32⟩
  | 17 => ⟨S2x4096x2048, .f32⟩
  | 18 => ⟨S1x1x2048, .f32⟩
  | 19 => ⟨S2x4096x2048, .f32⟩
  | 20 => ⟨S2x4096x2048, .f32⟩
  | 21 => ⟨S4096, .i32⟩
  | 22 => ⟨S2x4096x1344, .f32⟩
  | 23 => ⟨S2x4096x512, .f32⟩
  | 24 => ⟨S2x4096x512, .f32⟩
  | 25 => ⟨S_, .f32⟩
  | 26 => ⟨S2x4096, .f32⟩
  | 27 => ⟨S2x4096x1, .f32⟩
  | 28 => ⟨S_, .f32⟩
  | 29 => ⟨S2x4096x1, .f32⟩
  | 30 => ⟨S2x4096x1, .f32⟩
  | 31 => ⟨S_, .f32⟩
  | 32 => ⟨S2x4096x1, .f32⟩
  | 33 => ⟨S2x4096x1, .f32⟩
  | 34 => ⟨S2x4096x1, .f32⟩
  | 35 => ⟨S2x4096x512, .f32⟩
  | 36 => ⟨S2x4096x512, .f32⟩
  | 37 => ⟨S1x1x512, .f32⟩
  | 38 => ⟨S2x4096x512, .f32⟩
  | 39 => ⟨S2x4096x512, .f32⟩
  | 40 => ⟨S2x4096x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S4096x32, .f32⟩
  | 57 => ⟨S2x4096x32, .f32⟩
  | 58 => ⟨S2x4096x32, .f32⟩
  | 59 => ⟨S1x4096x32, .f32⟩
  | 60 => ⟨S2x4096x32, .f32⟩
  | 61 => ⟨S2x4096x32, .f32⟩
  | 62 => ⟨S1x4096x32, .f32⟩
  | 63 => ⟨S2x4096x32, .f32⟩
  | 64 => ⟨S2x4096x32, .f32⟩
  | 65 => ⟨S2x4096x32, .f32⟩
  | 66 => ⟨S1x4096x32, .f32⟩
  | 67 => ⟨S2x4096x32, .f32⟩
  | 68 => ⟨S2x4096x32, .f32⟩
  | 69 => ⟨S1x4096x32, .f32⟩
  | 70 => ⟨S2x4096x32, .f32⟩
  | 71 => ⟨S2x4096x32, .f32⟩
  | 72 => ⟨S2x4096x32, .f32⟩
  | 73 => ⟨S2x4096x64, .f32⟩
  | 74 => ⟨S128x4x2048, .f32⟩
  | 75 => ⟨S_, .f32⟩
  | 76 => ⟨S128x4, .f32⟩
  | 77 => ⟨S128x4x1, .f32⟩
  | 78 => ⟨S_, .f32⟩
  | 79 => ⟨S128x4x1, .f32⟩
  | 80 => ⟨S128x4x1, .f32⟩
  | 81 => ⟨S_, .f32⟩
  | 82 => ⟨S128x4x1, .f32⟩
  | 83 => ⟨S128x4x1, .f32⟩
  | 84 => ⟨S128x4x1, .f32⟩
  | 85 => ⟨S128x4x2048, .f32⟩
  | 86 => ⟨S128x4x2048, .f32⟩
  | 87 => ⟨S1x1x2048, .f32⟩
  | 88 => ⟨S128x4x2048, .f32⟩
  | 89 => ⟨S128x4x2048, .f32⟩
  | 90 => ⟨S4, .i32⟩
  | 91 => ⟨S_, .i32⟩
  | 92 => ⟨S4, .i32⟩
  | 93 => ⟨S4, .i32⟩
  | 94 => ⟨S128x4x1344, .f32⟩
  | 95 => ⟨S128x4x512, .f32⟩
  | 96 => ⟨S128x4x512, .f32⟩
  | 97 => ⟨S_, .f32⟩
  | 98 => ⟨S128x4, .f32⟩
  | 99 => ⟨S128x4x1, .f32⟩
  | 100 => ⟨S_, .f32⟩
  | 101 => ⟨S128x4x1, .f32⟩
  | 102 => ⟨S128x4x1, .f32⟩
  | 103 => ⟨S_, .f32⟩
  | 104 => ⟨S128x4x1, .f32⟩
  | 105 => ⟨S128x4x1, .f32⟩
  | 106 => ⟨S128x4x1, .f32⟩
  | 107 => ⟨S128x4x512, .f32⟩
  | 108 => ⟨S128x4x512, .f32⟩
  | 109 => ⟨S1x1x512, .f32⟩
  | 110 => ⟨S128x4x512, .f32⟩
  | 111 => ⟨S128x4x512, .f32⟩
  | 112 => ⟨S128x4x64, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S4, .f32⟩
  | 122 => ⟨S4x1, .f32⟩
  | 123 => ⟨S1x32, .f32⟩
  | 124 => ⟨S4x32, .f32⟩
  | 125 => ⟨S4x32, .f32⟩
  | 126 => ⟨S4x32, .f32⟩
  | 127 => ⟨S4x32, .f32⟩
  | _ => ⟨S2x4096x2048, .f32⟩

abbrev hbmTy0_1 (i : Nat) : BufTy := match i % 128 with
  | 0 => ⟨S4x32, .f32⟩
  | 1 => ⟨S128x4x32, .f32⟩
  | 2 => ⟨S128x4x32, .f32⟩
  | 3 => ⟨S1x4x32, .f32⟩
  | 4 => ⟨S128x4x32, .f32⟩
  | 5 => ⟨S128x4x32, .f32⟩
  | 6 => ⟨S1x4x32, .f32⟩
  | 7 => ⟨S128x4x32, .f32⟩
  | 8 => ⟨S128x4x32, .f32⟩
  | 9 => ⟨S128x4x32, .f32⟩
  | 10 => ⟨S1x4x32, .f32⟩
  | 11 => ⟨S128x4x32, .f32⟩
  | 12 => ⟨S128x4x32, .f32⟩
  | 13 => ⟨S1x4x32, .f32⟩
  | 14 => ⟨S128x4x32, .f32⟩
  | 15 => ⟨S128x4x32, .f32⟩
  | 16 => ⟨S128x4x32, .f32⟩
  | 17 => ⟨S128x4x64, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_13 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩

abbrev nD : Nat := 1
abbrev τ : Topo := Topo.v7x

variable {F : FTy → Type} [FloatOps F]
-- ==== Out.lean ====
abbrev S8704x2048 : Shape := ⟨2, ![8704, 2048]⟩
abbrev S2048x2048 : Shape := ⟨2, ![2048, 2048]⟩
abbrev S544x2048 : Shape := ⟨2, ![544, 2048]⟩
abbrev S2048x512 : Shape := ⟨2, ![2048, 512]⟩
abbrev S544x512 : Shape := ⟨2, ![544, 512]⟩

abbrev nBuf : Space → Nat
  | .hbm => 4
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .f32⟩
  | .local _ .vmem, ⟨0, _⟩ => ⟨S544x2048, .f32⟩
  | .local _ .vmem, ⟨1, _⟩ => ⟨S544x2048, .f32⟩
  | .local _ .vmem, ⟨2, _⟩ => ⟨S2048x512, .f32⟩
  | .local _ .vmem, ⟨3, _⟩ => ⟨S2048x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8704x2048 : Shape := ⟨2, ![8704, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Router.lean ====
abbrev S8704x2048 : Shape := ⟨2, ![8704, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S1x2048 : Shape := ⟨2, ![1, 2048]⟩
abbrev S8704x128 : Shape := ⟨2, ![8704, 128]⟩
abbrev S544x2048 : Shape := ⟨2, ![544, 2048]⟩
abbrev S544x128 : Shape := ⟨2, ![544, 128]⟩
abbrev S544 : Shape := ⟨1, ![544]⟩
abbrev S544x1 : Shape := ⟨2, ![544, 1]⟩
abbrev S8704x8 : Shape := ⟨2, ![8704, 8]⟩

abbrev nBuf : Space → Nat
  | .hbm => 10
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S1x2048, .f32⟩
  | .hbm, ⟨7, _⟩ => ⟨S8704x2048, .bf16⟩
  | .hbm, ⟨8, _⟩ => ⟨S8704x128, .f32⟩
  | .hbm, ⟨9, _⟩ => ⟨S8704x8, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S2048x128, .f32⟩
  | .local _ .vmem, ⟨4, _⟩ => ⟨S544x2048, .bf16⟩
  | .local _ .vmem, ⟨5, _⟩ => ⟨S544x2048, .bf16⟩
  | .local _ .vmem, ⟨6, _⟩ => ⟨S544x128, .f32⟩
  | .local _ .vmem, ⟨7, _⟩ => ⟨S544x128, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S8704x2048 : Shape := ⟨2, ![8704, 2048]⟩
abbrev S2048 : Shape := ⟨1, ![2048]⟩
abbrev S2048x8 : Shape := ⟨2, ![2048, 8]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x8 : Shape := ⟨2, ![8704, 8]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S8704x2048, .bf16⟩
  | .hbm, ⟨20, _⟩ => ⟨S8704x8, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Up.lean ====
abbrev S8704x768 : Shape := ⟨2, ![8704, 768]⟩
abbrev S768x3072 : Shape := ⟨2, ![768, 3072]⟩
abbrev S8704x3072 : Shape := ⟨2, ![8704, 3072]⟩
abbrev S544x768 : Shape := ⟨2, ![544, 768]⟩
abbrev S768x512 : Shape := ⟨2, ![768, 512]⟩
abbrev S544x512 : Shape := ⟨2, ![544, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x768, .f32⟩
  | .hbm, ⟨1, _⟩ => ⟨S768x3072, .f32⟩
  | .hbm, ⟨2, _⟩ => ⟨S8704x3072, .f32⟩
  | .local _ .vmem, ⟨0, _⟩ => ⟨S544x768, .f32⟩
  | .local _ .vmem, ⟨1, _⟩ => ⟨S544x768, .f32⟩
  | .local _ .vmem, ⟨2, _⟩ => ⟨S768x512, .f32⟩
  | .local _ .vmem, ⟨3, _⟩ => ⟨S768x512, .f32⟩
  | .local _ .vmem, ⟨4, _⟩ => ⟨S544x512, .f32⟩
  | .local _ .vmem, ⟨5, _⟩ => ⟨S544x512, .f32⟩
  | _, _ => ⟨S8704x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8704x768 : Shape := ⟨2, ![8704, 768]⟩
abbrev S768x3072 : Shape := ⟨2, ![768, 3072]⟩
abbrev S8704x3072 : Shape := ⟨2, ![8704, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8704x768, .f32⟩
  | .hbm, ⟨1, _⟩ => ⟨S768x3072, .f32⟩
  | .hbm, ⟨2, _⟩ => ⟨S8704x3072, .f32⟩
  | _, _ => ⟨S8704x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kv.lean ====
abbrev S8192x512 : Shape := ⟨2, ![8192, 512]⟩
abbrev S512x4096 : Shape := ⟨2, ![512, 4096]⟩
abbrev S8192x4096 : Shape := ⟨2, ![8192, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ffn.lean ====
abbrev S8704x2048 : Shape := ⟨2, ![8704, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S544x2048 : Shape := ⟨2, ![544, 2048]⟩
abbrev S2048x512 : Shape := ⟨2, ![2048, 512]⟩
abbrev S512x2048 : Shape := ⟨2, ![512, 2048]⟩
abbrev S544 : Shape := ⟨1, ![544]⟩
abbrev S544x1 : Shape := ⟨2, ![544, 1]⟩
abbrev S544x512 : Shape := ⟨2, ![544, 512]⟩

abbrev nBuf : Space → Nat
  | .hbm => 6
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S8704x2048, .f32⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S512x2048, .f32⟩
  | .local _ .vmem, ⟨8, _⟩ => ⟨S512x2048, .f32⟩
  | .local _ .vmem, ⟨9, _⟩ => ⟨S544x2048, .f32⟩
  | .local _ .vmem, ⟨10, _⟩ => ⟨S544x2048, .f32⟩
  | .local _ .vmem, ⟨11, _⟩ => ⟨S544x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8704x2048 : Shape := ⟨2, ![8704, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x11264 : Shape := ⟨2, ![8704, 11264]⟩
abbrev S8704x5632 : Shape := ⟨2, ![8704, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S8704x2048, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x2048, .f32⟩
  | .hbm, ⟨16, _⟩ => ⟨S8704x2048, .f32⟩
  | .hbm, ⟨17, _⟩ => ⟨S1x2048, .f32⟩
  | .hbm, ⟨18, _⟩ => ⟨S8704x2048, .f32⟩
  | .hbm, ⟨19, _⟩ => ⟨S8704x2048, .f32⟩
  | .hbm, ⟨20, _⟩ => ⟨S8704x11264, .f32⟩
  | .hbm, ⟨21, _⟩ => ⟨S8704x5632, .f32⟩
  | .hbm, ⟨22, _⟩ => ⟨S8704x5632, .f32⟩
  | .hbm, ⟨23, _⟩ => ⟨S8704x5632, .f32⟩
  | .hbm, ⟨24, _⟩ => ⟨S_, .f32⟩
  | .hbm, ⟨25, _⟩ => ⟨S8704x5632, .f32⟩
  | .hbm, ⟨26, _⟩ => ⟨S8704x5632, .f32⟩
  | .hbm, ⟨27, _⟩ => ⟨S_, .f32⟩
  | .hbm, ⟨28, _⟩ => ⟨S8704x5632, .f32⟩
  | .hbm, ⟨29, _⟩ => ⟨S8704x5632, .f32⟩
  | .hbm, ⟨30, _⟩ => ⟨S8704x5632, .f32⟩
  | .hbm, ⟨31, _⟩ => ⟨S8704x5632, .f32⟩
  | .hbm, ⟨32, _⟩ => ⟨S8704x5632, .f32⟩
  | .hbm, ⟨33, _⟩ => ⟨S8704x2048, .f32⟩
  | .hbm, ⟨34, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proof.MoeBodyIdeal.lean ====
/-
  The grouped expert call's body, run once at a grid point with its tables left general: what it leaves in the
  output's staging buffer is one closed term of the staged blocks, the tile's validity word and what the buffer
  held before.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.VecWindow

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables, whole: each tile's expert and each tile's validity. -/
abbrev expertTab : Memref sig .tc .smem S42 .i32 := Memref.whole main_arg2
abbrev validTab : Memref sig .tc .smem S42 .i32 := Memref.whole main_arg3

/-- The validity word the body reads at point `i`, the validity table holding `T`. -/
abbrev validWord (i : grid0.Coords) (T : S42.Idx → Elt F .i32) : BitVec 32 :=
  View.readAt (Elt F) (validTab).view (Rect.unit (s := S42) (k0_off1 i) S1.size (k0_off1_inb i)).toLoadRect T
    (Shape.Idx.first (numel1_S1.symm ▸ Nat.one_pos))

/-- The accumulator at the start of the point: cleared at a tile's first step. -/
def cleared (i : grid0.Coords) (y : S512x2048.Idx → Elt F .f32) : S512x2048.Idx → Elt F .f32 :=
  if k0_cond1 i = 1#1 then k0_pay1 (F := F) else y

/-- The accumulator after the matrix products, which only a valid tile takes. -/
def added (i : grid0.Coords) (v : BitVec 32) (x0 : S512x2048.Idx → Elt F .bf16) (x2 x3 : S1x2048x512.Idx → Elt F .f32)
    (x4 : S1x512x2048.Idx → Elt F .f32) (y : S512x2048.Idx → Elt F .f32) : S512x2048.Idx → Elt F .f32 :=
  if k0_cond2 v = 1#1 then k0_pay2 x0 x2 x3 (cleared i y) x4 else cleared i y

/-- What the body leaves in the output's buffer: the accumulator, scaled by the gates at a tile's last step. -/
def left (i : grid0.Coords) (v : BitVec 32) (x0 : S512x2048.Idx → Elt F .bf16) (x1 : S512x1.Idx → Elt F .f32)
    (x2 x3 : S1x2048x512.Idx → Elt F .f32) (x4 : S1x512x2048.Idx → Elt F .f32) (y : S512x2048.Idx → Elt F .f32) :
    S512x2048.Idx → Elt F .f32 :=
  if k0_cond3 i = 1#1 then k0_pay3 (added i v x0 x2 x3 x4 y) x1 else added i v x0 x2 x3 x4 y

set_option maxHeartbeats 8000000 in
/-- One run of the body, from whole staging buffers at any contents and any words in the tables. -/
theorem body_run (c : Dev nD) (i : grid0.Coords)
    (arg4 : Memref sig .tc .vmem S512x2048 .bf16) (harg4 : arg4.IsWhole) (arg5 : Memref sig .tc .vmem S512x1 .f32) (harg5 : arg5.IsWhole)
    (arg6 : Memref sig .tc .vmem S1x2048x512 .f32) (harg6 : arg6.IsWhole) (arg7 : Memref sig .tc .vmem S1x2048x512 .f32) (harg7 : arg7.IsWhole)
    (arg8 : Memref sig .tc .vmem S1x512x2048 .f32) (harg8 : arg8.IsWhole) (arg9 : Memref sig .tc .vmem S512x2048 .f32) (harg9 : arg9.IsWhole)
    (T0 T1 : S42.Idx → Elt F .i32) (x0 : S512x2048.Idx → Elt F .bf16) (x1 : S512x1.Idx → Elt F .f32)
    (x2 x3 : S1x2048x512.Idx → Elt F .f32) (x4 : S1x512x2048.Idx → Elt F .f32) (y : S512x2048.Idx → Elt F .f32) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (expertTab.view.loc (c : Thread nD τ) ↦{fullShare.right} T0) ∗ (validTab.view.loc (c : Thread nD τ) ↦{fullShare.right} T1)
        ∗ owns (c : Thread nD τ) arg9 fullShare y
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (expertTab.view.loc (c : Thread nD τ) ↦{fullShare.right} T0) ∗ (validTab.view.loc (c : Thread nD τ) ↦{fullShare.right} T1)
            ∗ owns (c : Thread nD τ) arg9 fullShare (left i (validWord i T1) x0 x1 x2 x3 x4 y)) -∗ K ⟨⟩))
      ⊢ wp frame (wpE (defs₀ (F := F)) Variants.none c none) Set.univ
          (cc0_moe_grouped_ffn i expertTab (Memref.isWhole_whole _) validTab (Memref.isWhole_whole _) arg4 harg4 arg5 harg5 arg6 harg6 arg7 harg7 arg8 harg8 arg9 harg9) K := by
  unfold owns
  rw [cc0_moe_grouped_ffn_eq_skeleton]; unfold cc0_moe_grouped_ffn_skel
  iintro ⟨⟨%f4, %h4, H4⟩, ⟨%f5, %h5, H5⟩, ⟨%f6, %h6, H6⟩, ⟨%f7, %h7, H7⟩, ⟨%f8, %h8, H8⟩, HT0, HT1, ⟨%f9, %h9, H9⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  have hT0 : expertTab.IsWhole := Memref.isWhole_whole _
  have hT1 : validTab.IsWhole := Memref.isWhole_whole _
  have rW : ∀ (L : List (View.Piece (Elt F) S512x2048 .f32)) (w : S512x2048.Idx → Elt F .f32) f,
      View.read (Elt F) arg9.view (arg9.view.writes (Elt F) f (⟨Rect.unit ![0, 0] S512x2048.size inb_S512x2048_S512x2048_0_0, w⟩ :: L)) = w :=
    fun L w f => View.read_writes_full _ _ _ _ _
  have rO : ∀ f, View.readAt (Elt F) arg9.view (Rect.unit ![0, 0] S512x2048.size inb_S512x2048_S512x2048_0_0).toLoadRect f = View.read (Elt F) arg9.view f :=
    fun f => View.readAt_full _ _ _
  have rC : ∀ (L : List (View.Piece (Elt F) S512x2048 .f32)) (w : S512x2048.Idx → Elt F .f32),
      arg9.view.readCov (⟨Rect.unit ![0, 0] S512x2048.size inb_S512x2048_S512x2048_0_0, w⟩ :: L) (Rect.unit ![0, 0] S512x2048.size inb_S512x2048_S512x2048_0_0).toLoadRect = w :=
    fun L w => View.readCov_full _ _ _ _ _
  have rH : ∀ f, View.readAt (Elt F) arg4.view (Rect.unit ![0, 0] S512x2048.size inb_S512x2048_S512x2048_0_0).toLoadRect f = View.read (Elt F) arg4.view f :=
    fun f => View.readAt_full _ _ _
  have rG : ∀ f, View.readAt (Elt F) arg5.view (Rect.unit ![0, 0] S512x1.size inb_S512x1_S512x1_0_0).toLoadRect f = View.read (Elt F) arg5.view f :=
    fun f => View.readAt_full _ _ _
  have rP : ∀ f, View.readAt (Elt F) arg6.view (Rect.unit ![0, 0, 0] S1x2048x512.size inb_S1x2048x512_S1x2048x512_0_0_0).toLoadRect f = View.read (Elt F) arg6.view f :=
    fun f => View.readAt_full _ _ _
  have rQ : ∀ f, View.readAt (Elt F) arg7.view (Rect.unit ![0, 0, 0] S1x2048x512.size inb_S1x2048x512_S1x2048x512_0_0_0).toLoadRect f = View.read (Elt F) arg7.view f :=
    fun f => View.readAt_full _ _ _
  have rD : ∀ f, View.readAt (Elt F) arg8.view (Rect.unit ![0, 0, 0] S1x512x2048.size inb_S1x512x2048_S1x512x2048_0_0_0).toLoadRect f = View.read (Elt F) arg8.view f :=
    fun f => View.readAt_full _ _ _
  by_cases c1 : k0_cond1 i = 1#1 <;> by_cases c2 : k0_cond2 (validWord i T1) = 1#1 <;> by_cases c3 : k0_cond3 i = 1#1
  all_goals
    sl_exec! (disch := first | (guard_target = k0_cond1 _ = _; exact c1) | (guard_target = ¬(k0_cond1 _ = _); exact c1) | (guard_target = k0_cond2 _ = _; exact c2) | (guard_target = ¬(k0_cond2 _ = _); exact c2) | (guard_target = k0_cond3 _ = _; exact c3) | (guard_target = ¬(k0_cond3 _ = _); exact c3))
    sl_step
    iapply Hk
    isplitl [H4]; · iexists _; isplitr; swap; · iexact H4
                    ipureintro; exact harg4.read_unread _
    isplitl [H5]; · iexists _; isplitr; swap; · iexact H5
                    ipureintro; exact harg5.read_unread _
    isplitl [H6]; · iexists _; isplitr; swap; · iexact H6
                    ipureintro; exact harg6.read_unread _
    isplitl [H7]; · iexists _; isplitr; swap; · iexact H7
                    ipureintro; exact harg7.read_unread _
    isplitl [H8]; · iexists _; isplitr; swap; · iexact H8
                    ipureintro; exact harg8.read_unread _
    isplitl [HT0]; · iexact HT0
    isplitl [HT1]; · iexact HT1
    iexists _; isplitr; swap; · iexact H9
    ipureintro
    unfold left added cleared
    simp only [c1, c2, c3, if_true, if_false]
    first
      | with_reducible exact h9
      | (sl_unfold_run_names
         repeat (first | rw [rW] | rw [rC] | rw [rO] | rw [rH] | rw [rG] | rw [rP] | rw [rQ] | rw [rD])
         try simp only [h4, h5, h6, h7, h8, h9])

end Cert.KernelIdeal.Moe
-- ==== Proof.MoeFrameIdeal.lean ====
/-
  The grouped expert call as a pipeline, its two prefetched tables left general: the output buffer's contents
  point by point, the body obligation, and the run of the whole call. Every expert's gate and up halves lie in one
  array, which two input windows read, each at its own part of that array's share.
-/
module

public import proofs.«01_k».proof.Proof.MoeBodyIdeal
public import Idealize.ShloMosaic.Lib.Pipeline.Frame
public import Idealize.ShloMosaic.Lib.Decide

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The schedule, which no table changes -/

/-- A tile's first point is the one whose step is 0. -/
theorem first_iff : ∀ t : Fin grid0.N, (k0_cond1 (grid0.coords t) = 1#1) ↔ t.val % 11 = 0 := by decide +kernel

/-- A tile's last point is the one whose step is 10. -/
theorem last_iff : ∀ t : Fin grid0.N, (k0_cond3 (grid0.coords t) = 1#1) ↔ t.val % 11 = 10 := by decide +kernel

/-- Whether the output's block is written back at `t`, spelled over its index map. -/
def writesBack (t : Fin grid0.N) : Bool :=
  true && (t.val + 1 = grid0.N || decide (∃ h : t.val + 1 < grid0.N, ∃ a, cc0_transform_5 (grid0.coords ⟨t.val + 1, h⟩) a ≠ cc0_transform_5 (grid0.coords t) a))

/-- It is written back at a tile's last point. -/
theorem writesBack_eq : ∀ t : Fin grid0.N, writesBack t = decide (t.val % 11 = 10) := by decide +kernel

section Data

variable (a : (pcfg0 (F := F)).Adm)

abbrev cfgA : Pipeline.Cfg sig Λ₀ := cfg0 (F := F) a

/-- A point's coordinates. -/
abbrev crd (t : Fin (cfgA a).N) : grid0.Coords := grid0.coords t

theorem flush_eq (t : Fin (cfgA a).N) : ((cfgA a).win (5 : Fin 6)).flush t = decide (t.val % 11 = 10) :=
  (((cfgA a).win (5 : Fin 6)).flush_eq_flushF t).trans ((show _ = writesBack t from rfl).trans (writesBack_eq t))

/-- The validity word of the tile at point `t`. -/
abbrev word (t : Fin (cfgA a).N) : BitVec 32 := validWord (F := F) (crd a t) (a.1 (1 : Fin 2))

/-- The element the idle table names is the word the body loads. -/
theorem atD_eq (i : grid0.Coords) : a.1.atD (1 : Fin 2) (k0_off1 i) = validWord (F := F) i (a.1 (1 : Fin 2)) := by
  unfold Pipeline.Prefetch.Contents.atD
  refine (dif_pos (show ∀ x : Fin 1, k0_off1 i x + 1 ≤ S42.size x from fun x => by
    have h := k0_off1_inb i x; rw [Subsingleton.elim x 0] at h ⊢; exact h)).trans ?_
  unfold validWord
  refine congrArg (a.1 (1 : Fin 2)) (funext fun x => Fin.ext ?_)
  show k0_off1 i x = k0_off1 i x + 1 * ((Shape.Idx.first (s := S1) _) x).val
  simp [Shape.Idx.first]

theorem idle_iff (t : Fin (cfgA a).N) : (cfgA a).idle (5 : Fin 6) ((cfgA a).grid.coords t) = true
    ↔ ¬ k0_cond1 (crd a t) = 1#1 ∧ ¬ k0_cond2 (word a t) = 1#1 ∧ ¬ k0_cond3 (crd a t) = 1#1 := by
  show (!(k0_cond1 (crd a t) == 1#1) && !(k0_cond2 (a.1.atD (1 : Fin 2) (k0_off1 (crd a t))) == 1#1) && !(k0_cond3 (crd a t) == 1#1)) = true ↔ _
  rw [atD_eq]
  simp [and_assoc]

/-- The output's buffer holds nothing of its tile exactly at the tile's first point. -/
theorem fresh_eq (t : Fin (cfgA a).N) : (cfgA a).fresh (5 : Fin 6) t.val = decide (t.val % 11 = 0) := by
  refine Pipeline.Cfg.fresh_tab (cfgA a) (5 : Fin 6) (fun n => decide (n % 11 = 0)) rfl (fun t => ?_) t.val (Nat.le_of_lt t.isLt)
  rw [flush_eq]
  by_cases h0 : t.val % 11 = 0
  · have hi : (cfgA a).idle (5 : Fin 6) ((cfgA a).grid.coords t) = false := by
      rw [← Bool.not_eq_true, idle_iff]; exact fun h => h.1 ((first_iff t).2 h0)
    rw [hi, Bool.false_and, Bool.or_false]; exact decide_eq_decide.2 (by omega)
  · rw [show decide (t.val % 11 = 0) = false from decide_eq_false h0, Bool.and_false, Bool.or_false]
    exact decide_eq_decide.2 (by omega)

/-! ## The blocks, and the output's contents point by point -/

variable (m : (ℓ : Loc nD τ sig) → Buf (Elt F) ℓ)

/-- Window `w`'s block at point `t`, read off its array as the call begins. -/
def blockAt (c : Dev nD) (w : Fin (cfgA a).W) (t : Fin (cfgA a).N) :
    (((cfgA a).win w).xblock ((cfgA a).grid.coords t)).Idx → Elt F ((cfgA a).win w).elt :=
  (((cfgA a).win w).blk t).view.read (Elt F) (m (((cfgA a).win w).arr.view.loc (c : Thread nD τ)))

/-- What the body leaves at point `t` over what the buffer held. -/
def stepAt (c : Dev nD) (t : Fin (cfgA a).N) (y : S512x2048.Idx → Elt F .f32) : S512x2048.Idx → Elt F .f32 :=
  left (crd a t) (word a t) (blockAt a m c (0 : Fin 6) t) (blockAt a m c (1 : Fin 6) t) (blockAt a m c (2 : Fin 6) t)
    (blockAt a m c (3 : Fin 6) t) (blockAt a m c (4 : Fin 6) t) y

/-- The buffer after position `n`. -/
def trajAt (c : Dev nD) : (n : ℕ) → n < (cfgA a).N → (S512x2048.Idx → Elt F .f32)
  | 0, h => stepAt a m c ⟨0, h⟩ (k0_pay1 (F := F))
  | n + 1, h => stepAt a m c ⟨n + 1, h⟩ (trajAt c n (Nat.lt_of_succ_lt h))

/-- The buffer before point `t`. -/
def prevAt (c : Dev nD) (t : Fin (cfgA a).N) : S512x2048.Idx → Elt F .f32 :=
  if h : t.val = 0 then k0_pay1 (F := F) else trajAt a m c (t.val - 1) (by omega)

theorem trajAt_eq (c : Dev nD) (t : Fin (cfgA a).N) : trajAt a m c t.val t.isLt = stepAt a m c t (prevAt a m c t) := by
  obtain ⟨n, hn⟩ := t
  cases n with
  | zero => rfl
  | succ n => unfold prevAt; simp only [Nat.add_one_ne_zero, dif_neg, not_false_eq_true]; rfl

/-- A tile's first point forgets what the buffer held. -/
theorem stepAt_first (c : Dev nD) (t : Fin (cfgA a).N) (h : t.val % 11 = 0) (y y' : S512x2048.Idx → Elt F .f32) :
    stepAt a m c t y = stepAt a m c t y' := by
  have h1 : k0_cond1 (crd a t) = 1#1 := (first_iff t).2 h
  unfold stepAt left added cleared; simp only [h1, if_true]

/-- An idle point leaves the buffer as it was. -/
theorem stepAt_idle (c : Dev nD) (t : Fin (cfgA a).N) (hi : (cfgA a).idle (5 : Fin 6) ((cfgA a).grid.coords t) = true)
    (y : S512x2048.Idx → Elt F .f32) : stepAt a m c t y = y := by
  obtain ⟨h1, h2, h3⟩ := (idle_iff a t).1 hi
  unfold stepAt left added cleared; simp only [h1, h2, h3, if_false]

/-! ## The pipeline's proof data -/

/-- The invariant: the registers and tables the body only reads. -/
def invA (c : Dev nD) : sProp 𝕄 := iprop(Pipeline.ΦA spec0 c ∗ Pipeline.ΦT pre0 a.1 c)

/-- The proof data: inputs hold their blocks, the output its trajectory, a shared array is dealt out by `shareOf`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => blockAt a m c (0 : Fin 6) t
    | ⟨1, _⟩ => blockAt a m c (1 : Fin 6) t
    | ⟨2, _⟩ => blockAt a m c (2 : Fin 6) t
    | ⟨3, _⟩ => blockAt a m c (3 : Fin 6) t
    | ⟨4, _⟩ => blockAt a m c (4 : Fin 6) t
    | ⟨5, _⟩ => trajAt a m c t.val t.isLt
  Φ _ := invA a c
  q w := Pipeline.shareOf spec0 w
  owed _ := 0

theorem after_0 (c : Dev nD) (t : Fin (cfgA a).N) : (dats a m 0 c).after (0 : Fin 6) t = blockAt a m c (0 : Fin 6) t := rfl
theorem after_1 (c : Dev nD) (t : Fin (cfgA a).N) : (dats a m 0 c).after (1 : Fin 6) t = blockAt a m c (1 : Fin 6) t := rfl
theorem after_2 (c : Dev nD) (t : Fin (cfgA a).N) : (dats a m 0 c).after (2 : Fin 6) t = blockAt a m c (2 : Fin 6) t := rfl
theorem after_3 (c : Dev nD) (t : Fin (cfgA a).N) : (dats a m 0 c).after (3 : Fin 6) t = blockAt a m c (3 : Fin 6) t := rfl
theorem after_4 (c : Dev nD) (t : Fin (cfgA a).N) : (dats a m 0 c).after (4 : Fin 6) t = blockAt a m c (4 : Fin 6) t := rfl
theorem after_5 (c : Dev nD) (t : Fin (cfgA a).N) : (dats a m 0 c).after (5 : Fin 6) t = trajAt a m c t.val t.isLt := rfl

/-- The inputs' buffers hold their blocks when the body runs, fetched at this point or not. -/
theorem before_0 (c : Dev nD) (t : Fin (cfgA a).N) (d) : (dats a m 0 c).before (0 : Fin 6) t d = blockAt a m c (0 : Fin 6) t :=
  ((dats a m 0 c).before_in_eq_fetched (0 : Fin 6) rfl (fun _ => rfl) (fun _ _ _ => rfl) (fun t => by rw [after_0]; unfold Dat.blockOf blockAt; rfl) t d).trans
    (by unfold Dat.fetched Dat.blockOf blockAt; rfl)
theorem before_1 (c : Dev nD) (t : Fin (cfgA a).N) (d) : (dats a m 0 c).before (1 : Fin 6) t d = blockAt a m c (1 : Fin 6) t :=
  ((dats a m 0 c).before_in_eq_fetched (1 : Fin 6) rfl (fun _ => rfl) (fun _ _ _ => rfl) (fun t => by rw [after_1]; unfold Dat.blockOf blockAt; rfl) t d).trans
    (by unfold Dat.fetched Dat.blockOf blockAt; rfl)
theorem before_2 (c : Dev nD) (t : Fin (cfgA a).N) (d) : (dats a m 0 c).before (2 : Fin 6) t d = blockAt a m c (2 : Fin 6) t :=
  ((dats a m 0 c).before_in_eq_fetched (2 : Fin 6) rfl (fun _ => rfl) (fun _ _ _ => rfl) (fun t => by rw [after_2]; unfold Dat.blockOf blockAt; rfl) t d).trans
    (by unfold Dat.fetched Dat.blockOf blockAt; rfl)
theorem before_3 (c : Dev nD) (t : Fin (cfgA a).N) (d) : (dats a m 0 c).before (3 : Fin 6) t d = blockAt a m c (3 : Fin 6) t :=
  ((dats a m 0 c).before_in_eq_fetched (3 : Fin 6) rfl (fun _ => rfl) (fun _ _ _ => rfl) (fun t => by rw [after_3]; unfold Dat.blockOf blockAt; rfl) t d).trans
    (by unfold Dat.fetched Dat.blockOf blockAt; rfl)
theorem before_4 (c : Dev nD) (t : Fin (cfgA a).N) (d) : (dats a m 0 c).before (4 : Fin 6) t d = blockAt a m c (4 : Fin 6) t :=
  ((dats a m 0 c).before_in_eq_fetched (4 : Fin 6) rfl (fun _ => rfl) (fun _ _ _ => rfl) (fun t => by rw [after_4]; unfold Dat.blockOf blockAt; rfl) t d).trans
    (by unfold Dat.fetched Dat.blockOf blockAt; rfl)

/-- The output's contents carry through the points that leave it idle. -/
theorem carry_5 (c : Dev nD) (t : Fin (cfgA a).N) (ht : t.val ≠ 0)
    (hi : (cfgA a).idle (5 : Fin 6) ((cfgA a).grid.coords t) = true) :
    (dats a m 0 c).after (5 : Fin 6) t = (dats a m 0 c).after (5 : Fin 6) ⟨t.val - 1, by omega⟩ := by
  rw [after_5, after_5, trajAt_eq, stepAt_idle a m c t hi]
  unfold prevAt; rw [dif_neg ht]

/-- The output's buffer before point `t`: anything at a tile's first point, the trajectory's elsewhere. -/
theorem before_5 (c : Dev nD) (t : Fin (cfgA a).N) (d) :
    (dats a m 0 c).before (5 : Fin 6) t d = if t.val % 11 = 0 then d else prevAt a m c t := by
  rw [(dats a m 0 c).before_out_traj (5 : Fin 6) rfl (fun _ _ => rfl) (fun t ht hi _ => carry_5 a m c t ht hi) t.val t rfl d, fresh_eq]
  by_cases h0 : t.val % 11 = 0
  · simp only [h0, decide_true, if_true]
  · have hn : t.val ≠ 0 := fun h => h0 (by rw [h])
    simp only [h0, decide_false, Bool.false_eq_true, if_false, after_5]; unfold prevAt; rw [dif_neg hn]

/-- What the body leaves at `t` is the trajectory, whatever the buffer held at a tile's first point. -/
theorem stepAt_before (c : Dev nD) (t : Fin (cfgA a).N) (d) :
    stepAt a m c t ((dats a m 0 c).before (5 : Fin 6) t d) = trajAt a m c t.val t.isLt := by
  rw [trajAt_eq, before_5]
  by_cases h0 : t.val % 11 = 0
  · exact stepAt_first a m c t h0 _ _
  · rw [if_neg h0]

/-! ## The body obligation -/

/-- The two tables, one by one. -/
theorem tables_eq (c : Dev nD) :
    (Pipeline.ΦT (U := UR sig nD τ) pre0 a.1 c : sProp 𝕄)
      = iprop((expertTab.view.loc (c : Thread nD τ) ↦{fullShare.right} a.1 (0 : Fin 2)) ∗ (validTab.view.loc (c : Thread nD τ) ↦{fullShare.right} a.1 (1 : Fin 2))) := by
  unfold Pipeline.ΦT Pipeline.prefHeld
  rw [show (Finset.univ : Finset (Fin 2)) = insert (0 : Fin 2) {(1 : Fin 2)} from by decide,
    bigSep_insert (by decide), bigSep_singleton]
  rfl

abbrev st0 (t : Fin (cfgA a).N) : Memref sig .tc .vmem S512x2048 .bf16 := spec0_0.stage ((cfgA a).slots t (0 : Fin 6))
abbrev st1 (t : Fin (cfgA a).N) : Memref sig .tc .vmem S512x1 .f32 := spec0_1.stage ((cfgA a).slots t (1 : Fin 6))
abbrev st2 (t : Fin (cfgA a).N) : Memref sig .tc .vmem S1x2048x512 .f32 := spec0_2.stage ((cfgA a).slots t (2 : Fin 6))
abbrev st3 (t : Fin (cfgA a).N) : Memref sig .tc .vmem S1x2048x512 .f32 := spec0_3.stage ((cfgA a).slots t (3 : Fin 6))
abbrev st4 (t : Fin (cfgA a).N) : Memref sig .tc .vmem S1x512x2048 .f32 := spec0_4.stage ((cfgA a).slots t (4 : Fin 6))
abbrev st5 (t : Fin (cfgA a).N) : Memref sig .tc .vmem S512x2048 .f32 := spec0_5.stage ((cfgA a).slots t (5 : Fin 6))

theorem wh0 (t : Fin (cfgA a).N) : (st0 a t).IsWhole := hstage0_0 (((cfgA a).slots t (0 : Fin 6)).cast nbuf0_0)
theorem wh1 (t : Fin (cfgA a).N) : (st1 a t).IsWhole := hstage0_1 (((cfgA a).slots t (1 : Fin 6)).cast nbuf0_1)
theorem wh2 (t : Fin (cfgA a).N) : (st2 a t).IsWhole := hstage0_2 (((cfgA a).slots t (2 : Fin 6)).cast nbuf0_2)
theorem wh3 (t : Fin (cfgA a).N) : (st3 a t).IsWhole := hstage0_3 (((cfgA a).slots t (3 : Fin 6)).cast nbuf0_3)
theorem wh4 (t : Fin (cfgA a).N) : (st4 a t).IsWhole := hstage0_4 (((cfgA a).slots t (4 : Fin 6)).cast nbuf0_4)
theorem wh5 (t : Fin (cfgA a).N) : (st5 a t).IsWhole := hstage0_5 (((cfgA a).slots t (5 : Fin 6)).cast nbuf0_5)

/-- The body at point `t` on its staging buffers. -/
abbrev bodyAt (t : Fin (cfgA a).N) : Prog (TpuEff nD τ sig (Elt F) Λ₀ .tc) PUnit :=
  cc0_moe_grouped_ffn (crd a t) expertTab (Memref.isWhole_whole _) validTab (Memref.isWhole_whole _) (st0 a t) (wh0 a t) (st1 a t) (wh1 a t)
    (st2 a t) (wh2 a t) (st3 a t) (wh3 a t) (st4 a t) (wh4 a t) (st5 a t) (wh5 a t)

set_option maxHeartbeats 4000000 in
/-- The body, from the invariant and the windows' buffers, leaves what the proof data say. -/
theorem body_sound (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 6) t d))
        ∗ (∃ d, owns (c : Thread nD τ) (st1 a t) fullShare ((dats a m 0 c).before (1 : Fin 6) t d))
        ∗ (∃ d, owns (c : Thread nD τ) (st2 a t) fullShare ((dats a m 0 c).before (2 : Fin 6) t d))
        ∗ (∃ d, owns (c : Thread nD τ) (st3 a t) fullShare ((dats a m 0 c).before (3 : Fin 6) t d))
        ∗ (∃ d, owns (c : Thread nD τ) (st4 a t) fullShare ((dats a m 0 c).before (4 : Fin 6) t d))
        ∗ (∃ d, owns (c : Thread nD τ) (st5 a t) fullShare ((dats a m 0 c).before (5 : Fin 6) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [show (dats a m 0 c).Φ t.succ = invA a c from rfl, show (dats a m 0 c).Φ t.castSucc = invA a c from rfl,
    show (dats a m 0 c).owesAt () t.succ = (dats a m 0 c).owesAt () t.castSucc from rfl]
  unfold invA
  rw [tables_eq]
  simp only [before_0, before_1, before_2, before_3, before_4, after_0, after_1, after_2, after_3, after_4, after_5]
  iintro ⟨⟨HA, HT0, HT1⟩, Ho, ⟨%d0, H0⟩, ⟨%d1, H1⟩, ⟨%d2, H2⟩, ⟨%d3, H3⟩, ⟨%d4, H4⟩, ⟨%d5, H5⟩⟩
  iapply (body_run c (crd a t) (st0 a t) (wh0 a t) (st1 a t) (wh1 a t) (st2 a t) (wh2 a t) (st3 a t) (wh3 a t) (st4 a t) (wh4 a t) (st5 a t) (wh5 a t)
    (a.1 (0 : Fin 2)) (a.1 (1 : Fin 2)) (blockAt a m c (0 : Fin 6) t) (blockAt a m c (1 : Fin 6) t) (blockAt a m c (2 : Fin 6) t)
    (blockAt a m c (3 : Fin 6) t) (blockAt a m c (4 : Fin 6) t) ((dats a m 0 c).before (5 : Fin 6) t d5) _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexact H5
  rw [show left (crd a t) (validWord (crd a t) (a.1 (1 : Fin 2))) (blockAt a m c (0 : Fin 6) t) (blockAt a m c (1 : Fin 6) t) (blockAt a m c (2 : Fin 6) t)
    (blockAt a m c (3 : Fin 6) t) (blockAt a m c (4 : Fin 6) t) ((dats a m 0 c).before (5 : Fin 6) t d5)
      = stepAt a m c t ((dats a m 0 c).before (5 : Fin 6) t d5) from rfl]
  iintro ⟨H0, H1, H2, H3, H4, HT0, HT1, H5⟩
  isplitl [HA HT0 HT1]
  · isplitl [HA]
    · iexact HA
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  by_cases hi : (cfgA a).idle (5 : Fin 6) ((cfgA a).grid.coords t) = true
  · have hf : ((cfgA a).win (5 : Fin 6)).flush t = false := by
      rw [flush_eq]; exact decide_eq_false fun h => ((idle_iff a t).1 hi).2.2 ((last_iff t).2 h)
    rw [stepAt_idle a m c t hi]
    rewrite [show idle0 a.1 5 ((pcfg0.gridAt a.1).coords t) = true from hi]
    simp only [hf]
    iexists d5; iexact H5
  · rw [Bool.not_eq_true] at hi
    rw [stepAt_before]
    rewrite [show idle0 a.1 5 ((pcfg0.gridAt a.1).coords t) = false from hi]
    iexact H5

/-- The library's body obligation, at every point. -/
theorem body_obligation (c : Dev nD) : BodyObligation (dats a m 0 c) (defs₀ (F := F)) Variants.none () Set.univ := fun t => by
  rw [bigSep_W0]
  exact body_sound a m c t

end Data

/-! ## The run of the call -/

variable (a : (pcfg0 (F := F)).Adm) (m : (ℓ : Loc nD τ sig) → Buf (Elt F) ℓ) (ρ : Dev nD → PrngReg)

set_option backward.isDefEq.respectTransparency.types false in
set_option maxHeartbeats 4000000 in
/-- From a memory whose tables are `a`: the call runs, its arguments end unchanged, its output array ends at what the
    pipeline writes back, and every semaphore reads zero again. -/
theorem run (hp : ∀ (c : Dev nD) (k : Fin 2), m ((c : Thread nD τ).loc (pre0.ref k)) = a.1 k) :
    θ_run (defs (F := F)) (onTc (τ := τ) (main (F := F))) ⟨m, fun _ => 0, ρ⟩ (fun r => (∀ c : Dev nD,
      r.2.mem ((c.tc : Thread nD τ).loc main_v0) = (dats a m 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frameP_shared pcfgs (fun _ => a) (dats a m) (0 : Fin 1) launch₀0 defs₀ Variants.none m ρ main
    (fun c => (body_obligation a m c).loose) (fun _ _ _ => rfl) (fun _ _ => rfl)
    (fun c b => m ((c.tc : Thread nD τ).loc b))
    (Pipeline.hmainP_region pcfgs (0 : Fin 1) defs₀ Variants.none m main fun _ => rfl)
    (fun _ _ => rfl) hp (fun _ _ => rfl)
    (Q' := fun r => (∀ c : Dev nD,
      r.2.mem ((c.tc : Thread nD τ).loc main_v0) = (dats a m 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
    (fun r h => ⟨fun c => ⟨(h.1 c).1 (5 : Fin 6), ((h.1 c).1 (0 : Fin 6)).trans ((dats a m 0 c).arrAt_in (0 : Fin 6) rfl _),
      ((h.1 c).1 (1 : Fin 6)).trans ((dats a m 0 c).arrAt_in (1 : Fin 6) rfl _),
      (h.1 c).2 main_arg2 (show main_arg2 ∈ Pipeline.restRefs sig spec0 by decide), (h.1 c).2 main_arg3 (show main_arg3 ∈ Pipeline.restRefs sig spec0 by decide),
      ((h.1 c).1 (2 : Fin 6)).trans ((dats a m 0 c).arrAt_in (2 : Fin 6) rfl _),
      ((h.1 c).1 (4 : Fin 6)).trans ((dats a m 0 c).arrAt_in (4 : Fin 6) rfl _)⟩, h.2⟩)

end Cert.KernelIdeal.Moe
-- ==== Proof.MoeTablesIdeal.lean ====
/-
  What the two prefetched tables select: the weight blocks' coordinates at a grid point, in plain numbers, and that
  tables whose expert words are below 8 keep every block inside the weights.
-/
module

public import proofs.«01_k».proof.Proof.MoeFrameIdeal
public import proofs.«01_k».proof.Proof.Gen.Pre_in_range
public import Idealize.ShloMosaic.Lib.ReduceAll
public import Idealize.ShloMosaic.Lib.ValueIdx

@[expose] public section

noncomputable section

namespace Cert.KernelIdeal.Moe

open Cert.KernelIdeal Cert.KernelIdeal.Gen
open Idealize.ShloMosaic Idealize.ShloMosaic.ValueIdx
open Idealize.ShloMosaic.TcCoe Idealize.SL.Sem

variable {F : FTy → Type} [FloatOps F]

/-- A 32-bit word of a small number is that number. -/
theorem ofNat_small (n : ℕ) (h : n < 4294967296) : (BitVec.ofNat 32 n).toNat = n := by
  rw [BitVec.toNat_ofNat]; exact Nat.mod_eq_of_lt h

theorem row_lt (i : grid0.Coords) : (i 0).val < 42 := (i 0).isLt
theorem step_lt (i : grid0.Coords) : (i 1).val < 11 := (i 1).isLt

/-- The table element of a point's tile. -/
abbrev tileIdx (i : grid0.Coords) : S42.Idx := ix1 (⟨(i 0).val, row_lt i⟩ : Fin 42)

/-- The one-element read at a point is the tile's element. -/
theorem point_eq (i : grid0.Coords) :
    (Rect.unit (s := S42) (k0_off1 i) S1.size (k0_off1_inb i)).emb (Shape.Idx.first (numel1_S1.symm ▸ Nat.one_pos)) = tileIdx i := by
  funext x
  refine Fin.ext ?_
  rw [Subsingleton.elim x 0]
  show k0_off1 i 0 + 1 * 0 = (i 0).val
  have h := row_lt i
  show (BitVec.ofNat 32 (i 0).val).toNat + 1 * 0 = (i 0).val
  rw [ofNat_small _ (by omega)]
  omega

/-- The expert word and the validity word of a point's tile. -/
def expertWord (pf : pre0.Contents (Elt F)) (i : grid0.Coords) : BitVec 32 := pf (0 : Fin 2) (tileIdx i)
def validOf (pf : pre0.Contents (Elt F)) (i : grid0.Coords) : BitVec 32 := pf (1 : Fin 2) (tileIdx i)

/-- The feed-forward step a point's weight blocks are of: its own on a valid tile, the last one otherwise. -/
def frozen (pf : pre0.Contents (Elt F)) (i : grid0.Coords) : ℕ :=
  if validOf pf i = 1#32 then (i 1).val else 10

theorem frozen_lt (pf : pre0.Contents (Elt F)) (i : grid0.Coords) : frozen pf i < 11 := by
  have h := step_lt i
  unfold frozen; split <;> omega

/-- The expert of a point's tile. -/
def expertOf (pf : pre0.Contents (Elt F)) (i : grid0.Coords) : ℕ := (expertWord pf i).toNat

theorem frozen_word (v : BitVec 32) (n : ℕ) (h : n < 11) :
    (Scalar.select (Scalar.cmpi .eq v 1#32) (BitVec.ofNat 32 n) 10#32).toNat = if v = 1#32 then n else 10 := by
  by_cases hv : v = 1#32
  · subst hv
    rw [if_pos rfl]
    exact ofNat_small n (by omega)
  · rw [if_neg hv]
    have : Scalar.cmpi .eq v 1#32 = 0#1 := by
      show BitVec.ofBool (v == 1#32) = 0#1
      rw [beq_eq_false_iff_ne.2 hv]; rfl
    rw [this]; rfl

theorem shifted_word (w : BitVec 32) (n : ℕ) (h : w.toNat = n) (hn : n < 11) : (Scalar.addi 11#32 w).toNat = 11 + n := by
  show (11#32 + w).toNat = _
  rw [BitVec.toNat_add, h]
  show (11 + n) % 4294967296 = _
  omega

theorem gate_index (pf : pre0.Contents (Elt F)) (i : grid0.Coords) :
    cc0_transform_2 k0_off1_inb numel1_S1 pf i = ![expertOf pf i, 0, frozen pf i] := by
  have hx := point_eq i
  have hf := frozen_word (validOf pf i) (i 1).val (step_lt i)
  unfold expertOf frozen
  rw [← hf]
  unfold expertWord validOf
  exact congrArg (fun x : S42.Idx => (![BitVec.toNat (pf (0 : Fin 2) x), 0, BitVec.toNat (Scalar.select (Scalar.cmpi .eq (pf (1 : Fin 2) x : BitVec 32) 1#32) (BitVec.ofNat 32 (i 1).val) 10#32 : BitVec 32)] : Fin 3 → ℕ)) hx

theorem up_index (pf : pre0.Contents (Elt F)) (i : grid0.Coords) :
    cc0_transform_3 k0_off1_inb numel1_S1 pf i = ![expertOf pf i, 0, 11 + frozen pf i] := by
  have hx := point_eq i
  have hf := frozen_word (validOf pf i) (i 1).val (step_lt i)
  rw [show 11 + frozen pf i = _ from (shifted_word _ _ hf (frozen_lt pf i)).symm]
  unfold expertOf expertWord validOf
  exact congrArg (fun x : S42.Idx => (![BitVec.toNat (pf (0 : Fin 2) x), 0, BitVec.toNat (Scalar.addi 11#32 (Scalar.select (Scalar.cmpi .eq (pf (1 : Fin 2) x : BitVec 32) 1#32) (BitVec.ofNat 32 (i 1).val) 10#32 : BitVec 32))] : Fin 3 → ℕ)) hx

theorem down_index (pf : pre0.Contents (Elt F)) (i : grid0.Coords) :
    cc0_transform_4 k0_off1_inb numel1_S1 pf i = ![expertOf pf i, frozen pf i, 0] := by
  have hx := point_eq i
  have hf := frozen_word (validOf pf i) (i 1).val (step_lt i)
  unfold expertOf frozen
  rw [← hf]
  unfold expertWord validOf
  exact congrArg (fun x : S42.Idx => (![BitVec.toNat (pf (0 : Fin 2) x), BitVec.toNat (Scalar.select (Scalar.cmpi .eq (pf (1 : Fin 2) x : BitVec 32) 1#32) (BitVec.ofNat 32 (i 1).val) 10#32 : BitVec 32), 0] : Fin 3 → ℕ)) hx

/-- Expert words below 8 keep every weight block inside its array. -/
theorem ok_of_lt (pf : pre0.Contents (Elt F)) (h : ∀ i : S42.Idx, (pf (0 : Fin 2) i : BitVec 32).toNat < 8) : ok0 pf := by
  refine ⟨fun i => ⟨fun x => ?_, .inl rfl⟩, fun i => ⟨fun x => ?_, .inl rfl⟩, fun i => ⟨fun x => ?_, .inl rfl⟩⟩
  all_goals have hb := frozen_lt pf i
  all_goals have he : expertOf pf i < 8 := h _
  · rw [gate_index]
    match x with
    | ⟨0, _⟩ => show (expertOf pf i + 1) * 1 ≤ 8; omega
    | ⟨1, _⟩ => show (0 + 1) * 2048 ≤ 2048; omega
    | ⟨2, _⟩ => show (frozen pf i + 1) * 512 ≤ 11264; omega
  · rw [up_index]
    match x with
    | ⟨0, _⟩ => show (expertOf pf i + 1) * 1 ≤ 8; omega
    | ⟨1, _⟩ => show (0 + 1) * 2048 ≤ 2048; omega
    | ⟨2, _⟩ => show (11 + frozen pf i + 1) * 512 ≤ 11264; omega
  · rw [down_index]
    match x with
    | ⟨0, _⟩ => show (expertOf pf i + 1) * 1 ≤ 8; omega
    | ⟨1, _⟩ => show (frozen pf i + 1) * 512 ≤ 5632; omega
    | ⟨2, _⟩ => show (0 + 1) * 2048 ≤ 2048; omega

/-- The precondition bounds every expert word. -/
theorem words_lt (x0 : FVec F Pre_in_range.S21504x2048 .bf16) (x1 : FVec F Pre_in_range.S21504x1 .f32) (x2 x3 : IVec Pre_in_range.S42 32)
    (x4 : FVec F Pre_in_range.S8x2048x11264 .f32) (x5 : FVec F Pre_in_range.S8x5632x2048 .f32)
    (h : Pre_in_range.fn (F := F) x0 x1 x2 x3 x4 x5 = fun _ => 1#1) (i : Pre_in_range.S42.Idx) : (x2 i).toNat < 8 := by
  haveI : Subsingleton Pre_in_range.S_.Idx := ⟨fun a b => funext fun x => x.elim0⟩
  have h1 := Host.reduce_andi_all _ _ _ _ ValueIdx.ix0 (congrFun h ValueIdx.ix0) i
  obtain ⟨ha, hb⟩ := IntOp.andi_eq_one.1 h1
  have hge : IntOp.cmpi .sge (x2 i) 0#32 = 1#1 := ha
  have hlt : IntOp.cmpi .slt (x2 i) 8#32 = 1#1 := hb
  generalize x2 i = v at hge hlt
  have h0 : (0 : Int) ≤ v.toInt := by
    by_contra hn
    have : IntOp.cmpi .sge v 0#32 = 0#1 := by unfold IntOp.cmpi; simp [BitVec.sle, BitVec.slt, hn]
    rw [this] at hge; exact absurd hge (by decide)
  have h8 : v.toInt < 8 := by
    by_contra hn
    have : IntOp.cmpi .slt v 8#32 = 0#1 := by unfold IntOp.cmpi; simp [BitVec.sle, BitVec.slt, hn]
    rw [this] at hlt; exact absurd hlt (by decide)
  rw [BitVec.toInt_eq_toNat_cond] at *
  split at * <;> omega

variable (m : (ℓ : Loc nD τ sig) → Buf (Elt F) ℓ)

/-- The two tables, as the call finds them (on the one device). -/
def tables : pre0.Contents (Elt F) := fun k => m (((0 : Dev nD) : Thread nD τ).loc (pre0.ref k))

/-- Those tables, with the proof that every block they name is inside its array. -/
def adm (h : ∀ i : S42.Idx, (m (((0 : Dev nD) : Thread nD τ).loc main_arg2) i : BitVec 32).toNat < 8) : (pcfg0 (F := F)).Adm :=
  ⟨tables m, ok_of_lt (tables m) h⟩

theorem tables_agree (c : Dev nD) (k : Fin 2) : m ((c : Thread nD τ).loc (pre0.ref k)) = tables m k := by
  rw [Subsingleton.elim c 0]; rfl

end Cert.KernelIdeal.Moe

end
-- ==== Proof.MoeMath.lean ====
/-
  The experts' feed-forward as sums over the extended reals, free of any program: one row of the tokens through one
  expert, and the sum over the inner coordinate split into eleven blocks of 512.
-/
module

public import Idealize.ShloMosaic.PureOps.Ideal.Laws
public import Idealize.ShloMosaic.Lib.ValueIdx
public import Mathlib.Algebra.BigOperators.Fin

@[expose] public section

noncomputable section

namespace Cert.MoeMath

open Idealize.ShloMosaic Idealize.ShloMosaic.ValueIdx
open scoped BigOperators

abbrev Rows := (⟨2, ![21504, 2048]⟩ : Shape).Idx → EReal
abbrev Gates := (⟨2, ![21504, 1]⟩ : Shape).Idx → EReal
abbrev Ups := (⟨3, ![8, 2048, 11264]⟩ : Shape).Idx → EReal
abbrev Downs := (⟨3, ![8, 5632, 2048]⟩ : Shape).Idx → EReal

/-- Row `R` against column `n` of expert `e`'s joined gate and up weights. -/
def gu (H : Rows) (U : Ups) (e : Fin 8) (R : Fin 21504) (n : Fin 11264) : EReal := ∑ k : Fin 2048, H (ix2 R k) * U (ix3 e k n)

/-- The activation `g · σ(g) · u` at inner coordinate `k`. -/
def act (H : Rows) (U : Ups) (e : Fin 8) (R : Fin 21504) (k : Fin 5632) : EReal :=
  gu H U e R ⟨k.val, by omega⟩ * Ideal.logistic (gu H U e R ⟨k.val, by omega⟩) * gu H U e R ⟨5632 + k.val, by omega⟩

/-- One term of the down projection, zero past the last inner coordinate. -/
def term (H : Rows) (U : Ups) (D : Downs) (e : Fin 8) (R : Fin 21504) (d : Fin 2048) (k : ℕ) : EReal :=
  if h : k < 5632 then act H U e R ⟨k, h⟩ * D (ix3 e ⟨k, h⟩ d) else 0

/-- Expert `e`'s output for row `R` at column `d`. -/
def expertOut (H : Rows) (U : Ups) (D : Downs) (e : Fin 8) (R : Fin 21504) (d : Fin 2048) : EReal :=
  ∑ k : Fin 5632, act H U e R k * D (ix3 e k d)

/-- Block `b`'s part of it. -/
def part (H : Rows) (U : Ups) (D : Downs) (e : Fin 8) (R : Fin 21504) (d : Fin 2048) (b : ℕ) : EReal :=
  ∑ k : Fin 512, term H U D e R d (512 * b + k.val)

/-- A sum over `512 n` terms, by blocks of 512. -/
theorem sum_blocks (f : ℕ → EReal) : ∀ n : ℕ, ∑ b ∈ Finset.range n, ∑ k : Fin 512, f (512 * b + k.val) = ∑ k ∈ Finset.range (512 * n), f k
  | 0 => by simp
  | n + 1 => by
    rw [Finset.sum_range_succ, sum_blocks f n, Nat.mul_add, Nat.mul_one, Finset.sum_range_add]
    exact congrArg _ (Fin.sum_univ_eq_sum_range (fun k => f (512 * n + k)) 512)

/-- The eleven blocks make the whole expert. -/
theorem parts_eq (H : Rows) (U : Ups) (D : Downs) (e : Fin 8) (R : Fin 21504) (d : Fin 2048) :
    ∑ b ∈ Finset.range 11, part H U D e R d b = expertOut H U D e R d := by
  unfold part expertOut
  rw [sum_blocks (term H U D e R d) 11, ← Fin.sum_univ_eq_sum_range (term H U D e R d) (512 * 11)]
  refine Finset.sum_congr rfl fun k _ => ?_
  unfold term
  rw [dif_pos (show k.val < 5632 from k.isLt)]

/-- What the layer returns at row `R`, column `d`: the tile's expert weighted by the row's gate on a valid tile. -/
def routed (H : Rows) (G : Gates) (te tv : (⟨1, ![42]⟩ : Shape).Idx → BitVec 32) (U : Ups) (D : Downs) (R : Fin 21504) (d : Fin 2048) : EReal :=
  ∑ e : Fin 8, (if te (ix1 (⟨R.val / 512, by omega⟩ : Fin 42)) = BitVec.ofNat 32 e.val ∧ tv (ix1 (⟨R.val / 512, by omega⟩ : Fin 42)) = 1#32
    then G (ix2 R (0 : Fin 1)) else 0) * expertOut H U D e R d

/-- On a valid tile only its expert's term is left. -/
theorem routed_valid (H : Rows) (G : Gates) (te tv : (⟨1, ![42]⟩ : Shape).Idx → BitVec 32) (U : Ups) (D : Downs) (R : Fin 21504) (d : Fin 2048)
    (e : Fin 8) (he : te (ix1 (⟨R.val / 512, by omega⟩ : Fin 42)) = BitVec.ofNat 32 e.val)
    (hv : tv (ix1 (⟨R.val / 512, by omega⟩ : Fin 42)) = 1#32) :
    routed H G te tv U D R d = G (ix2 R (0 : Fin 1)) * expertOut H U D e R d := by
  unfold routed
  rw [Finset.sum_eq_single e]
  · rw [if_pos ⟨he, hv⟩]
  · intro b _ hb
    rw [if_neg, zero_mul]
    rintro ⟨h, -⟩
    rw [he] at h
    have := congrArg BitVec.toNat h
    simp only [BitVec.toNat_ofNat] at this
    have hb' := b.isLt; have he' := e.isLt
    exact hb (Fin.ext (by omega))
  · intro h; exact absurd (Finset.mem_univ e) h

/-- On any other tile nothing is. -/
theorem routed_invalid (H : Rows) (G : Gates) (te tv : (⟨1, ![42]⟩ : Shape).Idx → BitVec 32) (U : Ups) (D : Downs) (R : Fin 21504) (d : Fin 2048)
    (hv : ¬ tv (ix1 (⟨R.val / 512, by omega⟩ : Fin 42)) = 1#32) : routed H G te tv U D R d = 0 := by
  unfold routed
  refine Finset.sum_eq_zero fun e _ => ?_
  rw [if_neg (fun h => hv h.2), zero_mul]

end Cert.MoeMath

end
-- ==== Proof.MoeValue.lean ====
/-
  What the grouped expert call writes, over the extended reals: the body's products at an element, the accumulator as
  the sum of the blocks taken so far, and the result array.
-/
module

public import proofs.«01_k».proof.Proof.MoeTablesIdeal
public import proofs.«01_k».proof.Proof.MoeMath
public import Idealize.ShloMosaic.Lib.MatmulPlain
public import Idealize.ShloMosaic.Lib.Pipeline.Value

@[expose] public section

noncomputable section

namespace Cert.KernelIdeal.Moe

open Cert.KernelIdeal Cert.KernelIdeal.Gen Cert.MoeMath
open Idealize.ShloMosaic Idealize.ShloMosaic.ValueIdx
open Idealize.ShloMosaic.TcCoe Idealize.SL.Sem
open scoped BigOperators

/-! ## The body's three stored values at an element -/

theorem pay1_apply (y : S512x2048.Idx) : k0_pay1 (F := Ideal) y = (0 : EReal) := Ideal.ofBits_zero_f32

/-- Row `r` of the token block against column `k` of a weight block. -/
def blkDot (x0 : S512x2048.Idx → EReal) (w : S1x2048x512.Idx → EReal) (r : Fin 512) (k : Fin 512) : EReal :=
  ∑ n : Fin 2048, x0 (ix2 r n) * w (ix3 (0 : Fin 1) n k)

theorem cast_w (w : S1x2048x512.Idx → EReal) (n : Fin 2048) (k : Fin 512) :
    shapeCast S2048x512 w shapeCasts_S1x2048x512_S2048x512 (ix2 n k) = w (ix3 (0 : Fin 1) n k) :=
  (shapeCast_dropUnit_apply ![2048, 512] w _ (ix2 n k)).trans
    (congrArg w (funext fun a => match a with | ⟨0, _⟩ => rfl | ⟨1, _⟩ => rfl | ⟨2, _⟩ => rfl))

theorem cast_d (w : S1x512x2048.Idx → EReal) (n : Fin 512) (k : Fin 2048) :
    shapeCast S512x2048 w shapeCasts_S1x512x2048_S512x2048 (ix2 n k) = w (ix3 (0 : Fin 1) n k) :=
  (shapeCast_dropUnit_apply ![512, 2048] w _ (ix2 n k)).trans
    (congrArg w (funext fun a => match a with | ⟨0, _⟩ => rfl | ⟨1, _⟩ => rfl | ⟨2, _⟩ => rfl))

theorem dot_w (x0 : S512x2048.Idx → EReal) (w : S1x2048x512.Idx → EReal) (r k : Fin 512) :
    FloatOps.matmul (F := Ideal) (φ₁ := .bf16) (φ₂ := .bf16) dot_S512x2048_S2048x512_S512x512_1_0_0_1_n_n none x0
      (shapeCast S2048x512 w shapeCasts_S1x2048x512_S2048x512) (constant S512x512 .f32 0x00000000#32) (ix2 r k) = blkDot x0 w r k := by
  refine (Ideal.matmul_plain_apply (M := 512) (K := 2048) (N := 512) none x0 _ _ r k).trans ?_
  rw [show (constant (F := Ideal) S512x512 .f32 0x00000000#32) (ix2 r k) = (0 : EReal) from Ideal.ofBits_zero_f32, zero_add]
  exact Finset.sum_congr rfl fun n _ => congrArg (x0 (ix2 r n) * ·) (cast_w w n k)

/-- The accumulator gains the block's activations against the block's down weights. -/
theorem pay2_apply (x0 : S512x2048.Idx → EReal) (x2 x3 : S1x2048x512.Idx → EReal) (acc : S512x2048.Idx → EReal) (x4 : S1x512x2048.Idx → EReal)
    (r : Fin 512) (d : Fin 2048) :
    k0_pay2 (F := Ideal) x0 x2 x3 acc x4 (ix2 r d) = acc (ix2 r d) + ∑ k : Fin 512,
      (blkDot x0 x2 r k * Ideal.logistic (blkDot x0 x2 r k) * blkDot x0 x3 r k) * x4 (ix3 (0 : Fin 1) k d) := by
  unfold k0_pay2
  simp only [matmul]
  refine congrArg₂ (fun p q : EReal => p + q) (congrFun (shapeCast_self acc _) (ix2 r d)) ?_
  refine (Ideal.matmul_plain_apply (M := 512) (K := 512) (N := 2048) none _ _ _ r d).trans ?_
  rw [show (constant (F := Ideal) S512x2048 .f32 0x00000000#32) (ix2 r d) = (0 : EReal) from Ideal.ofBits_zero_f32, zero_add]
  refine Finset.sum_congr rfl fun k _ => ?_
  refine congrArg₂ (fun p q : EReal => p * q) ?_ (cast_d x4 k d)
  rw [← dot_w, ← dot_w]
  rfl

/-- A tile's last step scales the accumulator by the rows' gates. -/
theorem pay3_apply (acc : S512x2048.Idx → EReal) (g : S512x1.Idx → EReal) (r : Fin 512) (d : Fin 2048) :
    k0_pay3 (F := Ideal) acc g (ix2 r d) = acc (ix2 r d) * g (ix2 r (0 : Fin 1)) := by
  unfold k0_pay3
  refine congrArg₂ (fun p q : EReal => p * q) (congrFun (shapeCast_self acc _) (ix2 r d)) ?_
  exact broadcastTo_apply g _ (ix2 r d) (ix2 r (0 : Fin 1)) fun a => match a with
    | ⟨0, _⟩ => rfl
    | ⟨1, _⟩ => rfl

theorem cond2_iff (v : BitVec 32) : k0_cond2 v = 1#1 ↔ v = 1#32 := by
  have : k0_cond2 v = Scalar.cmpi .ne (Scalar.extui (BitVec.ofBool (v == 1#32)) : BitVec 32) 0#32 := rfl
  rw [this]
  by_cases h : v = 1#32
  · rw [beq_iff_eq.2 h]; exact ⟨fun _ => h, fun _ => by decide⟩
  · rw [beq_eq_false_iff_ne.2 h]; exact ⟨fun h' => absurd h' (by decide), fun h' => absurd h' h⟩

/-! ## The blocks at an element -/

section Blocks

variable (a : (pcfg0 (F := Ideal)).Adm) (m : (ℓ : Loc nD τ sig) → Buf (Elt Ideal) ℓ) (c : Dev nD)

theorem n_val : (cfgA a).N = 462 := N_0

theorem tile_val (t : Fin (cfgA a).N) : (crd a t 0).val = t.val / 11 := by
  have h : t.val < 462 := t.isLt
  refine (Pipeline.Grid.coords_val (G := grid0) t 0 (S := 11) (B := 42) (by decide) rfl).trans ?_
  omega

theorem step_val (t : Fin (cfgA a).N) : (crd a t 1).val = t.val % 11 :=
  (Pipeline.Grid.coords_val (G := grid0) t 1 (S := 1) (B := 11) (by decide) rfl).trans (by rw [Nat.div_one])

theorem word_eq (t : Fin (cfgA a).N) : word a t = validOf a.1 (crd a t) :=
  congrArg (a.1 (1 : Fin 2)) (point_eq (crd a t))

/-- The arrays the call reads. -/
abbrev argH : Rows := m ((c : Thread nD τ).loc main_arg0)
abbrev argG : Gates := m ((c : Thread nD τ).loc main_arg1)
abbrev argU : Ups := m ((c : Thread nD τ).loc main_arg4)
abbrev argD : Downs := m ((c : Thread nD τ).loc main_arg5)

theorem rowBound (t : Fin (cfgA a).N) (r : Fin 512) : 512 * (t.val / 11) + r.val < 21504 := by
  have h : t.val < 462 := t.isLt
  omega

/-- The row of the whole array that row `r` of a point's tile is. -/
abbrev rowOf (t : Fin (cfgA a).N) (r : Fin 512) : Fin 21504 := ⟨512 * (t.val / 11) + r.val, rowBound a t r⟩

theorem rows_read (t : Fin (cfgA a).N) (r : Fin 512) (k : Fin 2048) :
    blockAt a m c (0 : Fin 6) t (ix2 r k) = argH m c (ix2 (rowOf a t r) k) := by
  unfold blockAt
  rw [View.read_apply]
  refine congrArg (argH m c) (funext fun x => Fin.ext ?_)
  have hv := tile_val a t
  have hb := row_lt (crd a t)
  match x with
  | ⟨0, _⟩ =>
    show (BitVec.ofNat 32 (crd a t 0).val).toNat * 512 + 1 * r.val = 512 * (t.val / 11) + r.val
    rw [ofNat_small _ (by omega)]; omega
  | ⟨1, _⟩ => show 0 * 2048 + 1 * k.val = k.val; omega

theorem gates_read (t : Fin (cfgA a).N) (r : Fin 512) :
    blockAt a m c (1 : Fin 6) t (ix2 r (0 : Fin 1)) = argG m c (ix2 (rowOf a t r) (0 : Fin 1)) := by
  unfold blockAt
  rw [View.read_apply]
  refine congrArg (argG m c) (funext fun x => Fin.ext ?_)
  have hv := tile_val a t
  have hb := row_lt (crd a t)
  match x with
  | ⟨0, _⟩ =>
    show (BitVec.ofNat 32 (crd a t 0).val).toNat * 512 + 1 * r.val = 512 * (t.val / 11) + r.val
    rw [ofNat_small _ (by omega)]; omega
  | ⟨1, _⟩ => rfl

theorem stepBound (t : Fin (cfgA a).N) (k : Fin 512) : 512 * (t.val % 11) + k.val < 5632 := by omega

/-- On a valid tile the three weight blocks are the tile's expert's, at the point's own step. -/
theorem gateW_read (t : Fin (cfgA a).N) (e : Fin 8) (he : expertOf a.1 (crd a t) = e.val) (hv : validOf a.1 (crd a t) = 1#32)
    (n : Fin 2048) (k : Fin 512) :
    blockAt a m c (2 : Fin 6) t (ix3 (0 : Fin 1) n k) = argU m c (ix3 e n ⟨512 * (t.val % 11) + k.val, by omega⟩) := by
  have hf : frozen a.1 (crd a t) = t.val % 11 := by unfold frozen; rw [if_pos hv, step_val]
  unfold blockAt
  rw [View.read_apply]
  refine congrArg (argU m c) (funext fun x => Fin.ext ?_)
  have hi := gate_index a.1 (crd a t)
  match x with
  | ⟨0, _⟩ =>
    show cc0_transform_2 k0_off1_inb numel1_S1 a.1 (crd a t) 0 * 1 + 1 * 0 = e.val
    rw [hi]; show expertOf a.1 (crd a t) * 1 + 1 * 0 = e.val; omega
  | ⟨1, _⟩ => show 0 * 2048 + 1 * n.val = n.val; omega
  | ⟨2, _⟩ =>
    show cc0_transform_2 k0_off1_inb numel1_S1 a.1 (crd a t) 2 * 512 + 1 * k.val = 512 * (t.val % 11) + k.val
    rw [hi]; show frozen a.1 (crd a t) * 512 + 1 * k.val = _; omega

theorem upW_read (t : Fin (cfgA a).N) (e : Fin 8) (he : expertOf a.1 (crd a t) = e.val) (hv : validOf a.1 (crd a t) = 1#32)
    (n : Fin 2048) (k : Fin 512) :
    blockAt a m c (3 : Fin 6) t (ix3 (0 : Fin 1) n k) = argU m c (ix3 e n ⟨5632 + (512 * (t.val % 11) + k.val), by omega⟩) := by
  have hf : frozen a.1 (crd a t) = t.val % 11 := by unfold frozen; rw [if_pos hv, step_val]
  unfold blockAt
  rw [View.read_apply]
  refine congrArg (argU m c) (funext fun x => Fin.ext ?_)
  have hi := up_index a.1 (crd a t)
  match x with
  | ⟨0, _⟩ =>
    show cc0_transform_3 k0_off1_inb numel1_S1 a.1 (crd a t) 0 * 1 + 1 * 0 = e.val
    rw [hi]; show expertOf a.1 (crd a t) * 1 + 1 * 0 = e.val; omega
  | ⟨1, _⟩ => show 0 * 2048 + 1 * n.val = n.val; omega
  | ⟨2, _⟩ =>
    show cc0_transform_3 k0_off1_inb numel1_S1 a.1 (crd a t) 2 * 512 + 1 * k.val = 5632 + (512 * (t.val % 11) + k.val)
    rw [hi]; show (11 + frozen a.1 (crd a t)) * 512 + 1 * k.val = _; omega

theorem downW_read (t : Fin (cfgA a).N) (e : Fin 8) (he : expertOf a.1 (crd a t) = e.val) (hv : validOf a.1 (crd a t) = 1#32)
    (k : Fin 512) (d : Fin 2048) :
    blockAt a m c (4 : Fin 6) t (ix3 (0 : Fin 1) k d) = argD m c (ix3 e ⟨512 * (t.val % 11) + k.val, by omega⟩ d) := by
  have hf : frozen a.1 (crd a t) = t.val % 11 := by unfold frozen; rw [if_pos hv, step_val]
  unfold blockAt
  rw [View.read_apply]
  refine congrArg (argD m c) (funext fun x => Fin.ext ?_)
  have hi := down_index a.1 (crd a t)
  match x with
  | ⟨0, _⟩ =>
    show cc0_transform_4 k0_off1_inb numel1_S1 a.1 (crd a t) 0 * 1 + 1 * 0 = e.val
    rw [hi]; show expertOf a.1 (crd a t) * 1 + 1 * 0 = e.val; omega
  | ⟨1, _⟩ =>
    show cc0_transform_4 k0_off1_inb numel1_S1 a.1 (crd a t) 1 * 512 + 1 * k.val = 512 * (t.val % 11) + k.val
    rw [hi]; show frozen a.1 (crd a t) * 512 + 1 * k.val = _; omega
  | ⟨2, _⟩ => show 0 * 2048 + 1 * d.val = d.val; omega

/-! ## One point, then a whole tile -/

/-- A valid tile's step adds its block of the expert's output. -/
theorem added_valid (t : Fin (cfgA a).N) (e : Fin 8) (he : expertOf a.1 (crd a t) = e.val) (hv : validOf a.1 (crd a t) = 1#32)
    (y : S512x2048.Idx → EReal) (r : Fin 512) (d : Fin 2048) :
    added (F := Ideal) (crd a t) (word a t) (blockAt a m c (0 : Fin 6) t) (blockAt a m c (2 : Fin 6) t) (blockAt a m c (3 : Fin 6) t)
      (blockAt a m c (4 : Fin 6) t) y (ix2 r d)
      = cleared (F := Ideal) (crd a t) y (ix2 r d) + part (argH m c) (argU m c) (argD m c) e (rowOf a t r) d (t.val % 11) := by
  unfold added
  rw [if_pos ((cond2_iff _).2 ((word_eq a t).trans hv))]
  refine (pay2_apply _ _ _ _ _ r d).trans ?_
  refine congrArg (cleared (F := Ideal) (crd a t) y (ix2 r d) + ·) (Finset.sum_congr rfl fun k _ => ?_)
  have hg : blkDot (blockAt a m c (0 : Fin 6) t) (blockAt a m c (2 : Fin 6) t) r k
      = gu (argH m c) (argU m c) e (rowOf a t r) ⟨512 * (t.val % 11) + k.val, by omega⟩ :=
    Finset.sum_congr rfl fun n _ => congrArg₂ (fun p q : EReal => p * q) (rows_read a m c t r n) (gateW_read a m c t e he hv n k)
  have hu : blkDot (blockAt a m c (0 : Fin 6) t) (blockAt a m c (3 : Fin 6) t) r k
      = gu (argH m c) (argU m c) e (rowOf a t r) ⟨5632 + (512 * (t.val % 11) + k.val), by omega⟩ :=
    Finset.sum_congr rfl fun n _ => congrArg₂ (fun p q : EReal => p * q) (rows_read a m c t r n) (upW_read a m c t e he hv n k)
  rw [hg, hu]
  refine (congrArg (fun q : EReal => _ * q) (downW_read a m c t e he hv k d)).trans ?_
  unfold term
  rw [dif_pos (stepBound a t k)]
  rfl

/-- Any other tile's step adds nothing. -/
theorem added_invalid (t : Fin (cfgA a).N) (hv : ¬ validOf a.1 (crd a t) = 1#32) (y : S512x2048.Idx → EReal) :
    added (F := Ideal) (crd a t) (word a t) (blockAt a m c (0 : Fin 6) t) (blockAt a m c (2 : Fin 6) t) (blockAt a m c (3 : Fin 6) t)
      (blockAt a m c (4 : Fin 6) t) y = cleared (F := Ideal) (crd a t) y := by
  unfold added
  rw [if_neg (fun h => hv ((word_eq a t).symm.trans ((cond2_iff _).1 h)))]

theorem tile_at (t : Fin (cfgA a).N) (q : Fin 42) (hq : t.val / 11 = q.val) : tileIdx (crd a t) = ix1 q := by
  unfold tileIdx
  exact congrArg ix1 (Fin.ext ((tile_val a t).trans hq))

/-- What the accumulator holds before the products of a point that is not its tile's first: what the point before left. -/
theorem cleared_step (t s : Fin (cfgA a).N) (j : ℕ) (ht : t.val % 11 = j + 1) (hs : s.val + 1 = t.val) :
    cleared (F := Ideal) (crd a t) (prevAt a m c t) = added (F := Ideal) (crd a s) (word a s) (blockAt a m c (0 : Fin 6) s)
      (blockAt a m c (2 : Fin 6) s) (blockAt a m c (3 : Fin 6) s) (blockAt a m c (4 : Fin 6) s) (prevAt a m c s) := by
  have h1 : ¬ k0_cond1 (crd a t) = 1#1 := fun h => by have := (first_iff t).1 h; omega
  have h3 : ¬ k0_cond3 (crd a s) = 1#1 := fun h => by have := (last_iff s).1 h; omega
  unfold cleared
  rw [if_neg h1]
  unfold prevAt
  rw [dif_neg (by omega)]
  obtain ⟨sv, hsv⟩ := s
  have e : t.val - 1 = sv := by dsimp only at hs; omega
  have e2 : trajAt a m c (t.val - 1) (by omega) = trajAt a m c sv hsv := by congr 1
  rw [e2]
  refine (trajAt_eq a m c ⟨sv, hsv⟩).trans ?_
  unfold stepAt left
  rw [if_neg h3]
  rfl

theorem cleared_first (t : Fin (cfgA a).N) (ht : t.val % 11 = 0) (y : S512x2048.Idx → EReal) (i : S512x2048.Idx) :
    cleared (F := Ideal) (crd a t) y i = (0 : EReal) := by
  unfold cleared
  rw [if_pos ((first_iff t).2 ht)]
  exact pay1_apply i

/-- On a valid tile, after step `j`'s products the accumulator is the sum of the blocks `0 … j`. -/
theorem acc_valid (q : Fin 42) (e : Fin 8) (he : (a.1 (0 : Fin 2) (ix1 q) : BitVec 32).toNat = e.val)
    (hv : (a.1 (1 : Fin 2) (ix1 q) : BitVec 32) = 1#32) (r : Fin 512) (d : Fin 2048) :
    ∀ (j : ℕ) (t : Fin (cfgA a).N) (_ : t.val / 11 = q.val) (_ : t.val % 11 = j),
      added (F := Ideal) (crd a t) (word a t) (blockAt a m c (0 : Fin 6) t) (blockAt a m c (2 : Fin 6) t) (blockAt a m c (3 : Fin 6) t)
        (blockAt a m c (4 : Fin 6) t) (prevAt a m c t) (ix2 r d)
      = ∑ b ∈ Finset.range (j + 1), part (argH m c) (argU m c) (argD m c) e ⟨512 * q.val + r.val, by omega⟩ d b
  | 0, t, hq, ht => by
    have hi := tile_at a t q hq
    have hrow : rowOf a t r = ⟨512 * q.val + r.val, by omega⟩ := Fin.ext (by show 512 * (t.val / 11) + r.val = _; rw [hq])
    rw [added_valid a m c t e (by unfold expertOf expertWord; rw [hi]; exact he) (by unfold validOf; rw [hi]; exact hv),
      cleared_first a t ht, zero_add, Finset.sum_range_one, ht, hrow]
  | j + 1, t, hq, ht => by
    have hi := tile_at a t q hq
    have hrow : rowOf a t r = ⟨512 * q.val + r.val, by omega⟩ := Fin.ext (by show 512 * (t.val / 11) + r.val = _; rw [hq])
    rw [added_valid a m c t e (by unfold expertOf expertWord; rw [hi]; exact he) (by unfold validOf; rw [hi]; exact hv),
      cleared_step a m c t ⟨t.val - 1, by have := t.isLt; omega⟩ j ht (by show t.val - 1 + 1 = t.val; omega),
      acc_valid q e he hv r d j _ (by show (t.val - 1) / 11 = _; omega) (by show (t.val - 1) % 11 = _; omega),
      Finset.sum_range_succ _ (j + 1), ht, hrow]

/-- On any other tile it stays zero. -/
theorem acc_invalid (q : Fin 42) (hv : ¬ (a.1 (1 : Fin 2) (ix1 q) : BitVec 32) = 1#32) (i : S512x2048.Idx) :
    ∀ (j : ℕ) (t : Fin (cfgA a).N) (_ : t.val / 11 = q.val) (_ : t.val % 11 = j),
      added (F := Ideal) (crd a t) (word a t) (blockAt a m c (0 : Fin 6) t) (blockAt a m c (2 : Fin 6) t) (blockAt a m c (3 : Fin 6) t)
        (blockAt a m c (4 : Fin 6) t) (prevAt a m c t) i = (0 : EReal)
  | 0, t, hq, ht => by
    rw [added_invalid a m c t (by unfold validOf; rw [tile_at a t q hq]; exact hv), cleared_first a t ht]
  | j + 1, t, hq, ht => by
    rw [added_invalid a m c t (by unfold validOf; rw [tile_at a t q hq]; exact hv),
      cleared_step a m c t ⟨t.val - 1, by have := t.isLt; omega⟩ j ht (by show t.val - 1 + 1 = t.val; omega)]
    exact acc_invalid q hv i j _ (by show (t.val - 1) / 11 = _; omega) (by show (t.val - 1) % 11 = _; omega)

/-- The tables as the reference is given them. -/
abbrev argE : (⟨1, ![42]⟩ : Shape).Idx → BitVec 32 := a.1 (0 : Fin 2)
abbrev argV : (⟨1, ![42]⟩ : Shape).Idx → BitVec 32 := a.1 (1 : Fin 2)

/-- The whole result. -/
def result : S21504x2048.Idx → EReal := fun i =>
  routed (argH m c) (argG m c) (argE a) (argV a) (argU m c) (argD m c) (i 0) (i 1)

/-- What a tile's last point leaves in the output's buffer. -/
theorem traj_last (he : ∀ i : S42.Idx, (a.1 (0 : Fin 2) i : BitVec 32).toNat < 8) (t : Fin (cfgA a).N) (ht : t.val % 11 = 10)
    (r : Fin 512) (d : Fin 2048) :
    trajAt a m c t.val t.isLt (ix2 r d) = result a m c (ix2 (rowOf a t r) d) := by
  have hN : t.val < 462 := t.isLt
  let q : Fin 42 := ⟨t.val / 11, by omega⟩
  have hq : t.val / 11 = q.val := rfl
  have hdiv : (rowOf a t r).val / 512 = q.val := by show (512 * (t.val / 11) + r.val) / 512 = t.val / 11; omega
  have hq' : (⟨(rowOf a t r).val / 512, by omega⟩ : Fin 42) = q := Fin.ext hdiv
  rw [trajAt_eq]
  unfold stepAt left
  rw [if_pos ((last_iff t).2 ht)]
  refine (pay3_apply _ _ r d).trans ?_
  rw [gates_read]
  by_cases hv : (a.1 (1 : Fin 2) (ix1 q) : BitVec 32) = 1#32
  · let e : Fin 8 := ⟨(a.1 (0 : Fin 2) (ix1 q) : BitVec 32).toNat, he _⟩
    rw [acc_valid a m c q e rfl hv r d 10 t hq ht, parts_eq]
    refine ((routed_valid (argH m c) (argG m c) (argE a) (argV a) (argU m c) (argD m c) (rowOf a t r) d e ?_ ?_).trans ?_).symm
    · rw [hq']; exact BitVec.eq_of_toNat_eq (by rw [ofNat_small _ (by have := e.isLt; omega)])
    · rw [hq']; exact hv
    · exact mul_comm _ _
  · rw [acc_invalid a m c q hv (ix2 r d) 10 t hq ht, zero_mul]
    exact (routed_invalid (argH m c) (argG m c) (argE a) (argV a) (argU m c) (argD m c) (rowOf a t r) d (by rw [hq']; exact hv)).symm

theorem out_emb (t : Fin (cfgA a).N) (y : (((cfgA a).win (5 : Fin 6)).xblock ((cfgA a).grid.coords t)).Idx) :
    (((cfgA a).win (5 : Fin 6)).blk t).view.emb y
      = (ix2 (rowOf a t ⟨(y 0).val, (y 0).isLt⟩) (⟨(y 1).val, (y 1).isLt⟩ : Fin 2048) : S21504x2048.Idx) := by
  have hv := tile_val a t
  have hb := row_lt (crd a t)
  refine funext fun x => Fin.ext ?_
  match x with
  | ⟨0, _⟩ =>
    show (BitVec.ofNat 32 (crd a t 0).val).toNat * 512 + 1 * (y 0).val = 512 * (t.val / 11) + (y 0).val
    rw [ofNat_small _ (by omega)]; omega
  | ⟨1, _⟩ => show 0 * 2048 + 1 * (y 1).val = (y 1).val; omega

/-- The result array after the run: every row of every tile is written by its tile's last point. -/
theorem array_eq (he : ∀ i : S42.Idx, (a.1 (0 : Fin 2) i : BitVec 32).toNat < 8) :
    (dats a m 0 c).arrAt (5 : Fin 6) (cfgA a).N = result a m c := by
  refine (dats a m 0 c).arrAt_eq_of_cover (5 : Fin 6) (result a m c) (fun t hf => funext fun y => ?_) fun i => ?_
  · have ht : t.val % 11 = 10 := by rw [flush_eq] at hf; exact of_decide_eq_true hf
    show _ = result a m c ((((cfgA a).win (5 : Fin 6)).blk t).view.emb y)
    rw [out_emb a t y]
    refine Eq.trans ?_ (traj_last a m c he t ht ⟨(y 0).val, (y 0).isLt⟩ ⟨(y 1).val, (y 1).isLt⟩)
    show trajAt a m c t.val t.isLt _ = _
    refine congrArg (trajAt a m c t.val t.isLt) (funext fun x => Fin.ext ?_)
    match x with
    | ⟨0, _⟩ => rfl
    | ⟨1, _⟩ => rfl
  · have h0 : ((i : S21504x2048.Idx) 0).val < 21504 := ((i : S21504x2048.Idx) 0).isLt
    let t : Fin (cfgA a).N := ⟨11 * (((i : S21504x2048.Idx) 0).val / 512) + 10, by show _ < 462; omega⟩
    have ht : t.val = 11 * (((i : S21504x2048.Idx) 0).val / 512) + 10 := rfl
    refine ⟨t, by rw [flush_eq]; exact decide_eq_true (by omega), ?_⟩
    have e := out_emb a t (fun x => match x with
      | ⟨0, _⟩ => ⟨((i : S21504x2048.Idx) 0).val % 512, Nat.mod_lt _ (by decide)⟩
      | ⟨1, _⟩ => ⟨((i : S21504x2048.Idx) 1).val, ((i : S21504x2048.Idx) 1).isLt⟩)
    have : (i : S21504x2048.Idx) = ix2 (rowOf a t ⟨((i : S21504x2048.Idx) 0).val % 512, Nat.mod_lt _ (by decide)⟩) (((i : S21504x2048.Idx) 1)) := by
      refine funext fun x => Fin.ext ?_
      match x with
      | ⟨0, _⟩ => show ((i : S21504x2048.Idx) 0).val = 512 * (t.val / 11) + ((i : S21504x2048.Idx) 0).val % 512; omega
      | ⟨1, _⟩ => rfl
    rw [this]
    exact Finset.mem_map.2 ⟨_, Finset.mem_univ _, e⟩

end Blocks

end Cert.KernelIdeal.Moe

end
-- ==== Proof.MoeRef.lean ====
/-
  The plain reference, read at one element: the loop over the eight experts, each expert's product of the whole token
  array, weighted where the row's tile is that expert's and valid.
-/
module

public import proofs.«01_k».proof.Proof.Gen.ReferenceIdeal.Read
public import proofs.«01_k».proof.Proof.MoeMath
public import Idealize.ShloMosaic.Lib.IdealHost

@[expose] public section

noncomputable section

namespace Cert.ReferenceIdeal.Moe

open Cert.ReferenceIdeal Cert.ReferenceIdeal.Gen Cert.ReferenceIdeal.Read Cert.MoeMath
open Idealize.ShloMosaic Idealize.ShloMosaic.ValueIdx
open scoped BigOperators

abbrev A0 := (⟨S21504x2048, .bf16⟩ : BufTy).Contents (Elt Ideal)
abbrev A1 := (⟨S21504x1, .f32⟩ : BufTy).Contents (Elt Ideal)
abbrev A2 := (⟨S42, .i32⟩ : BufTy).Contents (Elt Ideal)
abbrev A4 := (⟨S8x2048x11264, .f32⟩ : BufTy).Contents (Elt Ideal)
abbrev A5 := (⟨S8x5632x2048, .f32⟩ : BufTy).Contents (Elt Ideal)

/-- The reference's silu times the up half is the activation. -/
theorem silu_eq (g u one one' : EReal) (h : one = 1) (h' : one' = 1) :
    g * Ideal.div one' (one + Ideal.exp (-g)) * u = g * Ideal.logistic g * u := by
  rw [h, h']; rfl

/-- The reference's mask on a gate, decided. -/
theorem mask_eq (t v e : BitVec 32) (g z : EReal) (hz : z = 0) :
    Scalar.select (IntOp.andi (IntOp.cmpi .eq t e) (IntOp.cmpi .eq v 1#32)) g z = if t = e ∧ v = 1#32 then g else 0 := by
  subst hz
  have eq1 : ∀ a b : BitVec 32, IntOp.cmpi .eq a b = if a = b then 1#1 else 0#1 := fun a b => by
    show BitVec.ofBool (a == b) = _
    by_cases h : a = b
    · rw [if_pos h, beq_iff_eq.2 h]; rfl
    · rw [if_neg h, beq_eq_false_iff_ne.2 h]; rfl
  rw [eq1, eq1]
  by_cases h1 : t = e <;> by_cases h2 : v = 1#32 <;> simp [h1, h2, IntOp.andi, Scalar.select]

/-- The row's table element, through the repeat. -/
theorem expert_read (x2 : A2) (R : Fin 21504) :
    val_main_v3 (F := Ideal) x2 (ix2 R (0 : Fin 1)) = x2 (ix1 (⟨R.val / 512, by omega⟩ : Fin 42)) := by
  rw [val_main_v3_apply, val_main_v2_apply, val_main_v1_apply]
  exact congrArg x2 (funext fun a => match a with | ⟨0, _⟩ => rfl)

theorem valid_read (x3 : A2) (R : Fin 21504) :
    val_main_v6 (F := Ideal) x3 (ix2 R (0 : Fin 1)) = x3 (ix1 (⟨R.val / 512, by omega⟩ : Fin 42)) := by
  rw [val_main_v6_apply, val_main_v5_apply, val_main_v4_apply]
  exact congrArg x3 (funext fun a => match a with | ⟨0, _⟩ => rfl)

/-! ## Expert 0 -/

theorem gu_0 (x0 : A0) (x4 : A4) (R : Fin 21504) (n : Fin 11264) : val_main_v16 (F := Ideal) x0 x4 (ix2 R n) = gu x0 x4 0 R n := by
  rw [val_main_v16_apply]
  refine Finset.sum_congr rfl fun k _ => ?_
  rw [val_main_v0_apply, val_main_v15_apply, val_main_v14_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_0 (x0 : A0) (x4 : A4) (R : Fin 21504) (k : Fin 5632) : val_main_v20 (F := Ideal) x0 x4 (ix2 R k) = act x0 x4 0 R k := by
  have hg : val_main_v17 (F := Ideal) x0 x4 (ix2 R k) = gu x0 x4 0 R ⟨k.val, by omega⟩ := by
    rw [val_main_v17_apply, ← gu_0]
    exact congrArg _ (funext fun a => match a with | ⟨0, _⟩ => rfl | ⟨1, _⟩ => rfl)
  have hu : val_main_v19 (F := Ideal) x0 x4 (ix2 R k) = gu x0 x4 0 R ⟨5632 + k.val, by omega⟩ := by
    rw [val_main_v19_apply, ← gu_0]
    exact congrArg _ (funext fun a => match a with | ⟨0, _⟩ => rfl | ⟨1, _⟩ => rfl)
  rw [val_main_v20_apply, val_main_v18_apply, val_main_call1_v5_apply, val_main_call1_v4_apply, val_main_call1_cst_0_apply, val_main_call1_v3_apply, val_main_call1_v2_apply, val_main_call1_cst_apply,
    val_main_call1_v1_apply, val_main_call1_v0_apply, hg, hu]
  exact silu_eq _ _ _ _ Ideal.ofBits_one_f32 Ideal.ofBits_one_f32

theorem out_0 (x0 : A0) (x4 : A4) (x5 : A5) (R : Fin 21504) (d : Fin 2048) :
    val_main_v23 (F := Ideal) x0 x4 x5 (ix2 R d) = expertOut x0 x4 x5 0 R d := by
  rw [val_main_v23_apply]
  refine Finset.sum_congr rfl fun k _ => ?_
  rw [val_main_v22_apply, val_main_v21_apply, ← act_0]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_0 (x1 : A1) (x2 x3 : A2) (R : Fin 21504) (d : Fin 2048) :
    val_main_v24 (F := Ideal) x1 x2 x3 (ix2 R d) = if x2 (ix1 (⟨R.val / 512, by omega⟩ : Fin 42)) = BitVec.ofNat 32 0
      ∧ x3 (ix1 (⟨R.val / 512, by omega⟩ : Fin 42)) = 1#32 then x1 (ix2 R (0 : Fin 1)) else (0 : EReal) := by
  rw [val_main_v24_apply, show idx_main_v24 (ix2 R d) = ix2 R (0 : Fin 1) from funext fun a => match a with | ⟨0, _⟩ => rfl | ⟨1, _⟩ => rfl]
  rw [val_main_v13_apply, val_main_v12_apply, val_main_v11_apply, val_main_v10_apply, val_main_v9_apply, val_main_v8_apply, expert_read, valid_read,
    val_main_call0_v1_apply, val_main_call0_v0_apply, val_main_cst_1_apply, val_main_c_0_apply, val_main_c_apply]
  exact mask_eq _ _ _ _ _ Ideal.ofBits_zero_f32

theorem term_0 (x0 : A0) (x1 : A1) (x2 x3 : A2) (x4 : A4) (x5 : A5) (R : Fin 21504) (d : Fin 2048) :
    val_main_v25 (F := Ideal) x0 x1 x2 x3 x4 x5 (ix2 R d) = (if x2 (ix1 (⟨R.val / 512, by omega⟩ : Fin 42)) = BitVec.ofNat 32 0
      ∧ x3 (ix1 (⟨R.val / 512, by omega⟩ : Fin 42)) = 1#32 then x1 (ix2 R (0 : Fin 1)) else (0 : EReal)) * expertOut x0 x4 x5 0 R d := by
  rw [val_main_v25_apply, gate_0, out_0]; rfl

/-! ## Expert 1 -/

theorem gu_1 (x0 : A0) (x4 : A4) (R : Fin 21504) (n : Fin 11264) : val_main_v35 (F := Ideal) x0 x4 (ix2 R n) = gu x0 x4 1 R n := by
  rw [val_main_v35_apply]
  refine Finset.sum_congr rfl fun k _ => ?_
  rw [val_main_v0_apply, val_main_v34_apply, val_main_v33_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_1 (x0 : A0) (x4 : A4) (R : Fin 21504) (k : Fin 5632) : val_main_v39 (F := Ideal) x0 x4 (ix2 R k) = act x0 x4 1 R k := by
  have hg : val_main_v36 (F := Ideal) x0 x4 (ix2 R k) = gu x0 x4 1 R ⟨k.val, by omega⟩ := by
    rw [val_main_v36_apply, ← gu_1]
    exact congrArg _ (funext fun a => match a with | ⟨0, _⟩ => rfl | ⟨1, _⟩ => rfl)
  have hu : val_main_v38 (F := Ideal) x0 x4 (ix2 R k) = gu x0 x4 1 R ⟨5632 + k.val, by omega⟩ := by
    rw [val_main_v38_apply, ← gu_1]
    exact congrArg _ (funext fun a => match a with | ⟨0, _⟩ => rfl | ⟨1, _⟩ => rfl)
  rw [val_main_v39_apply, val_main_v37_apply, val_main_call3_v5_apply, val_main_call3_v4_apply, val_main_call3_cst_0_apply, val_main_call3_v3_apply, val_main_call3_v2_apply, val_main_call3_cst_apply,
    val_main_call3_v1_apply, val_main_call3_v0_apply, hg, hu]
  exact silu_eq _ _ _ _ Ideal.ofBits_one_f32 Ideal.ofBits_one_f32

theorem out_1 (x0 : A0) (x4 : A4) (x5 : A5) (R : Fin 21504) (d : Fin 2048) :
    val_main_v42 (F := Ideal) x0 x4 x5 (ix2 R d) = expertOut x0 x4 x5 1 R d := by
  rw [val_main_v42_apply]
  refine Finset.sum_congr rfl fun k _ => ?_
  rw [val_main_v41_apply, val_main_v40_apply, ← act_1]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_1 (x1 : A1) (x2 x3 : A2) (R : Fin 21504) (d : Fin 2048) :
    val_main_v43 (F := Ideal) x1 x2 x3 (ix2 R d) = if x2 (ix1 (⟨R.val / 512, by omega⟩ : Fin 42)) = BitVec.ofNat 32 1
      ∧ x3 (ix1 (⟨R.val / 512, by omega⟩ : Fin 42)) = 1#32 then x1 (ix2 R (0 : Fin 1)) else (0 : EReal) := by
  rw [val_main_v43_apply, show idx_main_v43 (ix2 R d) = ix2 R (0 : Fin 1) from funext fun a => match a with | ⟨0, _⟩ => rfl | ⟨1, _⟩ => rfl]
  rw [val_main_v32_apply, val_main_v31_apply, val_main_v30_apply, val_main_v29_apply, val_main_v28_apply, val_main_v27_apply, expert_read, valid_read,
    val_main_call2_v1_apply, val_main_call2_v0_apply, val_main_cst_4_apply, val_main_c_3_apply, val_main_c_2_apply]
  exact mask_eq _ _ _ _ _ Ideal.ofBits_zero_f32

theorem term_1 (x0 : A0) (x1 : A1) (x2 x3 : A2) (x4 : A4) (x5 : A5) (R : Fin 21504) (d : Fin 2048) :
    val_main_v44 (F := Ideal) x0 x1 x2 x3 x4 x5 (ix2 R d) = (if x2 (ix1 (⟨R.val / 512, by omega⟩ : Fin 42)) = BitVec.ofNat 32 1
      ∧ x3 (ix1 (⟨R.val / 512, by omega⟩ : Fin 42)) = 1#32 then x1 (ix2 R (0 : Fin 1)) else (0 : EReal)) * expertOut x0 x4 x5 1 R d := by
  rw [val_main_v44_apply, gate_1, out_1]; rfl

/-! ## Expert 2 -/

theorem gu_2 (x0 : A0) (x4 : A4) (R : Fin 21504) (n : Fin 11264) : val_main_v54 (F := Ideal) x0 x4 (ix2 R n) = gu x0 x4 2 R n := by
  rw [val_main_v54_apply]
  refine Finset.sum_congr rfl fun k _ => ?_
  rw [val_main_v0_apply, val_main_v53_apply, val_main_v52_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_2 (x0 : A0) (x4 : A4) (R : Fin 21504) (k : Fin 5632) : val_main_v58 (F := Ideal) x0 x4 (ix2 R k) = act x0 x4 2 R k := by
  have hg : val_main_v55 (F := Ideal) x0 x4 (ix2 R k) = gu x0 x4 2 R ⟨k.val, by omega⟩ := by
    rw [val_main_v55_apply, ← gu_2]
    exact congrArg _ (funext fun a => match a with | ⟨0, _⟩ => rfl | ⟨1, _⟩ => rfl)
  have hu : val_main_v57 (F := Ideal) x0 x4 (ix2 R k) = gu x0 x4 2 R ⟨5632 + k.val, by omega⟩ := by
    rw [val_main_v57_apply, ← gu_2]
    exact congrArg _ (funext fun a => match a with | ⟨0, _⟩ => rfl | ⟨1, _⟩ => rfl)
  rw [val_main_v58_apply, val_main_v56_apply, val_main_call5_v5_apply, val_main_call5_v4_apply, val_main_call5_cst_0_apply, val_main_call5_v3_apply, val_main_call5_v2_apply, val_main_call5_cst_apply,
    val_main_call5_v1_apply, val_main_call5_v0_apply, hg, hu]
  exact silu_eq _ _ _ _ Ideal.ofBits_one_f32 Ideal.ofBits_one_f32

theorem out_2 (x0 : A0) (x4 : A4) (x5 : A5) (R : Fin 21504) (d : Fin 2048) :
    val_main_v61 (F := Ideal) x0 x4 x5 (ix2 R d) = expertOut x0 x4 x5 2 R d := by
  rw [val_main_v61_apply]
  refine Finset.sum_congr rfl fun k _ => ?_
  rw [val_main_v60_apply, val_main_v59_apply, ← act_2]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_2 (x1 : A1) (x2 x3 : A2) (R : Fin 21504) (d : Fin 2048) :
    val_main_v62 (F := Ideal) x1 x2 x3 (ix2 R d) = if x2 (ix1 (⟨R.val / 512, by omega⟩ : Fin 42)) = BitVec.ofNat 32 2
      ∧ x3 (ix1 (⟨R.val / 512, by omega⟩ : Fin 42)) = 1#32 then x1 (ix2 R (0 : Fin 1)) else (0 : EReal) := by
  rw [val_main_v62_apply, show idx_main_v62 (ix2 R d) = ix2 R (0 : Fin 1) from funext fun a => match a with | ⟨0, _⟩ => rfl | ⟨1, _⟩ => rfl]
  rw [val_main_v51_apply, val_main_v50_apply, val_main_v49_apply, val_main_v48_apply, val_main_v47_apply, val_main_v46_apply, expert_read, valid_read,
    val_main_call4_v1_apply, val_main_call4_v0_apply, val_main_cst_7_apply, val_main_c_6_apply, val_main_c_5_apply]
  exact mask_eq _ _ _ _ _ Ideal.ofBits_zero_f32

theorem term_2 (x0 : A0) (x1 : A1) (x2 x3 : A2) (x4 : A4) (x5 : A5) (R : Fin 21504) (d : Fin 2048) :
    val_main_v63 (F := Ideal) x0 x1 x2 x3 x4 x5 (ix2 R d) = (if x2 (ix1 (⟨R.val / 512, by omega⟩ : Fin 42)) = BitVec.ofNat 32 2
      ∧ x3 (ix1 (⟨R.val / 512, by omega⟩ : Fin 42)) = 1#32 then x1 (ix2 R (0 : Fin 1)) else (0 : EReal)) * expertOut x0 x4 x5 2 R d := by
  rw [val_main_v63_apply, gate_2, out_2]; rfl

/-! ## Expert 3 -/

theorem gu_3 (x0 : A0) (x4 : A4) (R : Fin 21504) (n : Fin 11264) : val_main_v73 (F := Ideal) x0 x4 (ix2 R n) = gu x0 x4 3 R n := by
  rw [val_main_v73_apply]
  refine Finset.sum_congr rfl fun k _ => ?_
  rw [val_main_v0_apply, val_main_v72_apply, val_main_v71_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_3 (x0 : A0) (x4 : A4) (R : Fin 21504) (k : Fin 5632) : val_main_v77 (F := Ideal) x0 x4 (ix2 R k) = act x0 x4 3 R k := by
  have hg : val_main_v74 (F := Ideal) x0 x4 (ix2 R k) = gu x0 x4 3 R ⟨k.val, by omega⟩ := by
    rw [val_main_v74_apply, ← gu_3]
    exact congrArg _ (funext fun a => match a with | ⟨0, _⟩ => rfl | ⟨1, _⟩ => rfl)
  have hu : val_main_v76 (F := Ideal) x0 x4 (ix2 R k) = gu x0 x4 3 R ⟨5632 + k.val, by omega⟩ := by
    rw [val_main_v76_apply, ← gu_3]
    exact congrArg _ (funext fun a => match a with | ⟨0, _⟩ => rfl | ⟨1, _⟩ => rfl)
  rw [val_main_v77_apply, val_main_v75_apply, val_main_call7_v5_apply, val_main_call7_v4_apply, val_main_call7_cst_0_apply, val_main_call7_v3_apply, val_main_call7_v2_apply, val_main_call7_cst_apply,
    val_main_call7_v1_apply, val_main_call7_v0_apply, hg, hu]
  exact silu_eq _ _ _ _ Ideal.ofBits_one_f32 Ideal.ofBits_one_f32

theorem out_3 (x0 : A0) (x4 : A4) (x5 : A5) (R : Fin 21504) (d : Fin 2048) :
    val_main_v80 (F := Ideal) x0 x4 x5 (ix2 R d) = expertOut x0 x4 x5 3 R d := by
  rw [val_main_v80_apply]
  refine Finset.sum_congr rfl fun k _ => ?_
  rw [val_main_v79_apply, val_main_v78_apply, ← act_3]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_3 (x1 : A1) (x2 x3 : A2) (R : Fin 21504) (d : Fin 2048) :
    val_main_v81 (F := Ideal) x1 x2 x3 (ix2 R d) = if x2 (ix1 (⟨R.val / 512, by omega⟩ : Fin 42)) = BitVec.ofNat 32 3
      ∧ x3 (ix1 (⟨R.val / 512, by omega⟩ : Fin 42)) = 1#32 then x1 (ix2 R (0 : Fin 1)) else (0 : EReal) := by
  rw [val_main_v81_apply, show idx_main_v81 (ix2 R d) = ix2 R (0 : Fin 1) from funext fun a => match a with | ⟨0, _⟩ => rfl | ⟨1, _⟩ => rfl]
  rw [val_main_v70_apply, val_main_v69_apply, val_main_v68_apply, val_main_v67_apply, val_main_v66_apply, val_main_v65_apply, expert_read, valid_read,
    val_main_call6_v1_apply, val_main_call6_v0_apply, val_main_cst_10_apply, val_main_c_9_apply, val_main_c_8_apply]
  exact mask_eq _ _ _ _ _ Ideal.ofBits_zero_f32

theorem term_3 (x0 : A0) (x1 : A1) (x2 x3 : A2) (x4 : A4) (x5 : A5) (R : Fin 21504) (d : Fin 2048) :
    val_main_v82 (F := Ideal) x0 x1 x2 x3 x4 x5 (ix2 R d) = (if x2 (ix1 (⟨R.val / 512, by omega⟩ : Fin 42)) = BitVec.ofNat 32 3
      ∧ x3 (ix1 (⟨R.val / 512, by omega⟩ : Fin 42)) = 1#32 then x1 (ix2 R (0 : Fin 1)) else (0 : EReal)) * expertOut x0 x4 x5 3 R d := by
  rw [val_main_v82_apply, gate_3, out_3]; rfl

/-! ## Expert 4 -/

theorem gu_4 (x0 : A0) (x4 : A4) (R : Fin 21504) (n : Fin 11264) : val_main_v92 (F := Ideal) x0 x4 (ix2 R n) = gu x0 x4 4 R n := by
  rw [val_main_v92_apply]
  refine Finset.sum_congr rfl fun k _ => ?_
  rw [val_main_v0_apply, val_main_v91_apply, val_main_v90_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_4 (x0 : A0) (x4 : A4) (R : Fin 21504) (k : Fin 5632) : val_main_v96 (F := Ideal) x0 x4 (ix2 R k) = act x0 x4 4 R k := by
  have hg : val_main_v93 (F := Ideal) x0 x4 (ix2 R k) = gu x0 x4 4 R ⟨k.val, by omega⟩ := by
    rw [val_main_v93_apply, ← gu_4]
    exact congrArg _ (funext fun a => match a with | ⟨0, _⟩ => rfl | ⟨1, _⟩ => rfl)
  have hu : val_main_v95 (F := Ideal) x0 x4 (ix2 R k) = gu x0 x4 4 R ⟨5632 + k.val, by omega⟩ := by
    rw [val_main_v95_apply, ← gu_4]
    exact congrArg _ (funext fun a => match a with | ⟨0, _⟩ => rfl | ⟨1, _⟩ => rfl)
  rw [val_main_v96_apply, val_main_v94_apply, val_main_call9_v5_apply, val_main_call9_v4_apply, val_main_call9_cst_0_apply, val_main_call9_v3_apply, val_main_call9_v2_apply, val_main_call9_cst_apply,
    val_main_call9_v1_apply, val_main_call9_v0_apply, hg, hu]
  exact silu_eq _ _ _ _ Ideal.ofBits_one_f32 Ideal.ofBits_one_f32

theorem out_4 (x0 : A0) (x4 : A4) (x5 : A5) (R : Fin 21504) (d : Fin 2048) :
    val_main_v99 (F := Ideal) x0 x4 x5 (ix2 R d) = expertOut x0 x4 x5 4 R d := by
  rw [val_main_v99_apply]
  refine Finset.sum_congr rfl fun k _ => ?_
  rw [val_main_v98_apply, val_main_v97_apply, ← act_4]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_4 (x1 : A1) (x2 x3 : A2) (R : Fin 21504) (d : Fin 2048) :
    val_main_v100 (F := Ideal) x1 x2 x3 (ix2 R d) = if x2 (ix1 (⟨R.val / 512, by omega⟩ : Fin 42)) = BitVec.ofNat 32 4
      ∧ x3 (ix1 (⟨R.val / 512, by omega⟩ : Fin 42)) = 1#32 then x1 (ix2 R (0 : Fin 1)) else (0 : EReal) := by
  rw [val_main_v100_apply, show idx_main_v100 (ix2 R d) = ix2 R (0 : Fin 1) from funext fun a => match a with | ⟨0, _⟩ => rfl | ⟨1, _⟩ => rfl]
  rw [val_main_v89_apply, val_main_v88_apply, val_main_v87_apply, val_main_v86_apply, val_main_v85_apply, val_main_v84_apply, expert_read, valid_read,
    val_main_call8_v1_apply, val_main_call8_v0_apply, val_main_cst_13_apply, val_main_c_12_apply, val_main_c_11_apply]
  exact mask_eq _ _ _ _ _ Ideal.ofBits_zero_f32

theorem term_4 (x0 : A0) (x1 : A1) (x2 x3 : A2) (x4 : A4) (x5 : A5) (R : Fin 21504) (d : Fin 2048) :
    val_main_v101 (F := Ideal) x0 x1 x2 x3 x4 x5 (ix2 R d) = (if x2 (ix1 (⟨R.val / 512, by omega⟩ : Fin 42)) = BitVec.ofNat 32 4
      ∧ x3 (ix1 (⟨R.val / 512, by omega⟩ : Fin 42)) = 1#32 then x1 (ix2 R (0 : Fin 1)) else (0 : EReal)) * expertOut x0 x4 x5 4 R d := by
  rw [val_main_v101_apply, gate_4, out_4]; rfl

/-! ## Expert 5 -/

theorem gu_5 (x0 : A0) (x4 : A4) (R : Fin 21504) (n : Fin 11264) : val_main_v111 (F := Ideal) x0 x4 (ix2 R n) = gu x0 x4 5 R n := by
  rw [val_main_v111_apply]
  refine Finset.sum_congr rfl fun k _ => ?_
  rw [val_main_v0_apply, val_main_v110_apply, val_main_v109_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_5 (x0 : A0) (x4 : A4) (R : Fin 21504) (k : Fin 5632) : val_main_v115 (F := Ideal) x0 x4 (ix2 R k) = act x0 x4 5 R k := by
  have hg : val_main_v112 (F := Ideal) x0 x4 (ix2 R k) = gu x0 x4 5 R ⟨k.val, by omega⟩ := by
    rw [val_main_v112_apply, ← gu_5]
    exact congrArg _ (funext fun a => match a with | ⟨0, _⟩ => rfl | ⟨1, _⟩ => rfl)
  have hu : val_main_v114 (F := Ideal) x0 x4 (ix2 R k) = gu x0 x4 5 R ⟨5632 + k.val, by omega⟩ := by
    rw [val_main_v114_apply, ← gu_5]
    exact congrArg _ (funext fun a => match a with | ⟨0, _⟩ => rfl | ⟨1, _⟩ => rfl)
  rw [val_main_v115_apply, val_main_v113_apply, val_main_call11_v5_apply, val_main_call11_v4_apply, val_main_call11_cst_0_apply, val_main_call11_v3_apply, val_main_call11_v2_apply, val_main_call11_cst_apply,
    val_main_call11_v1_apply, val_main_call11_v0_apply, hg, hu]
  exact silu_eq _ _ _ _ Ideal.ofBits_one_f32 Ideal.ofBits_one_f32

theorem out_5 (x0 : A0) (x4 : A4) (x5 : A5) (R : Fin 21504) (d : Fin 2048) :
    val_main_v118 (F := Ideal) x0 x4 x5 (ix2 R d) = expertOut x0 x4 x5 5 R d := by
  rw [val_main_v118_apply]
  refine Finset.sum_congr rfl fun k _ => ?_
  rw [val_main_v117_apply, val_main_v116_apply, ← act_5]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_5 (x1 : A1) (x2 x3 : A2) (R : Fin 21504) (d : Fin 2048) :
    val_main_v119 (F := Ideal) x1 x2 x3 (ix2 R d) = if x2 (ix1 (⟨R.val / 512, by omega⟩ : Fin 42)) = BitVec.ofNat 32 5
      ∧ x3 (ix1 (⟨R.val / 512, by omega⟩ : Fin 42)) = 1#32 then x1 (ix2 R (0 : Fin 1)) else (0 : EReal) := by
  rw [val_main_v119_apply, show idx_main_v119 (ix2 R d) = ix2 R (0 : Fin 1) from funext fun a => match a with | ⟨0, _⟩ => rfl | ⟨1, _⟩ => rfl]
  rw [val_main_v108_apply, val_main_v107_apply, val_main_v106_apply, val_main_v105_apply, val_main_v104_apply, val_main_v103_apply, expert_read, valid_read,
    val_main_call10_v1_apply, val_main_call10_v0_apply, val_main_cst_16_apply, val_main_c_15_apply, val_main_c_14_apply]
  exact mask_eq _ _ _ _ _ Ideal.ofBits_zero_f32

theorem term_5 (x0 : A0) (x1 : A1) (x2 x3 : A2) (x4 : A4) (x5 : A5) (R : Fin 21504) (d : Fin 2048) :
    val_main_v120 (F := Ideal) x0 x1 x2 x3 x4 x5 (ix2 R d) = (if x2 (ix1 (⟨R.val / 512, by omega⟩ : Fin 42)) = BitVec.ofNat 32 5
      ∧ x3 (ix1 (⟨R.val / 512, by omega⟩ : Fin 42)) = 1#32 then x1 (ix2 R (0 : Fin 1)) else (0 : EReal)) * expertOut x0 x4 x5 5 R d := by
  rw [val_main_v120_apply, gate_5, out_5]; rfl

/-! ## Expert 6 -/

theorem gu_6 (x0 : A0) (x4 : A4) (R : Fin 21504) (n : Fin 11264) : val_main_v130 (F := Ideal) x0 x4 (ix2 R n) = gu x0 x4 6 R n := by
  rw [val_main_v130_apply]
  refine Finset.sum_congr rfl fun k _ => ?_
  rw [val_main_v0_apply, val_main_v129_apply, val_main_v128_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_6 (x0 : A0) (x4 : A4) (R : Fin 21504) (k : Fin 5632) : val_main_v134 (F := Ideal) x0 x4 (ix2 R k) = act x0 x4 6 R k := by
  have hg : val_main_v131 (F := Ideal) x0 x4 (ix2 R k) = gu x0 x4 6 R ⟨k.val, by omega⟩ := by
    rw [val_main_v131_apply, ← gu_6]
    exact congrArg _ (funext fun a => match a with | ⟨0, _⟩ => rfl | ⟨1, _⟩ => rfl)
  have hu : val_main_v133 (F := Ideal) x0 x4 (ix2 R k) = gu x0 x4 6 R ⟨5632 + k.val, by omega⟩ := by
    rw [val_main_v133_apply, ← gu_6]
    exact congrArg _ (funext fun a => match a with | ⟨0, _⟩ => rfl | ⟨1, _⟩ => rfl)
  rw [val_main_v134_apply, val_main_v132_apply, val_main_call13_v5_apply, val_main_call13_v4_apply, val_main_call13_cst_0_apply, val_main_call13_v3_apply, val_main_call13_v2_apply, val_main_call13_cst_apply,
    val_main_call13_v1_apply, val_main_call13_v0_apply, hg, hu]
  exact silu_eq _ _ _ _ Ideal.ofBits_one_f32 Ideal.ofBits_one_f32

theorem out_6 (x0 : A0) (x4 : A4) (x5 : A5) (R : Fin 21504) (d : Fin 2048) :
    val_main_v137 (F := Ideal) x0 x4 x5 (ix2 R d) = expertOut x0 x4 x5 6 R d := by
  rw [val_main_v137_apply]
  refine Finset.sum_congr rfl fun k _ => ?_
  rw [val_main_v136_apply, val_main_v135_apply, ← act_6]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_6 (x1 : A1) (x2 x3 : A2) (R : Fin 21504) (d : Fin 2048) :
    val_main_v138 (F := Ideal) x1 x2 x3 (ix2 R d) = if x2 (ix1 (⟨R.val / 512, by omega⟩ : Fin 42)) = BitVec.ofNat 32 6
      ∧ x3 (ix1 (⟨R.val / 512, by omega⟩ : Fin 42)) = 1#32 then x1 (ix2 R (0 : Fin 1)) else (0 : EReal) := by
  rw [val_main_v138_apply, show idx_main_v138 (ix2 R d) = ix2 R (0 : Fin 1) from funext fun a => match a with | ⟨0, _⟩ => rfl | ⟨1, _⟩ => rfl]
  rw [val_main_v127_apply, val_main_v126_apply, val_main_v125_apply, val_main_v124_apply, val_main_v123_apply, val_main_v122_apply, expert_read, valid_read,
    val_main_call12_v1_apply, val_main_call12_v0_apply, val_main_cst_19_apply, val_main_c_18_apply, val_main_c_17_apply]
  exact mask_eq _ _ _ _ _ Ideal.ofBits_zero_f32

theorem term_6 (x0 : A0) (x1 : A1) (x2 x3 : A2) (x4 : A4) (x5 : A5) (R : Fin 21504) (d : Fin 2048) :
    val_main_v139 (F := Ideal) x0 x1 x2 x3 x4 x5 (ix2 R d) = (if x2 (ix1 (⟨R.val / 512, by omega⟩ : Fin 42)) = BitVec.ofNat 32 6
      ∧ x3 (ix1 (⟨R.val / 512, by omega⟩ : Fin 42)) = 1#32 then x1 (ix2 R (0 : Fin 1)) else (0 : EReal)) * expertOut x0 x4 x5 6 R d := by
  rw [val_main_v139_apply, gate_6, out_6]; rfl

/-! ## Expert 7 -/

theorem gu_7 (x0 : A0) (x4 : A4) (R : Fin 21504) (n : Fin 11264) : val_main_v149 (F := Ideal) x0 x4 (ix2 R n) = gu x0 x4 7 R n := by
  rw [val_main_v149_apply]
  refine Finset.sum_congr rfl fun k _ => ?_
  rw [val_main_v0_apply, val_main_v148_apply, val_main_v147_apply]
  refine congrArg₂ (fun p q : EReal => p * q) (congrArg x0 (funext fun a => match a with | ⟨0, _⟩ => rfl | ⟨1, _⟩ => rfl)) ?_
  exact congrArg x4 (funext fun a => Fin.ext (match a with
    | ⟨0, _⟩ => rfl
    | ⟨1, _⟩ => by show (k.val * 11264 + n.val) / 11264 % 2048 = k.val; omega
    | ⟨2, _⟩ => by show (k.val * 11264 + n.val) % 11264 = n.val; omega))

theorem act_7 (x0 : A0) (x4 : A4) (R : Fin 21504) (k : Fin 5632) : val_main_v153 (F := Ideal) x0 x4 (ix2 R k) = act x0 x4 7 R k := by
  have hg : val_main_v150 (F := Ideal) x0 x4 (ix2 R k) = gu x0 x4 7 R ⟨k.val, by omega⟩ := by
    rw [val_main_v150_apply, ← gu_7]
    exact congrArg _ (funext fun a => match a with | ⟨0, _⟩ => rfl | ⟨1, _⟩ => rfl)
  have hu : val_main_v152 (F := Ideal) x0 x4 (ix2 R k) = gu x0 x4 7 R ⟨5632 + k.val, by omega⟩ := by
    rw [val_main_v152_apply, ← gu_7]
    exact congrArg _ (funext fun a => match a with | ⟨0, _⟩ => rfl | ⟨1, _⟩ => rfl)
  rw [val_main_v153_apply, val_main_v151_apply, val_main_call15_v5_apply, val_main_call15_v4_apply, val_main_call15_cst_0_apply, val_main_call15_v3_apply, val_main_call15_v2_apply, val_main_call15_cst_apply,
    val_main_call15_v1_apply, val_main_call15_v0_apply, hg, hu]
  exact silu_eq _ _ _ _ Ideal.ofBits_one_f32 Ideal.ofBits_one_f32

theorem out_7 (x0 : A0) (x4 : A4) (x5 : A5) (R : Fin 21504) (d : Fin 2048) :
    val_main_v156 (F := Ideal) x0 x4 x5 (ix2 R d) = expertOut x0 x4 x5 7 R d := by
  rw [val_main_v156_apply]
  refine Finset.sum_congr rfl fun k _ => ?_
  rw [val_main_v155_apply, val_main_v154_apply, ← act_7]
  refine congrArg₂ (fun p q : EReal => p * q) (congrArg _ (funext fun a => match a with | ⟨0, _⟩ => rfl | ⟨1, _⟩ => rfl)) ?_
  exact congrArg x5 (funext fun a => Fin.ext (match a with
    | ⟨0, _⟩ => rfl
    | ⟨1, _⟩ => by show (k.val * 2048 + d.val) / 2048 % 5632 = k.val; omega
    | ⟨2, _⟩ => by show (k.val * 2048 + d.val) % 2048 = d.val; omega))

theorem gate_7 (x1 : A1) (x2 x3 : A2) (R : Fin 21504) (d : Fin 2048) :
    val_main_v157 (F := Ideal) x1 x2 x3 (ix2 R d) = if x2 (ix1 (⟨R.val / 512, by omega⟩ : Fin 42)) = BitVec.ofNat 32 7
      ∧ x3 (ix1 (⟨R.val / 512, by omega⟩ : Fin 42)) = 1#32 then x1 (ix2 R (0 : Fin 1)) else (0 : EReal) := by
  rw [val_main_v157_apply, show idx_main_v157 (ix2 R d) = ix2 R (0 : Fin 1) from funext fun a => match a with | ⟨0, _⟩ => rfl | ⟨1, _⟩ => rfl]
  rw [val_main_v146_apply, val_main_v145_apply, val_main_v144_apply, val_main_v143_apply, val_main_v142_apply, val_main_v141_apply, expert_read, valid_read,
    val_main_call14_v1_apply, val_main_call14_v0_apply, val_main_cst_22_apply, val_main_c_21_apply, val_main_c_20_apply]
  exact mask_eq _ _ _ _ _ Ideal.ofBits_zero_f32

theorem term_7 (x0 : A0) (x1 : A1) (x2 x3 : A2) (x4 : A4) (x5 : A5) (R : Fin 21504) (d : Fin 2048) :
    val_main_v158 (F := Ideal) x0 x1 x2 x3 x4 x5 (ix2 R d) = (if x2 (ix1 (⟨R.val / 512, by omega⟩ : Fin 42)) = BitVec.ofNat 32 7
      ∧ x3 (ix1 (⟨R.val / 512, by omega⟩ : Fin 42)) = 1#32 then x1 (ix2 R (0 : Fin 1)) else (0 : EReal)) * expertOut x0 x4 x5 7 R d := by
  rw [val_main_v158_apply, gate_7, out_7]; rfl

/-- The reference's result at one element. -/
theorem result_read (x0 : A0) (x1 : A1) (x2 x3 : A2) (x4 : A4) (x5 : A5) (R : Fin 21504) (d : Fin 2048) :
    val_main_v159 (F := Ideal) x0 x1 x2 x3 x4 x5 (ix2 R d) = routed x0 x1 x2 x3 x4 x5 R d := by
  rw [val_main_v159_apply, term_7, val_main_v140_apply, term_6, val_main_v121_apply, term_5, val_main_v102_apply, term_4, val_main_v83_apply, term_3, val_main_v64_apply, term_2, val_main_v45_apply, term_1, val_main_v26_apply, term_0, val_main_v7_apply, val_main_cst_apply]
  unfold routed
  rw [Fin.sum_univ_eight]
  generalize expertOut x0 x4 x5 0 R d = o0
  generalize expertOut x0 x4 x5 1 R d = o1
  generalize expertOut x0 x4 x5 2 R d = o2
  generalize expertOut x0 x4 x5 3 R d = o3
  generalize expertOut x0 x4 x5 4 R d = o4
  generalize expertOut x0 x4 x5 5 R d = o5
  generalize expertOut x0 x4 x5 6 R d = o6
  generalize expertOut x0 x4 x5 7 R d = o7
  generalize x2 (ix1 (⟨R.val / 512, by omega⟩ : Fin 42)) = t
  generalize x3 (ix1 (⟨R.val / 512, by omega⟩ : Fin 42)) = v
  generalize x1 (ix2 R (0 : Fin 1)) = g
  have hz : (FloatOps.ofBits .f32 0x00000000#32 : Ideal .f32) = (0 : EReal) := Ideal.ofBits_zero_f32
  rw [hz]
  simp only [Ideal.addf_def, zero_add]
  rfl

end Cert.ReferenceIdeal.Moe

end
-- ==== Proof.OutValue.lean ====
/-
  What the out-projection writes: the residual plus the product, element by element.
-/
module

public import proofs.«01_k».proof.Proof.Gen.OutIdeal.Frame
public import Idealize.ShloMosaic.Lib.Pipeline.Value
public import Idealize.ShloMosaic.Lib.Pointwise

@[expose] public section

noncomputable section

namespace Cert.OutIdeal.Resid

open Cert.OutIdeal Cert.OutIdeal.Gen
open Idealize.ShloMosaic
open Idealize.ShloMosaic.TcCoe Idealize.SL.Sem
open scoped BigOperators

/-- The body's stored value at an element. -/
theorem pay_apply (x0 : S544x2048.Idx → EReal) (x1 : S2048x512.Idx → EReal) (x2 : S544x512.Idx → EReal) (r : Fin 544) (d : Fin 512) :
    k0_pay1 (F := Ideal) x2 x0 x1 (ix2 r d) = x2 (ix2 r d) + ∑ k, x0 (ix2 r k) * x1 (ix2 k d) := by
  unfold k0_pay1
  pointwise

variable (m : (ℓ : Loc nD τ sig) → Buf (Elt Ideal) ℓ) (c : Dev nD)

/-- The arrays the program is given. -/
abbrev rows : S8704x2048.Idx → EReal := m ((c : Thread nD τ).loc main_arg0)
abbrev wts : S2048x2048.Idx → EReal := m ((c : Thread nD τ).loc main_arg1)
abbrev base : S8704x2048.Idx → EReal := m ((c : Thread nD τ).loc main_arg2)

/-- A sum of products reads its two columns element by element. -/
theorem dot_congr {x x' w w' : Fin 2048 → EReal} (hx : ∀ k, x k = x' k) (hw : ∀ k, w k = w' k) : ∑ k, x k * w k = ∑ k, x' k * w' k := by
  rw [show x = x' from funext hx, show w = w' from funext hw]

/-- The whole result at an element. -/
def value (n : Fin 8704) (d : Fin 2048) : EReal := base m c (ix2 n d) + ∑ k, rows m c (ix2 n k) * wts m c (ix2 k d)

/-- The whole result. -/
def result : S8704x2048.Idx → EReal := fun i => value m c (i 0) (i 1)

theorem row_val (t : Fin cfg0.N) : (grid0.coords t 0).val = t.val / 4 :=
  (Pipeline.Grid.coords_val (G := grid0) t 0 (S := 4) (B := 16) (by decide) rfl).trans (by have h : t.val < 64 := t.isLt; omega)

theorem col_val (t : Fin cfg0.N) : (grid0.coords t 1).val = t.val % 4 :=
  (Pipeline.Grid.coords_val (G := grid0) t 1 (S := 1) (B := 4) (by decide) rfl).trans (by have h : t.val < 64 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * (t.val / 4) + r.val, by have h : t.val < 64 := t.isLt; omega⟩
abbrev colOf (t : Fin cfg0.N) (d : Fin 512) : Fin 2048 := ⟨512 * (t.val % 4) + d.val, by omega⟩

theorem rows_block (t : Fin cfg0.N) (r : Fin 544) (k : Fin 2048) : iblk m c 0 t (ix2 r k) = rows m c (ix2 (rowOf t r) k) := by
  unfold iblk
  rw [View.read_apply]
  refine congrArg (rows m c) (funext fun x => Fin.ext ?_)
  have hv := row_val t
  have h : t.val < 64 := t.isLt
  match x with
  | ⟨0, _⟩ =>
    show (BitVec.ofNat 32 (grid0.coords t 0).val).toNat * 544 + 1 * r.val = 544 * (t.val / 4) + r.val
    rw [word _ (by omega)]; omega
  | ⟨1, _⟩ => show 0 * 2048 + 1 * k.val = k.val; omega

theorem wts_block (t : Fin cfg0.N) (k : Fin 2048) (d : Fin 512) : iblk m c 1 t (ix2 k d) = wts m c (ix2 k (colOf t d)) := by
  unfold iblk
  rw [View.read_apply]
  refine congrArg (wts m c) (funext fun x => Fin.ext ?_)
  have hv := col_val t
  match x with
  | ⟨0, _⟩ => show 0 * 2048 + 1 * k.val = k.val; omega
  | ⟨1, _⟩ =>
    show (BitVec.ofNat 32 (grid0.coords t 1).val).toNat * 512 + 1 * d.val = 512 * (t.val % 4) + d.val
    rw [word _ (by omega)]; omega

theorem base_block (t : Fin cfg0.N) (r : Fin 544) (d : Fin 512) : iblk m c 2 t (ix2 r d) = base m c (ix2 (rowOf t r) (colOf t d)) := by
  unfold iblk
  rw [View.read_apply]
  refine congrArg (base m c) (funext fun x => Fin.ext ?_)
  have hv := row_val t
  have hw := col_val t
  have h : t.val < 64 := t.isLt
  match x with
  | ⟨0, _⟩ =>
    show (BitVec.ofNat 32 (grid0.coords t 0).val).toNat * 544 + 1 * r.val = 544 * (t.val / 4) + r.val
    rw [word _ (by omega)]; omega
  | ⟨1, _⟩ =>
    show (BitVec.ofNat 32 (grid0.coords t 1).val).toNat * 512 + 1 * d.val = 512 * (t.val % 4) + d.val
    rw [word _ (by omega)]; omega

theorem out_emb (t : Fin cfg0.N) (y : ((cfg0.win (3 : Fin 4)).xblock (cfg0.grid.coords t)).Idx) :
    ((cfg0.win (3 : Fin 4)).blk t).view.emb y
      = (ix2 (rowOf t ⟨(y 0).val, (y 0).isLt⟩) (colOf t ⟨(y 1).val, (y 1).isLt⟩) : S8704x2048.Idx) := by
  have hv := row_val t
  have hw := col_val t
  have h : t.val < 64 := t.isLt
  refine funext fun x => Fin.ext ?_
  match x with
  | ⟨0, _⟩ =>
    show (BitVec.ofNat 32 (grid0.coords t 0).val).toNat * 544 + 1 * (y 0).val = 544 * (t.val / 4) + (y 0).val
    rw [word _ (by omega)]; omega
  | ⟨1, _⟩ =>
    show (BitVec.ofNat 32 (grid0.coords t 1).val).toNat * 512 + 1 * (y 1).val = 512 * (t.val % 4) + (y 1).val
    rw [word _ (by omega)]; omega

theorem out_apply (x0 : S544x2048.Idx → EReal) (x1 : S2048x512.Idx → EReal) (x2 : S544x512.Idx → EReal) (r : Fin 544) (d : Fin 512) :
    out0_3 (F := Ideal) x0 x1 x2 (ix2 r d) = x2 (ix2 r d) + ∑ k, x0 (ix2 r k) * x1 (ix2 k d) := by
  rw [← pay_apply]
  unfold out0_3
  rw [View.canon_unit_zero (by funext a; fin_cases a <;> rfl), View.ld_unit_zero (by funext a; fin_cases a <;> rfl), View.ld_unit_zero (by funext a; fin_cases a <;> rfl), View.ld_unit_zero (by funext a; fin_cases a <;> rfl)]

/-- What a point leaves in the output's buffer. -/
theorem block_eq (t : Fin cfg0.N) (r : Fin 544) (d : Fin 512) :
    out0_3 (F := Ideal) (iblk m c 0 t) (iblk m c 1 t) (iblk m c 2 t) (ix2 r d) = result m c (ix2 (rowOf t r) (colOf t d)) :=
  (out_apply (iblk m c 0 t) (iblk m c 1 t) (iblk m c 2 t) r d).trans
    (congrArg₂ (· + ·) (base_block m c t r d) (dot_congr (fun k => rows_block m c t r k) (fun k => wts_block m c t k d)))

/-- The array after the run. -/
theorem array_eq : (dats m 0 c).arrAt (3 : Fin 4) cfg0.N = result m c := by
  refine (dats m 0 c).arrAt_eq_of_cover (3 : Fin 4) (result m c) (fun t hf => funext fun y => ?_) fun i => ?_
  · show _ = result m c (((cfg0.win (3 : Fin 4)).blk t).view.emb y)
    rw [out_emb t y]
    refine Eq.trans ?_ (block_eq m c t ⟨(y 0).val, (y 0).isLt⟩ ⟨(y 1).val, (y 1).isLt⟩)
    refine (congrFun (after0_3 m c t) _).trans ?_
    generalize out0_3 (F := Ideal) (iblk m c 0 t) (iblk m c 1 t) (iblk m c 2 t) = f
    refine congrArg f (funext fun x => Fin.ext ?_)
    match x with
    | ⟨0, _⟩ => rfl
    | ⟨1, _⟩ => rfl
  · have h0 : ((i : S8704x2048.Idx) 0).val < 8704 := ((i : S8704x2048.Idx) 0).isLt
    have h1 : ((i : S8704x2048.Idx) 1).val < 2048 := ((i : S8704x2048.Idx) 1).isLt
    let t : Fin cfg0.N := ⟨4 * (((i : S8704x2048.Idx) 0).val / 544) + ((i : S8704x2048.Idx) 1).val / 512, by show _ < 64; omega⟩
    have ht : t.val = 4 * (((i : S8704x2048.Idx) 0).val / 544) + ((i : S8704x2048.Idx) 1).val / 512 := rfl
    refine ⟨t, flush0_3 t, ?_⟩
    have e := out_emb t (fun x => match x with
      | ⟨0, _⟩ => ⟨((i : S8704x2048.Idx) 0).val % 544, Nat.mod_lt _ (by decide)⟩
      | ⟨1, _⟩ => ⟨((i : S8704x2048.Idx) 1).val % 512, Nat.mod_lt _ (by decide)⟩)
    have : (i : S8704x2048.Idx) = ix2 (rowOf t ⟨((i : S8704x2048.Idx) 0).val % 544, Nat.mod_lt _ (by decide)⟩)
        (colOf t ⟨((i : S8704x2048.Idx) 1).val % 512, Nat.mod_lt _ (by decide)⟩) := by
      refine funext fun x => Fin.ext ?_
      match x with
      | ⟨0, _⟩ => show ((i : S8704x2048.Idx) 0).val = 544 * (t.val / 4) + ((i : S8704x2048.Idx) 0).val % 544; omega
      | ⟨1, _⟩ => show ((i : S8704x2048.Idx) 1).val = 512 * (t.val % 4) + ((i : S8704x2048.Idx) 1).val % 512; omega
    rw [this]
    exact Finset.mem_map.2 ⟨_, Finset.mem_univ _, e⟩

end Cert.OutIdeal.Resid

end
-- ==== Proof.OutClaim.lean ====
/-
  The out-projection and its plain reference leave the same result.
-/
module

public import proofs.«01_k».proof.Defs
public import proofs.«01_k».proof.Proof.OutValue
public import proofs.«01_k».proof.Proof.Gen.OutRefIdeal.Read
public import proofs.«01_k».proof.Proof.Gen.OutRefIdeal.Run
public import Idealize.ShloMosaic.Lib.Quiescent
public import Idealize.ShloMosaic.Lib.ValueIdx
public import Idealize.ShloMosaic.Lib.Pointwise

@[expose] public section

noncomputable section

namespace Cert.OutRefIdeal.Resid

open Cert.OutRefIdeal Cert.OutRefIdeal.Gen Cert.OutRefIdeal.Read
open Idealize.ShloMosaic
open scoped BigOperators

/-- The reference's result at an element. -/
theorem result_read (x0 : S8704x2048.Idx → EReal) (x1 : S2048x2048.Idx → EReal) (x2 : S8704x2048.Idx → EReal) (n : Fin 8704) (d : Fin 2048) :
    val_main_v1 (F := Ideal) x0 x1 x2 (ix2 n d) = x2 (ix2 n d) + ∑ k, x0 (ix2 n k) * x1 (ix2 k d) := by
  unfold val_main_v1 val_main_v0
  pointwise

end Cert.OutRefIdeal.Resid

namespace Cert.OutIdeal.Resid

open Cert.OutIdeal Cert.OutIdeal.Gen
open Idealize.ShloMosaic
open Idealize.ShloMosaic.TcCoe Idealize.SL.Sem
open scoped BigOperators

/-- Every run ends with the result and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 (3 : Fin 4)).trans (array_eq m c), h.2 c⟩)
    (θ_run_and (run_main m g) (unchanged m g))

/-- The value claim. -/
theorem algebraic : Cert.algebraic_OutIdeal_OutRefIdeal := by
  intro m g m' g' _ hargs
  refine ⟨fun c => result m c, run m g, ?_⟩
  refine (θ_run _ _ _).mono (fun r h c => ⟨(h c).1.trans ?_, (h c).2⟩) (Cert.OutRefIdeal.Value.run (F := Ideal) m' g')
  obtain ⟨h0, h1, h2⟩ := hargs c
  have e (b : Ref Cert.OutRefIdeal.sig .tc) : StableHlo.launchContents m' c (Proc.devRef .tc b)
      = m' ((c.tc : Thread Cert.OutRefIdeal.nD Cert.OutRefIdeal.τ).loc b) := rfl
  rw [Cert.OutRefIdeal.Read.val_main_v1_eq, h0, h1, h2]
  funext i
  rw [ValueIdx.eq_ix2 i]
  exact Cert.OutRefIdeal.Resid.result_read _ _ _ (i 0) (i 1)

end Cert.OutIdeal.Resid

end
-- ==== Proof.RmsMath.lean ====
/-
  The root-mean-square norm of one row of 2048 extended reals.
-/
module

public import Idealize.ShloMosaic.PureOps.Ideal
public import Idealize.ShloMosaic.Lib.IdealHost

@[expose] public section

noncomputable section

namespace Cert.RmsMath

open Idealize.ShloMosaic
open scoped BigOperators

/-- The row's length and the norm's small constant, as the two programs spell them. -/
def len : EReal := FloatOps.ofBits (F := Ideal) .f32 0x45000000#32
def eps : EReal := FloatOps.ofBits (F := Ideal) .f32 0x358637BD#32

/-- The factor a row is scaled by: one over the root of its mean square. -/
def scale (x : Fin 2048 → EReal) : EReal := Ideal.rsqrt (Ideal.div (∑ k, x k * x k) len + eps)

/-- Element `d` of the row scaled to unit mean square, times the gain. -/
def rms (x g : Fin 2048 → EReal) (d : Fin 2048) : EReal := x d * scale x * g d

/-- One element of the product of a normed row with a column of weights. -/
def proj (x g w : Fin 2048 → EReal) : EReal := ∑ k, rms x g k * w k

/-- It reads its row, gain and column element by element. -/
theorem proj_congr {x x' g g' w w' : Fin 2048 → EReal} (hx : ∀ k, x k = x' k) (hg : ∀ k, g k = g' k) (hw : ∀ k, w k = w' k) :
    proj x g w = proj x' g' w' := by
  rw [show x = x' from funext hx, show g = g' from funext hg, show w = w' from funext hw]

/-- The same norm of a row of 512. -/
def len512 : EReal := FloatOps.ofBits (F := Ideal) .f32 0x44000000#32
def lat (x g : Fin 512 → EReal) (d : Fin 512) : EReal := x d * Ideal.rsqrt (Ideal.div (∑ k, x k * x k) len512 + eps) * g d

/-- The angle the pair `i` of a head is turned by at position `p`, where `half` is the number of pairs. -/
def angle (half p i : BitVec 32) : EReal :=
  FloatOps.sitofp (F := Ideal) .f32 p * Ideal.pow (Ideal.ofBits .f32 0x461C4000#32)
    (Ideal.div (-FloatOps.sitofp (F := Ideal) .f32 i) (Ideal.ofBits .f32 half))

/-- The two elements of a pair after the turn. -/
def turnLow (half p i : BitVec 32) (x y : EReal) : EReal := x * Ideal.cos (angle half p i) - y * Ideal.sin (angle half p i)
def turnHigh (half p i : BitVec 32) (x y : EReal) : EReal := y * Ideal.cos (angle half p i) + x * Ideal.sin (angle half p i)

end Cert.RmsMath

end
-- ==== Proof.RouterValue.lean ====
/-
  What the router's call writes: every row normed, and that normed row times the router's weights.
-/
module

public import proofs.«01_k».proof.Proof.Gen.RouterIdeal.Frame
public import proofs.«01_k».proof.Proof.RmsMath
public import Idealize.ShloMosaic.Lib.Pipeline.Value
public import Idealize.ShloMosaic.Lib.Pointwise
public import Idealize.ShloMosaic.Lib.KernelVsHost
public import Idealize.ShloMosaic.Lib.StableHlo.ReadAt

@[expose] public section

noncomputable section

namespace Cert.RouterIdeal.Logits

open Cert.RouterIdeal Cert.RouterIdeal.Gen Cert.RmsMath
open Idealize.ShloMosaic
open Idealize.ShloMosaic.TcCoe Idealize.SL.Sem
open scoped BigOperators

/-- The body's two stored values at an element. -/
theorem pay_norm (x0 : S544x2048.Idx → EReal) (x1 : S1x2048.Idx → EReal) (r : Fin 544) (d : Fin 2048) :
    k0_pay2 (F := Ideal) x0 x1 (ix2 r d) = rms (fun k => x0 (ix2 r k)) (fun k => x1 (ix2 (0 : Fin 1) k)) d := by
  unfold k0_pay2 k0_pay1
  pointwise
  rfl

theorem pay_logits (x0 : S544x2048.Idx → EReal) (x1 : S1x2048.Idx → EReal) (x2 : S2048x128.Idx → EReal) (r : Fin 544) (d : Fin 128) :
    k0_pay3 (F := Ideal) x0 x1 x2 (ix2 r d)
      = proj (fun k => x0 (ix2 r k)) (fun k => x1 (ix2 (0 : Fin 1) k)) (fun k => x2 (ix2 k d)) := by
  unfold k0_pay3 k0_pay1
  pointwise
  rfl

variable (m : (ℓ : Loc nD τ sig) → Buf (Elt Ideal) ℓ) (c : Dev nD)

/-- The three arrays the program is given. -/
abbrev argX : S8704x2048.Idx → EReal := m ((c : Thread nD τ).loc main_arg0)
abbrev argG : S2048.Idx → EReal := m ((c : Thread nD τ).loc main_arg1)
abbrev argR : S2048x8.Idx → EReal := m ((c : Thread nD τ).loc main_arg2)

/-- The rows, the gain and the padded weights as the call finds them. -/
abbrev rows : S8704x2048.Idx → EReal := V m c main_arg0
abbrev gain : S1x2048.Idx → EReal := V m c main_v1
abbrev wts : S2048x128.Idx → EReal := V m c main_v0

theorem gain_read (d : Fin 2048) : gain m c (ix2 (0 : Fin 1) d) = argG m c (ix1 d) := by
  unfold gain V V0 hostOps0 hostOps0_1 hostOps0_2
  simp only [List.flatten_cons, List.flatten_nil, List.append_nil, List.cons_append, List.nil_append]
  after_reads_at

theorem wts_read (k : Fin 2048) (e : Fin 8) (d : Fin 128) (hd : d.val = e.val) : wts m c (ix2 k d) = argR m c (ix2 k e) := by
  unfold wts V V0 hostOps0 hostOps0_1 hostOps0_2
  simp only [List.flatten_cons, List.flatten_nil, List.append_nil, List.cons_append, List.nil_append]
  after_reads_simp
  refine Eq.trans (b := pad S2048x128 ![0, 0] ![0, 120] ![0, 0] (argR m c) (sitofp (F := Ideal) .f32 (constantI S_ 32 0#32) : S_.Idx → EReal)
    pads_S2048x8_S2048x128_000_01200 h_S_ (ix2 k d)) rfl (pad_apply_of_inside _ _ _ _ _ _ _ (ix2 k d) (ix2 k e) ?_)
  intro x
  match x with
  | ⟨0, _⟩ => show k.val = 0 + k.val * (0 + 1); omega
  | ⟨1, _⟩ => show d.val = 0 + e.val * (0 + 1); omega

/-- The two whole results of the call. -/
def normed : S8704x2048.Idx → EReal := fun i => rms (fun k => rows m c (ix2 (i 0) k)) (fun k => gain m c (ix2 (0 : Fin 1) k)) (i 1)
def logits : S8704x128.Idx → EReal := fun i =>
  proj (fun k => rows m c (ix2 (i 0) k)) (fun k => gain m c (ix2 (0 : Fin 1) k)) (fun k => wts m c (ix2 k (i 1)))

theorem row_val (t : Fin cfg0.N) : (grid0.coords t 0).val = t.val :=
  (Pipeline.Grid.coords_val (G := grid0) t 0 (S := 1) (B := 16) (by decide) rfl).trans (by have h : t.val < 16 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * t.val + r.val, by have h : t.val < 16 := t.isLt; omega⟩

theorem rows_block (t : Fin cfg0.N) (r : Fin 544) (k : Fin 2048) : iblk m c 0 t (ix2 r k) = rows m c (ix2 (rowOf t r) k) := by
  unfold iblk
  rw [View.read_apply]
  refine congrArg (rows m c) (funext fun x => Fin.ext ?_)
  have hv := row_val t
  have h : t.val < 16 := t.isLt
  match x with
  | ⟨0, _⟩ =>
    show (BitVec.ofNat 32 (grid0.coords t 0).val).toNat * 544 + 1 * r.val = 544 * t.val + r.val
    rw [word _ (by omega)]; omega
  | ⟨1, _⟩ => show 0 * 2048 + 1 * k.val = k.val; omega

theorem gain_block (t : Fin cfg0.N) (k : Fin 2048) : iblk m c 1 t (ix2 (0 : Fin 1) k) = gain m c (ix2 (0 : Fin 1) k) := by
  unfold iblk
  rw [View.read_apply]
  refine congrArg (gain m c) (funext fun x => Fin.ext ?_)
  match x with
  | ⟨0, _⟩ => rfl
  | ⟨1, _⟩ => show 0 * 2048 + 1 * k.val = k.val; omega

theorem wts_block (t : Fin cfg0.N) (k : Fin 2048) (d : Fin 128) : iblk m c 2 t (ix2 k d) = wts m c (ix2 k d) := by
  unfold iblk
  rw [View.read_apply]
  refine congrArg (wts m c) (funext fun x => Fin.ext ?_)
  match x with
  | ⟨0, _⟩ => show 0 * 2048 + 1 * k.val = k.val; omega
  | ⟨1, _⟩ => show 0 * 128 + 1 * d.val = d.val; omega

theorem norm_emb (t : Fin cfg0.N) (y : ((cfg0.win (3 : Fin 5)).xblock (cfg0.grid.coords t)).Idx) :
    ((cfg0.win (3 : Fin 5)).blk t).view.emb y
      = (ix2 (rowOf t ⟨(y 0).val, (y 0).isLt⟩) (⟨(y 1).val, (y 1).isLt⟩ : Fin 2048) : S8704x2048.Idx) := by
  have hv := row_val t
  have h : t.val < 16 := t.isLt
  refine funext fun x => Fin.ext ?_
  match x with
  | ⟨0, _⟩ =>
    show (BitVec.ofNat 32 (grid0.coords t 0).val).toNat * 544 + 1 * (y 0).val = 544 * t.val + (y 0).val
    rw [word _ (by omega)]; omega
  | ⟨1, _⟩ => show 0 * 2048 + 1 * (y 1).val = (y 1).val; omega

theorem norm_out (x0 : S544x2048.Idx → EReal) (x1 : S1x2048.Idx → EReal) (x2 : S2048x128.Idx → EReal) (r : Fin 544) (d : Fin 2048) :
    out0_3 (F := Ideal) x0 x1 x2 (ix2 r d) = rms (fun k => x0 (ix2 r k)) (fun k => x1 (ix2 (0 : Fin 1) k)) d := by
  rw [← pay_norm]
  unfold out0_3
  rw [View.canon_unit_zero (by funext a; fin_cases a <;> rfl), View.ld_unit_zero (by funext a; fin_cases a <;> rfl), View.ld_unit_zero (by funext a; fin_cases a <;> rfl)]

/-- What a point leaves in the output's buffer. -/
theorem norm_block (t : Fin cfg0.N) (r : Fin 544) (d : Fin 2048) :
    out0_3 (F := Ideal) (iblk m c 0 t) (iblk m c 1 t) (iblk m c 2 t) (ix2 r d) = normed m c (ix2 (rowOf t r) d) :=
  (norm_out (iblk m c 0 t) (iblk m c 1 t) (iblk m c 2 t) r d).trans
    (congrArg₂ (fun p q => rms p q d) (funext fun k => rows_block m c t r k) (funext fun k => gain_block m c t k))

/-- The array after the run. -/
theorem norm_array : (dats m 0 c).arrAt (3 : Fin 5) cfg0.N = normed m c := by
  refine (dats m 0 c).arrAt_eq_of_cover (3 : Fin 5) (normed m c) (fun t hf => funext fun y => ?_) fun i => ?_
  · show _ = normed m c (((cfg0.win (3 : Fin 5)).blk t).view.emb y)
    rw [norm_emb t y]
    refine Eq.trans ?_ (norm_block m c t ⟨(y 0).val, (y 0).isLt⟩ ⟨(y 1).val, (y 1).isLt⟩)
    refine (congrFun (after0_3 m c t) _).trans ?_
    generalize out0_3 (F := Ideal) (iblk m c 0 t) (iblk m c 1 t) (iblk m c 2 t) = f
    refine congrArg f (funext fun x => Fin.ext ?_)
    match x with
    | ⟨0, _⟩ => rfl
    | ⟨1, _⟩ => rfl
  · have h0 : ((i : S8704x2048.Idx) 0).val < 8704 := ((i : S8704x2048.Idx) 0).isLt
    let t : Fin cfg0.N := ⟨((i : S8704x2048.Idx) 0).val / 544, by show _ < 16; omega⟩
    have ht : t.val = ((i : S8704x2048.Idx) 0).val / 544 := rfl
    refine ⟨t, flush0_3 t, ?_⟩
    have e := norm_emb t (fun x => match x with
      | ⟨0, _⟩ => ⟨((i : S8704x2048.Idx) 0).val % 544, Nat.mod_lt _ (by decide)⟩
      | ⟨1, _⟩ => ⟨((i : S8704x2048.Idx) 1).val, ((i : S8704x2048.Idx) 1).isLt⟩)
    have : (i : S8704x2048.Idx) = ix2 (rowOf t ⟨((i : S8704x2048.Idx) 0).val % 544, Nat.mod_lt _ (by decide)⟩) (((i : S8704x2048.Idx) 1)) := by
      refine funext fun x => Fin.ext ?_
      match x with
      | ⟨0, _⟩ => show ((i : S8704x2048.Idx) 0).val = 544 * t.val + ((i : S8704x2048.Idx) 0).val % 544; omega
      | ⟨1, _⟩ => rfl
    rw [this]
    exact Finset.mem_map.2 ⟨_, Finset.mem_univ _, e⟩

theorem logit_emb (t : Fin cfg0.N) (y : ((cfg0.win (4 : Fin 5)).xblock (cfg0.grid.coords t)).Idx) :
    ((cfg0.win (4 : Fin 5)).blk t).view.emb y
      = (ix2 (rowOf t ⟨(y 0).val, (y 0).isLt⟩) (⟨(y 1).val, (y 1).isLt⟩ : Fin 128) : S8704x128.Idx) := by
  have hv := row_val t
  have h : t.val < 16 := t.isLt
  refine funext fun x => Fin.ext ?_
  match x with
  | ⟨0, _⟩ =>
    show (BitVec.ofNat 32 (grid0.coords t 0).val).toNat * 544 + 1 * (y 0).val = 544 * t.val + (y 0).val
    rw [word _ (by omega)]; omega
  | ⟨1, _⟩ => show 0 * 128 + 1 * (y 1).val = (y 1).val; omega

theorem logit_out (x0 : S544x2048.Idx → EReal) (x1 : S1x2048.Idx → EReal) (x2 : S2048x128.Idx → EReal) (r : Fin 544) (d : Fin 128) :
    out0_4 (F := Ideal) x0 x1 x2 (ix2 r d) = proj (fun k => x0 (ix2 r k)) (fun k => x1 (ix2 (0 : Fin 1) k)) (fun k => x2 (ix2 k d)) := by
  rw [← pay_logits]
  unfold out0_4
  rw [View.canon_unit_zero (by funext a; fin_cases a <;> rfl), View.ld_unit_zero (by funext a; fin_cases a <;> rfl), View.ld_unit_zero (by funext a; fin_cases a <;> rfl), View.ld_unit_zero (by funext a; fin_cases a <;> rfl)]

/-- What a point leaves in the output's buffer. -/
theorem logit_block (t : Fin cfg0.N) (r : Fin 544) (d : Fin 128) :
    out0_4 (F := Ideal) (iblk m c 0 t) (iblk m c 1 t) (iblk m c 2 t) (ix2 r d) = logits m c (ix2 (rowOf t r) d) :=
  (logit_out (iblk m c 0 t) (iblk m c 1 t) (iblk m c 2 t) r d).trans
    (proj_congr (fun k => rows_block m c t r k) (fun k => gain_block m c t k) (fun k => wts_block m c t k d))

/-- The array after the run. -/
theorem logit_array : (dats m 0 c).arrAt (4 : Fin 5) cfg0.N = logits m c := by
  refine (dats m 0 c).arrAt_eq_of_cover (4 : Fin 5) (logits m c) (fun t hf => funext fun y => ?_) fun i => ?_
  · show _ = logits m c (((cfg0.win (4 : Fin 5)).blk t).view.emb y)
    rw [logit_emb t y]
    refine Eq.trans ?_ (logit_block m c t ⟨(y 0).val, (y 0).isLt⟩ ⟨(y 1).val, (y 1).isLt⟩)
    refine (congrFun (after0_4 m c t) _).trans ?_
    generalize out0_4 (F := Ideal) (iblk m c 0 t) (iblk m c 1 t) (iblk m c 2 t) = f
    refine congrArg f (funext fun x => Fin.ext ?_)
    match x with
    | ⟨0, _⟩ => rfl
    | ⟨1, _⟩ => rfl
  · have h0 : ((i : S8704x128.Idx) 0).val < 8704 := ((i : S8704x128.Idx) 0).isLt
    let t : Fin cfg0.N := ⟨((i : S8704x128.Idx) 0).val / 544, by show _ < 16; omega⟩
    have ht : t.val = ((i : S8704x128.Idx) 0).val / 544 := rfl
    refine ⟨t, flush0_4 t, ?_⟩
    have e := logit_emb t (fun x => match x with
      | ⟨0, _⟩ => ⟨((i : S8704x128.Idx) 0).val % 544, Nat.mod_lt _ (by decide)⟩
      | ⟨1, _⟩ => ⟨((i : S8704x128.Idx) 1).val, ((i : S8704x128.Idx) 1).isLt⟩)
    have : (i : S8704x128.Idx) = ix2 (rowOf t ⟨((i : S8704x128.Idx) 0).val % 544, Nat.mod_lt _ (by decide)⟩) (((i : S8704x128.Idx) 1)) := by
      refine funext fun x => Fin.ext ?_
      match x with
      | ⟨0, _⟩ => show ((i : S8704x128.Idx) 0).val = 544 * t.val + ((i : S8704x128.Idx) 0).val % 544; omega
      | ⟨1, _⟩ => rfl
    rw [this]
    exact Finset.mem_map.2 ⟨_, Finset.mem_univ _, e⟩

/-! ## The two results of the program -/

/-- What the program ends with in a buffer. -/
abbrev finalAt (b : Ref sig .tc) := Pipeline.afterTail₀ cfgs (dats m) 0 (V0 m) [hostOps1] c b

theorem logits_array : (Pipeline.withArrays (cfgs 0).spec c (V0 m c) (fun w => (dats m 0 c).arrAt w (cfgs 0).N) (Proc.tc.devRef main_v2_1) : S8704x128.Idx → EReal)
    = logits m c := (Pipeline.withArrays_arr spec0 (by decide) c (V0 m c) _ (4 : Fin 5)).trans (logit_array m c)

theorem normed_read (n : Fin 8704) (d : Fin 2048) :
    normed m c (ix2 n d) = rms (fun k => argX m c (ix2 n k)) (fun k => argG m c (ix1 k)) d :=
  congrArg₂ (fun p q => rms p q d) (funext fun k => congrFun (V_main_arg0 m c) (ix2 n k)) (funext fun k => gain_read m c k)

theorem logits_read (n : Fin 8704) (e : Fin 8) :
    (finalAt m c main_v3 : S8704x8.Idx → EReal) (ix2 n e)
      = proj (fun k => argX m c (ix2 n k)) (fun k => argG m c (ix1 k)) (fun k => argR m c (ix2 k e)) := by
  unfold finalAt Pipeline.afterTail₀ hostOps1
  simp only [List.flatten_cons, List.flatten_nil, List.append_nil]
  after_reads_at
  refine (congrFun (logits_array m c) _).trans ?_
  exact proj_congr (fun k => congrFun (V_main_arg0 m c) (ix2 n k)) (fun k => gain_read m c k) (fun k => wts_read m c k e _ (by rfl))

end Cert.RouterIdeal.Logits

end
-- ==== Proof.RouterClaim.lean ====
/-
  The router's call and its plain reference leave the same two results.
-/
module

public import proofs.«01_k».proof.Defs
public import proofs.«01_k».proof.Proof.RouterValue
public import proofs.«01_k».proof.Proof.Gen.RouterRefIdeal.Read
public import proofs.«01_k».proof.Proof.Gen.RouterRefIdeal.Run
public import Idealize.ShloMosaic.Lib.Quiescent
public import Idealize.ShloMosaic.Lib.ValueIdx

@[expose] public section

noncomputable section

namespace Cert.RouterRefIdeal.Logits

open Cert.RouterRefIdeal Cert.RouterRefIdeal.Gen Cert.RouterRefIdeal.Read Cert.RmsMath
open Idealize.ShloMosaic
open scoped BigOperators

/-- The normed rows before the last cast. -/
theorem norm_read (x : S8704x2048.Idx → EReal) (g : S2048.Idx → EReal) (n : Fin 8704) (d : Fin 2048) :
    val_main_v12 (F := Ideal) x g (ix2 n d) = rms (fun k => x (ix2 n k)) (fun k => g (ix1 k)) d := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  unfold rms scale len eps
  rfl

theorem cast_read (x : S8704x2048.Idx → EReal) (g : S2048.Idx → EReal) (n : Fin 8704) (d : Fin 2048) :
    val_main_v13 (F := Ideal) x g (ix2 n d) = rms (fun k => x (ix2 n k)) (fun k => g (ix1 k)) d := by
  refine Eq.trans ?_ (norm_read x g n d)
  rfl

/-- The product with the router's weights. -/
theorem logits_read (x : S8704x2048.Idx → EReal) (g : S2048.Idx → EReal) (w : S2048x8.Idx → EReal) (n : Fin 8704) (e : Fin 8) :
    val_main_v14 (F := Ideal) x g w (ix2 n e) = proj (fun k => x (ix2 n k)) (fun k => g (ix1 k)) (fun k => w (ix2 k e)) := by
  rw [val_main_v14_apply]
  refine Finset.sum_congr rfl fun k _ => ?_
  refine congrArg₂ (· * ·) (Eq.trans (congrArg _ (funext fun x => Fin.ext ?_)) (norm_read x g n k)) (congrArg w (funext fun x => Fin.ext ?_))
  · match x with
    | ⟨0, _⟩ => rfl
    | ⟨1, _⟩ => rfl
  · match x with
    | ⟨0, _⟩ => rfl
    | ⟨1, _⟩ => rfl

end Cert.RouterRefIdeal.Logits

namespace Cert.RouterIdeal.Logits

open Cert.RouterIdeal Cert.RouterIdeal.Gen Cert.RmsMath
open Idealize.ShloMosaic
open Idealize.ShloMosaic.TcCoe Idealize.SL.Sem
open scoped BigOperators

/-- Every run ends with the two results and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = normed m c
      ∧ r.2.mem ((c.tc : Thread nD τ).loc main_v3) = finalAt m c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 (3 : Fin 5)).trans (norm_array m c), (h.1 c).2 main_v3 (Pipeline.mem_restRefs_of main_v3 (by decide) (by decide)), h.2 c⟩)
    (θ_run_and (run_main m g) (unchanged m g))

/-- The value claim. -/
theorem algebraic : Cert.algebraic_RouterIdeal_RouterRefIdeal := by
  intro m g m' g' _ hargs
  refine ⟨fun c => normed m c, fun c => finalAt m c main_v3, run m g, ?_⟩
  refine (θ_run _ _ _).mono (fun r h c => ⟨(h c).1.trans ?_, (h c).2.1.trans ?_, (h c).2.2⟩) (Cert.RouterRefIdeal.Value.run (F := Ideal) m' g')
  all_goals
    obtain ⟨h0, h1, h2⟩ := hargs c
    have e (b : Ref Cert.RouterRefIdeal.sig .tc) : StableHlo.launchContents m' c (Proc.devRef .tc b)
        = m' ((c.tc : Thread Cert.RouterRefIdeal.nD Cert.RouterRefIdeal.τ).loc b) := rfl
  · rw [Cert.RouterRefIdeal.Read.val_main_v13_eq, h0, h1]
    funext i
    rw [ValueIdx.eq_ix2 i]
    exact (Cert.RouterRefIdeal.Logits.cast_read _ _ (i 0) (i 1)).trans (normed_read m c (i 0) (i 1)).symm
  · rw [Cert.RouterRefIdeal.Read.val_main_v14_eq, h0, h1, h2]
    funext i
    rw [ValueIdx.eq_ix2 i]
    exact (Cert.RouterRefIdeal.Logits.logits_read _ _ _ (i 0) (i 1)).trans (logits_read m c (i 0) (i 1)).symm

end Cert.RouterIdeal.Logits

end
-- ==== Proof.UpValue.lean ====
/-
  What the query up-projection writes: the product, element by element.
-/
module

public import proofs.«01_k».proof.Proof.Gen.UpIdeal.Frame
public import Idealize.ShloMosaic.Lib.Pipeline.Value
public import Idealize.ShloMosaic.Lib.Pointwise

@[expose] public section

noncomputable section

namespace Cert.UpIdeal.Query

open Cert.UpIdeal Cert.UpIdeal.Gen
open Idealize.ShloMosaic
open Idealize.ShloMosaic.TcCoe Idealize.SL.Sem
open scoped BigOperators

/-- The body's stored value at an element. -/
theorem pay_apply (x0 : S544x768.Idx → EReal) (x1 : S768x512.Idx → EReal) (r : Fin 544) (d : Fin 512) :
    k0_pay1 (F := Ideal) x0 x1 (ix2 r d) = ∑ k, x0 (ix2 r k) * x1 (ix2 k d) := by
  unfold k0_pay1
  pointwise

variable (m : (ℓ : Loc nD τ sig) → Buf (Elt Ideal) ℓ) (c : Dev nD)

/-- The arrays the program is given. -/
abbrev rows : S8704x768.Idx → EReal := m ((c : Thread nD τ).loc main_arg0)
abbrev wts : S768x3072.Idx → EReal := m ((c : Thread nD τ).loc main_arg1)

/-- A sum of products reads its two columns element by element. -/
theorem dot_congr {x x' w w' : Fin 768 → EReal} (hx : ∀ k, x k = x' k) (hw : ∀ k, w k = w' k) : ∑ k, x k * w k = ∑ k, x' k * w' k := by
  rw [show x = x' from funext hx, show w = w' from funext hw]

/-- The whole result at an element. -/
def value (n : Fin 8704) (d : Fin 3072) : EReal := ∑ k, rows m c (ix2 n k) * wts m c (ix2 k d)

/-- The whole result. -/
def result : S8704x3072.Idx → EReal := fun i => value m c (i 0) (i 1)

theorem row_val (t : Fin cfg0.N) : (grid0.coords t 0).val = t.val / 6 :=
  (Pipeline.Grid.coords_val (G := grid0) t 0 (S := 6) (B := 16) (by decide) rfl).trans (by have h : t.val < 96 := t.isLt; omega)

theorem col_val (t : Fin cfg0.N) : (grid0.coords t 1).val = t.val % 6 :=
  (Pipeline.Grid.coords_val (G := grid0) t 1 (S := 1) (B := 6) (by decide) rfl).trans (by have h : t.val < 96 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * (t.val / 6) + r.val, by have h : t.val < 96 := t.isLt; omega⟩
abbrev colOf (t : Fin cfg0.N) (d : Fin 512) : Fin 3072 := ⟨512 * (t.val % 6) + d.val, by omega⟩

theorem rows_block (t : Fin cfg0.N) (r : Fin 544) (k : Fin 768) : iblk m c 0 t (ix2 r k) = rows m c (ix2 (rowOf t r) k) := by
  unfold iblk
  rw [View.read_apply]
  refine congrArg (rows m c) (funext fun x => Fin.ext ?_)
  have hv := row_val t
  have h : t.val < 96 := t.isLt
  match x with
  | ⟨0, _⟩ =>
    show (BitVec.ofNat 32 (grid0.coords t 0).val).toNat * 544 + 1 * r.val = 544 * (t.val / 6) + r.val
    rw [word _ (by omega)]; omega
  | ⟨1, _⟩ => show 0 * 768 + 1 * k.val = k.val; omega

theorem wts_block (t : Fin cfg0.N) (k : Fin 768) (d : Fin 512) : iblk m c 1 t (ix2 k d) = wts m c (ix2 k (colOf t d)) := by
  unfold iblk
  rw [View.read_apply]
  refine congrArg (wts m c) (funext fun x => Fin.ext ?_)
  have hv := col_val t
  match x with
  | ⟨0, _⟩ => show 0 * 768 + 1 * k.val = k.val; omega
  | ⟨1, _⟩ =>
    show (BitVec.ofNat 32 (grid0.coords t 1).val).toNat * 512 + 1 * d.val = 512 * (t.val % 6) + d.val
    rw [word _ (by omega)]; omega

theorem out_emb (t : Fin cfg0.N) (y : ((cfg0.win (2 : Fin 3)).xblock (cfg0.grid.coords t)).Idx) :
    ((cfg0.win (2 : Fin 3)).blk t).view.emb y
      = (ix2 (rowOf t ⟨(y 0).val, (y 0).isLt⟩) (colOf t ⟨(y 1).val, (y 1).isLt⟩) : S8704x3072.Idx) := by
  have hv := row_val t
  have hw := col_val t
  have h : t.val < 96 := t.isLt
  refine funext fun x => Fin.ext ?_
  match x with
  | ⟨0, _⟩ =>
    show (BitVec.ofNat 32 (grid0.coords t 0).val).toNat * 544 + 1 * (y 0).val = 544 * (t.val / 6) + (y 0).val
    rw [word _ (by omega)]; omega
  | ⟨1, _⟩ =>
    show (BitVec.ofNat 32 (grid0.coords t 1).val).toNat * 512 + 1 * (y 1).val = 512 * (t.val % 6) + (y 1).val
    rw [word _ (by omega)]; omega

theorem out_apply (x0 : S544x768.Idx → EReal) (x1 : S768x512.Idx → EReal) (r : Fin 544) (d : Fin 512) :
    out0_2 (F := Ideal) x0 x1 (ix2 r d) = ∑ k, x0 (ix2 r k) * x1 (ix2 k d) := by
  rw [← pay_apply]
  unfold out0_2
  rw [View.canon_unit_zero (by funext a; fin_cases a <;> rfl), View.ld_unit_zero (by funext a; fin_cases a <;> rfl), View.ld_unit_zero (by funext a; fin_cases a <;> rfl)]

/-- What a point leaves in the output's buffer. -/
theorem block_eq (t : Fin cfg0.N) (r : Fin 544) (d : Fin 512) :
    out0_2 (F := Ideal) (iblk m c 0 t) (iblk m c 1 t) (ix2 r d) = result m c (ix2 (rowOf t r) (colOf t d)) :=
  (out_apply (iblk m c 0 t) (iblk m c 1 t) r d).trans
    ((dot_congr (fun k => rows_block m c t r k) (fun k => wts_block m c t k d)))

/-- The array after the run. -/
theorem array_eq : (dats m 0 c).arrAt (2 : Fin 3) cfg0.N = result m c := by
  refine (dats m 0 c).arrAt_eq_of_cover (2 : Fin 3) (result m c) (fun t hf => funext fun y => ?_) fun i => ?_
  · show _ = result m c (((cfg0.win (2 : Fin 3)).blk t).view.emb y)
    rw [out_emb t y]
    refine Eq.trans ?_ (block_eq m c t ⟨(y 0).val, (y 0).isLt⟩ ⟨(y 1).val, (y 1).isLt⟩)
    refine (congrFun (after0_2 m c t) _).trans ?_
    generalize out0_2 (F := Ideal) (iblk m c 0 t) (iblk m c 1 t) = f
    refine congrArg f (funext fun x => Fin.ext ?_)
    match x with
    | ⟨0, _⟩ => rfl
    | ⟨1, _⟩ => rfl
  · have h0 : ((i : S8704x3072.Idx) 0).val < 8704 := ((i : S8704x3072.Idx) 0).isLt
    have h1 : ((i : S8704x3072.Idx) 1).val < 3072 := ((i : S8704x3072.Idx) 1).isLt
    let t : Fin cfg0.N := ⟨6 * (((i : S8704x3072.Idx) 0).val / 544) + ((i : S8704x3072.Idx) 1).val / 512, by show _ < 96; omega⟩
    have ht : t.val = 6 * (((i : S8704x3072.Idx) 0).val / 544) + ((i : S8704x3072.Idx) 1).val / 512 := rfl
    refine ⟨t, flush0_2 t, ?_⟩
    have e := out_emb t (fun x => match x with
      | ⟨0, _⟩ => ⟨((i : S8704x3072.Idx) 0).val % 544, Nat.mod_lt _ (by decide)⟩
      | ⟨1, _⟩ => ⟨((i : S8704x3072.Idx) 1).val % 512, Nat.mod_lt _ (by decide)⟩)
    have : (i : S8704x3072.Idx) = ix2 (rowOf t ⟨((i : S8704x3072.Idx) 0).val % 544, Nat.mod_lt _ (by decide)⟩)
        (colOf t ⟨((i : S8704x3072.Idx) 1).val % 512, Nat.mod_lt _ (by decide)⟩) := by
      refine funext fun x => Fin.ext ?_
      match x with
      | ⟨0, _⟩ => show ((i : S8704x3072.Idx) 0).val = 544 * (t.val / 6) + ((i : S8704x3072.Idx) 0).val % 544; omega
      | ⟨1, _⟩ => show ((i : S8704x3072.Idx) 1).val = 512 * (t.val % 6) + ((i : S8704x3072.Idx) 1).val % 512; omega
    rw [this]
    exact Finset.mem_map.2 ⟨_, Finset.mem_univ _, e⟩

end Cert.UpIdeal.Query

end
-- ==== Proof.UpClaim.lean ====
/-
  The query up-projection and its plain reference leave the same result.
-/
module

public import proofs.«01_k».proof.Defs
public import proofs.«01_k».proof.Proof.UpValue
public import proofs.«01_k».proof.Proof.Gen.UpRefIdeal.Read
public import proofs.«01_k».proof.Proof.Gen.UpRefIdeal.Run
public import Idealize.ShloMosaic.Lib.Quiescent
public import Idealize.ShloMosaic.Lib.ValueIdx
public import Idealize.ShloMosaic.Lib.Pointwise

@[expose] public section

noncomputable section

namespace Cert.UpRefIdeal.Query

open Cert.UpRefIdeal Cert.UpRefIdeal.Gen Cert.UpRefIdeal.Read
open Idealize.ShloMosaic
open scoped BigOperators

/-- The reference's result at an element. -/
theorem result_read (x0 : S8704x768.Idx → EReal) (x1 : S768x3072.Idx → EReal) (n : Fin 8704) (d : Fin 3072) :
    val_main_v0 (F := Ideal) x0 x1 (ix2 n d) = ∑ k, x0 (ix2 n k) * x1 (ix2 k d) := by
  unfold val_main_v0
  pointwise

end Cert.UpRefIdeal.Query

namespace Cert.UpIdeal.Query

open Cert.UpIdeal Cert.UpIdeal.Gen
open Idealize.ShloMosaic
open Idealize.ShloMosaic.TcCoe Idealize.SL.Sem
open scoped BigOperators

/-- Every run ends with the result and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (2 : Fin 3)).trans (array_eq m c), h.2 c⟩)
    (θ_run_and (run_main m g) (unchanged m g))

/-- The value claim. -/
theorem algebraic : Cert.algebraic_UpIdeal_UpRefIdeal := by
  intro m g m' g' _ hargs
  refine ⟨fun c => result m c, run m g, ?_⟩
  refine (θ_run _ _ _).mono (fun r h c => ⟨(h c).1.trans ?_, (h c).2⟩) (Cert.UpRefIdeal.Value.run (F := Ideal) m' g')
  obtain ⟨h0, h1⟩ := hargs c
  have e (b : Ref Cert.UpRefIdeal.sig .tc) : StableHlo.launchContents m' c (Proc.devRef .tc b)
      = m' ((c.tc : Thread Cert.UpRefIdeal.nD Cert.UpRefIdeal.τ).loc b) := rfl
  rw [Cert.UpRefIdeal.Read.val_main_v0_eq, h0, h1]
  funext i
  rw [ValueIdx.eq_ix2 i]
  exact Cert.UpRefIdeal.Query.result_read _ _ (i 0) (i 1)

end Cert.UpIdeal.Query

end
-- ==== Proof.KvValue.lean ====
/-
  What the key and value up-projection writes: the product, element by element.
-/
module

public import proofs.«01_k».proof.Proof.Gen.KvIdeal.Frame
public import Idealize.ShloMosaic.Lib.Pipeline.Value
public import Idealize.ShloMosaic.Lib.Pointwise

@[expose] public section

noncomputable section

namespace Cert.KvIdeal.KeyValue

open Cert.KvIdeal Cert.KvIdeal.Gen
open Idealize.ShloMosaic
open Idealize.ShloMosaic.TcCoe Idealize.SL.Sem
open scoped BigOperators

/-- The body's stored value at an element. -/
theorem pay_apply (x0 : S512x512.Idx → EReal) (x1 : S512x512.Idx → EReal) (r : Fin 512) (d : Fin 512) :
    k0_pay1 (F := Ideal) x0 x1 (ix2 r d) = ∑ k, x0 (ix2 r k) * x1 (ix2 k d) := by
  unfold k0_pay1
  pointwise

variable (m : (ℓ : Loc nD τ sig) → Buf (Elt Ideal) ℓ) (c : Dev nD)

/-- The arrays the program is given. -/
abbrev rows : S8192x512.Idx → EReal := m ((c : Thread nD τ).loc main_arg0)
abbrev wts : S512x4096.Idx → EReal := m ((c : Thread nD τ).loc main_arg1)

/-- A sum of products reads its two columns element by element. -/
theorem dot_congr {x x' w w' : Fin 512 → EReal} (hx : ∀ k, x k = x' k) (hw : ∀ k, w k = w' k) : ∑ k, x k * w k = ∑ k, x' k * w' k := by
  rw [show x = x' from funext hx, show w = w' from funext hw]

/-- The whole result at an element. -/
def value (n : Fin 8192) (d : Fin 4096) : EReal := ∑ k, rows m c (ix2 n k) * wts m c (ix2 k d)

/-- The whole result. -/
def result : S8192x4096.Idx → EReal := fun i => value m c (i 0) (i 1)

theorem row_val (t : Fin cfg0.N) : (grid0.coords t 0).val = t.val / 8 :=
  (Pipeline.Grid.coords_val (G := grid0) t 0 (S := 8) (B := 16) (by decide) rfl).trans (by have h : t.val < 128 := t.isLt; omega)

theorem col_val (t : Fin cfg0.N) : (grid0.coords t 1).val = t.val % 8 :=
  (Pipeline.Grid.coords_val (G := grid0) t 1 (S := 1) (B := 8) (by decide) rfl).trans (by have h : t.val < 128 := t.isLt; omega)

theorem word (n : ℕ) (h : n < 4294967296) : (BitVec.ofNat 32 n).toNat = n := by
  rw [BitVec.toNat_ofNat]; exact Nat.mod_eq_of_lt h

abbrev rowOf (t : Fin cfg0.N) (r : Fin 512) : Fin 8192 := ⟨512 * (t.val / 8) + r.val, by have h : t.val < 128 := t.isLt; omega⟩
abbrev colOf (t : Fin cfg0.N) (d : Fin 512) : Fin 4096 := ⟨512 * (t.val % 8) + d.val, by omega⟩

theorem rows_block (t : Fin cfg0.N) (r : Fin 512) (k : Fin 512) : iblk m c 0 t (ix2 r k) = rows m c (ix2 (rowOf t r) k) := by
  unfold iblk
  rw [View.read_apply]
  refine congrArg (rows m c) (funext fun x => Fin.ext ?_)
  have hv := row_val t
  have h : t.val < 128 := t.isLt
  match x with
  | ⟨0, _⟩ =>
    show (BitVec.ofNat 32 (grid0.coords t 0).val).toNat * 512 + 1 * r.val = 512 * (t.val / 8) + r.val
    rw [word _ (by omega)]; omega
  | ⟨1, _⟩ => show 0 * 512 + 1 * k.val = k.val; omega

theorem wts_block (t : Fin cfg0.N) (k : Fin 512) (d : Fin 512) : iblk m c 1 t (ix2 k d) = wts m c (ix2 k (colOf t d)) := by
  unfold iblk
  rw [View.read_apply]
  refine congrArg (wts m c) (funext fun x => Fin.ext ?_)
  have hv := col_val t
  match x with
  | ⟨0, _⟩ => show 0 * 512 + 1 * k.val = k.val; omega
  | ⟨1, _⟩ =>
    show (BitVec.ofNat 32 (grid0.coords t 1).val).toNat * 512 + 1 * d.val = 512 * (t.val % 8) + d.val
    rw [word _ (by omega)]; omega

theorem out_emb (t : Fin cfg0.N) (y : ((cfg0.win (2 : Fin 3)).xblock (cfg0.grid.coords t)).Idx) :
    ((cfg0.win (2 : Fin 3)).blk t).view.emb y
      = (ix2 (rowOf t ⟨(y 0).val, (y 0).isLt⟩) (colOf t ⟨(y 1).val, (y 1).isLt⟩) : S8192x4096.Idx) := by
  have hv := row_val t
  have hw := col_val t
  have h : t.val < 128 := t.isLt
  refine funext fun x => Fin.ext ?_
  match x with
  | ⟨0, _⟩ =>
    show (BitVec.ofNat 32 (grid0.coords t 0).val).toNat * 512 + 1 * (y 0).val = 512 * (t.val / 8) + (y 0).val
    rw [word _ (by omega)]; omega
  | ⟨1, _⟩ =>
    show (BitVec.ofNat 32 (grid0.coords t 1).val).toNat * 512 + 1 * (y 1).val = 512 * (t.val % 8) + (y 1).val
    rw [word _ (by omega)]; omega

theorem out_apply (x0 : S512x512.Idx → EReal) (x1 : S512x512.Idx → EReal) (r : Fin 512) (d : Fin 512) :
    out0_2 (F := Ideal) x0 x1 (ix2 r d) = ∑ k, x0 (ix2 r k) * x1 (ix2 k d) := by
  rw [← pay_apply]
  unfold out0_2
  rw [View.canon_unit_zero (by funext a; fin_cases a <;> rfl), View.ld_unit_zero (by funext a; fin_cases a <;> rfl), View.ld_unit_zero (by funext a; fin_cases a <;> rfl)]

/-- What a point leaves in the output's buffer. -/
theorem block_eq (t : Fin cfg0.N) (r : Fin 512) (d : Fin 512) :
    out0_2 (F := Ideal) (iblk m c 0 t) (iblk m c 1 t) (ix2 r d) = result m c (ix2 (rowOf t r) (colOf t d)) :=
  (out_apply (iblk m c 0 t) (iblk m c 1 t) r d).trans
    ((dot_congr (fun k => rows_block m c t r k) (fun k => wts_block m c t k d)))

/-- The array after the run. -/
theorem array_eq : (dats m 0 c).arrAt (2 : Fin 3) cfg0.N = result m c := by
  refine (dats m 0 c).arrAt_eq_of_cover (2 : Fin 3) (result m c) (fun t hf => funext fun y => ?_) fun i => ?_
  · show _ = result m c (((cfg0.win (2 : Fin 3)).blk t).view.emb y)
    rw [out_emb t y]
    refine Eq.trans ?_ (block_eq m c t ⟨(y 0).val, (y 0).isLt⟩ ⟨(y 1).val, (y 1).isLt⟩)
    refine (congrFun (after0_2 m c t) _).trans ?_
    generalize out0_2 (F := Ideal) (iblk m c 0 t) (iblk m c 1 t) = f
    refine congrArg f (funext fun x => Fin.ext ?_)
    match x with
    | ⟨0, _⟩ => rfl
    | ⟨1, _⟩ => rfl
  · have h0 : ((i : S8192x4096.Idx) 0).val < 8192 := ((i : S8192x4096.Idx) 0).isLt
    have h1 : ((i : S8192x4096.Idx) 1).val < 4096 := ((i : S8192x4096.Idx) 1).isLt
    let t : Fin cfg0.N := ⟨8 * (((i : S8192x4096.Idx) 0).val / 512) + ((i : S8192x4096.Idx) 1).val / 512, by show _ < 128; omega⟩
    have ht : t.val = 8 * (((i : S8192x4096.Idx) 0).val / 512) + ((i : S8192x4096.Idx) 1).val / 512 := rfl
    refine ⟨t, flush0_2 t, ?_⟩
    have e := out_emb t (fun x => match x with
      | ⟨0, _⟩ => ⟨((i : S8192x4096.Idx) 0).val % 512, Nat.mod_lt _ (by decide)⟩
      | ⟨1, _⟩ => ⟨((i : S8192x4096.Idx) 1).val % 512, Nat.mod_lt _ (by decide)⟩)
    have : (i : S8192x4096.Idx) = ix2 (rowOf t ⟨((i : S8192x4096.Idx) 0).val % 512, Nat.mod_lt _ (by decide)⟩)
        (colOf t ⟨((i : S8192x4096.Idx) 1).val % 512, Nat.mod_lt _ (by decide)⟩) := by
      refine funext fun x => Fin.ext ?_
      match x with
      | ⟨0, _⟩ => show ((i : S8192x4096.Idx) 0).val = 512 * (t.val / 8) + ((i : S8192x4096.Idx) 0).val % 512; omega
      | ⟨1, _⟩ => show ((i : S8192x4096.Idx) 1).val = 512 * (t.val % 8) + ((i : S8192x4096.Idx) 1).val % 512; omega
    rw [this]
    exact Finset.mem_map.2 ⟨_, Finset.mem_univ _, e⟩

end Cert.KvIdeal.KeyValue

end
-- ==== Proof.KvClaim.lean ====
/-
  The key and value up-projection and its plain reference leave the same result.
-/
module

public import proofs.«01_k».proof.Defs
public import proofs.«01_k».proof.Proof.KvValue
public import proofs.«01_k».proof.Proof.Gen.KvRefIdeal.Read
public import proofs.«01_k».proof.Proof.Gen.KvRefIdeal.Run
public import Idealize.ShloMosaic.Lib.Quiescent
public import Idealize.ShloMosaic.Lib.ValueIdx
public import Idealize.ShloMosaic.Lib.Pointwise

@[expose] public section

noncomputable section

namespace Cert.KvRefIdeal.KeyValue

open Cert.KvRefIdeal Cert.KvRefIdeal.Gen Cert.KvRefIdeal.Read
open Idealize.ShloMosaic
open scoped BigOperators

/-- The reference's result at an element. -/
theorem result_read (x0 : S8192x512.Idx → EReal) (x1 : S512x4096.Idx → EReal) (n : Fin 8192) (d : Fin 4096) :
    val_main_v0 (F := Ideal) x0 x1 (ix2 n d) = ∑ k, x0 (ix2 n k) * x1 (ix2 k d) := by
  unfold val_main_v0
  pointwise

end Cert.KvRefIdeal.KeyValue

namespace Cert.KvIdeal.KeyValue

open Cert.KvIdeal Cert.KvIdeal.Gen
open Idealize.ShloMosaic
open Idealize.ShloMosaic.TcCoe Idealize.SL.Sem
open scoped BigOperators

/-- Every run ends with the result and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (2 : Fin 3)).trans (array_eq m c), h.2 c⟩)
    (θ_run_and (run_main m g) (unchanged m g))

/-- The value claim. -/
theorem algebraic : Cert.algebraic_KvIdeal_KvRefIdeal := by
  intro m g m' g' _ hargs
  refine ⟨fun c => result m c, run m g, ?_⟩
  refine (θ_run _ _ _).mono (fun r h c => ⟨(h c).1.trans ?_, (h c).2⟩) (Cert.KvRefIdeal.Value.run (F := Ideal) m' g')
  obtain ⟨h0, h1⟩ := hargs c
  have e (b : Ref Cert.KvRefIdeal.sig .tc) : StableHlo.launchContents m' c (Proc.devRef .tc b)
      = m' ((c.tc : Thread Cert.KvRefIdeal.nD Cert.KvRefIdeal.τ).loc b) := rfl
  rw [Cert.KvRefIdeal.Read.val_main_v0_eq, h0, h1]
  funext i
  rw [ValueIdx.eq_ix2 i]
  exact Cert.KvRefIdeal.KeyValue.result_read _ _ (i 0) (i 1)

end Cert.KvIdeal.KeyValue

end
-- ==== Proof.FfnMath.lean ====
/-
  The dense feed-forward as sums over the extended reals, free of any program: one normed row through the two halves of the
  joined weights and back, and the sum over the inner coordinate by blocks of 512.
-/
module

public import proofs.«01_k».proof.Proof.RmsMath
public import proofs.«01_k».proof.Proof.MoeMath

@[expose] public section

noncomputable section

namespace Cert.FfnMath

open Idealize.ShloMosaic Idealize.ShloMosaic.ValueIdx Cert.RmsMath
open scoped BigOperators

abbrev Rows := (⟨2, ![8704, 2048]⟩ : Shape).Idx → EReal
abbrev Gain := (⟨1, ![2048]⟩ : Shape).Idx → EReal
abbrev Ups := (⟨2, ![2048, 11264]⟩ : Shape).Idx → EReal
abbrev Downs := (⟨2, ![5632, 2048]⟩ : Shape).Idx → EReal

/-- The normed row `R` against column `n` of the joined gate and up weights. -/
def gu (X : Rows) (G : Gain) (U : Ups) (R : Fin 8704) (n : Fin 11264) : EReal :=
  proj (fun k => X (ix2 R k)) (fun k => G (ix1 k)) (fun k => U (ix2 k n))

/-- The activation `g · σ(g) · u` at inner coordinate `k`. -/
def act (X : Rows) (G : Gain) (U : Ups) (R : Fin 8704) (k : Fin 5632) : EReal :=
  gu X G U R ⟨k.val, by omega⟩ * Ideal.logistic (gu X G U R ⟨k.val, by omega⟩) * gu X G U R ⟨5632 + k.val, by omega⟩

/-- One term of the down projection, zero past the last inner coordinate. -/
def term (X : Rows) (G : Gain) (U : Ups) (D : Downs) (R : Fin 8704) (d : Fin 2048) (k : ℕ) : EReal :=
  if h : k < 5632 then act X G U R ⟨k, h⟩ * D (ix2 ⟨k, h⟩ d) else 0

/-- Block `b`'s part of it. -/
def part (X : Rows) (G : Gain) (U : Ups) (D : Downs) (R : Fin 8704) (d : Fin 2048) (b : ℕ) : EReal :=
  ∑ k : Fin 512, term X G U D R d (512 * b + k.val)

/-- The row plus its feed-forward. -/
def ffn (X : Rows) (G : Gain) (U : Ups) (D : Downs) (R : Fin 8704) (d : Fin 2048) : EReal :=
  X (ix2 R d) + ∑ k : Fin 5632, act X G U R k * D (ix2 k d)

/-- The eleven blocks make the whole sum. -/
theorem parts_eq (X : Rows) (G : Gain) (U : Ups) (D : Downs) (R : Fin 8704) (d : Fin 2048) :
    X (ix2 R d) + ∑ b ∈ Finset.range 11, part X G U D R d b = ffn X G U D R d := by
  unfold part ffn
  rw [Cert.MoeMath.sum_blocks (term X G U D R d) 11, ← Fin.sum_univ_eq_sum_range (term X G U D R d) (512 * 11)]
  refine congrArg (X (ix2 R d) + ·) (Finset.sum_congr rfl fun k _ => ?_)
  unfold term
  rw [dif_pos (show k.val < 5632 from k.isLt)]

/-- The reference's silu times the up half is the activation. -/
theorem silu_eq (g u one one' : EReal) (h : one = 1) (h' : one' = 1) :
    g * Ideal.div one' (one + Ideal.exp (-g)) * u = g * Ideal.logistic g * u := by
  rw [h, h']; rfl

end Cert.FfnMath

end
-- ==== Proof.FfnValue.lean ====
/-
  What the dense feed-forward's call writes: every row plus its gated feed-forward, summed over eleven blocks of the inner
  coordinate.
-/
module

public import proofs.«01_k».proof.Proof.Gen.FfnIdeal.Frame
public import proofs.«01_k».proof.Proof.FfnMath
public import Idealize.ShloMosaic.Lib.Pipeline.Value
public import Idealize.ShloMosaic.Lib.Pipeline.ValueKit.Acc
public import Idealize.ShloMosaic.Lib.Pointwise
public import Idealize.ShloMosaic.Lib.MatmulPlain
public import Idealize.ShloMosaic.Lib.KernelVsHost
public import Idealize.ShloMosaic.Lib.StableHlo.ReadAt

@[expose] public section

noncomputable section

namespace Cert.FfnIdeal.Dense

open Cert.FfnIdeal Cert.FfnIdeal.Gen Cert.RmsMath Cert.FfnMath
open Idealize.ShloMosaic
open Idealize.ShloMosaic.TcCoe Idealize.SL.Sem
open scoped BigOperators

/-! ## The body's stored values at an element -/

theorem norm_apply (x0 : S544x2048.Idx → EReal) (x1 : S1x2048.Idx → EReal) (r : Fin 544) (k : Fin 2048) :
    k0_pay1 (F := Ideal) x0 x1 (ix2 r k) = rms (fun k => x0 (ix2 r k)) (fun k => x1 (ix2 (0 : Fin 1) k)) k := by
  unfold k0_pay1
  pointwise
  rfl

/-- Row `r` of the normed block against column `k` of a weight block. -/
def blkDot (z : S544x2048.Idx → EReal) (w : S2048x512.Idx → EReal) (r : Fin 544) (k : Fin 512) : EReal := ∑ n : Fin 2048, z (ix2 r n) * w (ix2 n k)

theorem dot_w (z : S544x2048.Idx → EReal) (w : S2048x512.Idx → EReal) (r : Fin 544) (k : Fin 512) :
    FloatOps.matmul (F := Ideal) (φ₁ := .bf16) (φ₂ := .bf16) dot_S544x2048_S2048x512_S544x512_1_0_0_1_n_n none z w
      (constant S544x512 .f32 0x00000000#32) (ix2 r k) = blkDot z w r k := by
  refine (Ideal.matmul_plain_apply (M := 544) (K := 2048) (N := 512) none z _ _ r k).trans ?_
  rw [show (constant (F := Ideal) S544x512 .f32 0x00000000#32) (ValueIdx.ix2 r k) = (0 : EReal) from Ideal.ofBits_zero_f32, zero_add]
  rfl

/-- The output block gains the block's activations against the block's down weights. -/
theorem pay2_apply (z : S544x2048.Idx → EReal) (x2 x3 : S2048x512.Idx → EReal) (acc : S544x2048.Idx → EReal) (x4 : S512x2048.Idx → EReal)
    (r : Fin 544) (d : Fin 2048) :
    k0_pay2 (F := Ideal) z x2 x3 acc x4 (ix2 r d) = acc (ix2 r d) + ∑ k : Fin 512,
      (blkDot z x2 r k * Ideal.logistic (blkDot z x2 r k) * blkDot z x3 r k) * x4 (ix2 k d) := by
  unfold k0_pay2
  simp only [matmul]
  refine congrArg₂ (fun p q : EReal => p + q) (congrFun (shapeCast_self acc _) (ix2 r d)) ?_
  refine (Ideal.matmul_plain_apply (M := 544) (K := 512) (N := 2048) none _ _ _ r d).trans ?_
  rw [show (constant (F := Ideal) S544x2048 .f32 0x00000000#32) (ValueIdx.ix2 r d) = (0 : EReal) from Ideal.ofBits_zero_f32, zero_add]
  refine Finset.sum_congr rfl fun k _ => ?_
  refine congrArg₂ (fun p q : EReal => p * q) ?_ rfl
  rw [← dot_w, ← dot_w]
  rfl

variable (m : (ℓ : Loc nD τ sig) → Buf (Elt Ideal) ℓ) (c : Dev nD)

/-- The four arrays the program is given. -/
abbrev argX : S8704x2048.Idx → EReal := m ((c : Thread nD τ).loc main_arg0)
abbrev argG : S2048.Idx → EReal := m ((c : Thread nD τ).loc main_arg1)
abbrev argU : S2048x11264.Idx → EReal := m ((c : Thread nD τ).loc main_arg2)
abbrev argD : S5632x2048.Idx → EReal := m ((c : Thread nD τ).loc main_arg3)

/-- The gain as the call finds it. -/
abbrev gain : S1x2048.Idx → EReal := V m c main_v0

theorem gain_read (d : Fin 2048) : gain m c (ix2 (0 : Fin 1) d) = argG m c (ix1 d) := by
  unfold gain V hostOps0
  after_reads_at

/-! ## The blocks -/

theorem row_val (t : Fin cfg0.N) : (grid0.coords t 0).val = t.val / 11 :=
  (Pipeline.Grid.coords_val (G := grid0) t 0 (S := 11) (B := 16) (by decide) rfl).trans (by have h : t.val < 176 := t.isLt; omega)

theorem col_val (t : Fin cfg0.N) : (grid0.coords t 1).val = t.val % 11 :=
  (Pipeline.Grid.coords_val (G := grid0) t 1 (S := 1) (B := 11) (by decide) rfl).trans (by have h : t.val < 176 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * (t.val / 11) + r.val, by have h : t.val < 176 := t.isLt; omega⟩

theorem rows_block (t : Fin cfg0.N) (r : Fin 544) (k : Fin 2048) : iblk m c 0 t (ix2 r k) = argX m c (ix2 (rowOf t r) k) := by
  refine Eq.trans ?_ (congrFun (V_main_arg0 m c) (ix2 (rowOf t r) k))
  unfold iblk
  rw [View.read_apply]
  refine congrArg (V m c main_arg0) (funext fun x => Fin.ext ?_)
  have hv := row_val t
  have h : t.val < 176 := t.isLt
  match x with
  | ⟨0, _⟩ =>
    show (BitVec.ofNat 32 (grid0.coords t 0).val).toNat * 544 + 1 * r.val = 544 * (t.val / 11) + r.val
    rw [word _ (by omega)]; omega
  | ⟨1, _⟩ => show 0 * 2048 + 1 * k.val = k.val; omega

theorem gain_block (t : Fin cfg0.N) (k : Fin 2048) : iblk m c 1 t (ix2 (0 : Fin 1) k) = argG m c (ix1 k) := by
  refine Eq.trans ?_ (gain_read m c k)
  unfold iblk
  rw [View.read_apply]
  refine congrArg (gain m c) (funext fun x => Fin.ext ?_)
  match x with
  | ⟨0, _⟩ => rfl
  | ⟨1, _⟩ => show 0 * 2048 + 1 * k.val = k.val; omega

theorem gate_block (t : Fin cfg0.N) (k : Fin 2048) (q : Fin 512) :
    iblk m c 2 t (ix2 k q) = argU m c (ix2 k ⟨512 * (t.val % 11) + q.val, by omega⟩) := by
  refine Eq.trans ?_ (congrFun (V_main_arg2 m c) (ix2 k ⟨512 * (t.val % 11) + q.val, by omega⟩))
  unfold iblk
  rw [View.read_apply]
  refine congrArg (V m c main_arg2) (funext fun x => Fin.ext ?_)
  have hv := col_val t
  match x with
  | ⟨0, _⟩ => show 0 * 2048 + 1 * k.val = k.val; omega
  | ⟨1, _⟩ =>
    show (BitVec.ofNat 32 (grid0.coords t 1).val).toNat * 512 + 1 * q.val = 512 * (t.val % 11) + q.val
    rw [word _ (by omega)]; omega

theorem up_block (t : Fin cfg0.N) (k : Fin 2048) (q : Fin 512) :
    iblk m c 3 t (ix2 k q) = argU m c (ix2 k ⟨5632 + (512 * (t.val % 11) + q.val), by omega⟩) := by
  refine Eq.trans ?_ (congrFun (V_main_arg2 m c) (ix2 k ⟨5632 + (512 * (t.val % 11) + q.val), by omega⟩))
  unfold iblk
  rw [View.read_apply]
  refine congrArg (V m c main_arg2) (funext fun x => Fin.ext ?_)
  have hv := col_val t
  match x with
  | ⟨0, _⟩ => show 0 * 2048 + 1 * k.val = k.val; omega
  | ⟨1, _⟩ =>
    show (11#32 + BitVec.ofNat 32 (grid0.coords t 1).val).toNat * 512 + 1 * q.val = 5632 + (512 * (t.val % 11) + q.val)
    rw [BitVec.toNat_add, hv, word (t.val % 11) (by omega)]
    show (11 + t.val % 11) % 4294967296 * 512 + 1 * q.val = _
    omega

theorem down_block (t : Fin cfg0.N) (q : Fin 512) (d : Fin 2048) :
    iblk m c 4 t (ix2 q d) = argD m c (ix2 ⟨512 * (t.val % 11) + q.val, by omega⟩ d) := by
  refine Eq.trans ?_ (congrFun (V_main_arg3 m c) (ix2 ⟨512 * (t.val % 11) + q.val, by omega⟩ d))
  unfold iblk
  rw [View.read_apply]
  refine congrArg (V m c main_arg3) (funext fun x => Fin.ext ?_)
  have hv := col_val t
  match x with
  | ⟨0, _⟩ =>
    show (BitVec.ofNat 32 (grid0.coords t 1).val).toNat * 512 + 1 * q.val = 512 * (t.val % 11) + q.val
    rw [word _ (by omega)]; omega
  | ⟨1, _⟩ => show 0 * 2048 + 1 * d.val = d.val; omega

/-! ## The scratch holds the row tile's normed rows -/

/-- The normed rows of a row tile. -/
def normed (i : ℕ) : S544x2048.Idx → EReal := fun x =>
  rms (fun k => argX m c (ix2 (⟨(544 * i + (x 0).val) % 8704, Nat.mod_lt _ (by decide)⟩ : Fin 8704) k)) (fun k => argG m c (ix1 k)) (x 1)

theorem normed_apply (t : Fin cfg0.N) (r : Fin 544) (k : Fin 2048) : normed m c (t.val / 11) (ix2 r k)
    = rms (fun k => argX m c (ix2 (rowOf t r) k)) (fun k => argG m c (ix1 k)) k := by
  have h : t.val < 176 := t.isLt
  have e : (⟨(544 * (t.val / 11) + r.val) % 8704, Nat.mod_lt _ (by decide)⟩ : Fin 8704) = rowOf t r :=
    Fin.ext (Nat.mod_eq_of_lt (by omega))
  show rms (fun k => argX m c (ix2 (⟨(544 * (t.val / 11) + r.val) % 8704, Nat.mod_lt _ (by decide)⟩ : Fin 8704) k)) _ k = _
  rw [e]

theorem pay_normed (t : Fin cfg0.N) : k0_pay1 (F := Ideal) (iblk m c 0 t) (iblk m c 1 t) = normed m c (t.val / 11) := by
  funext x
  rw [ValueIdx.eq_ix2 x]
  refine (norm_apply (iblk m c 0 t) (iblk m c 1 t) (x 0) (x 1)).trans (Eq.trans ?_ (normed_apply m c t (x 0) (x 1)).symm)
  rw [show (fun k => iblk m c 0 t (ix2 (x 0) k)) = fun k => argX m c (ix2 (rowOf t (x 0)) k) from funext fun k => rows_block m c t (x 0) k,
    show (fun k => iblk m c 1 t (ix2 (0 : Fin 1) k)) = fun k => argG m c (ix1 k) from funext fun k => gain_block m c t k]

theorem scratch_A (t : Fin cfg0.N) (h0 : t.val % 11 = 0) : (outsAt0 m c t.val t.isLt).2 = normed m c (t.val / 11) := by
  rw [outsAt0_A m c t h0, ← pay_normed]
  dsimp only
  unfold sout0_A_0
  frame_out

theorem scratch_eq : ∀ (n : ℕ) (hn : n < cfg0.N), (outsAt0 m c n hn).2 = normed m c (n / 11)
  | 0, hn => scratch_A m c ⟨0, hn⟩ rfl
  | n + 1, hn => by
    by_cases h0 : (n + 1) % 11 = 0
    · exact scratch_A m c ⟨n + 1, hn⟩ h0
    · have ih := scratch_eq n (Nat.lt_of_succ_lt hn)
      have e : (n + 1) / 11 = n / 11 := by omega
      rw [e, ← ih]
      have e2 : outsAt0 m c (n + 1) hn = _ := outsAt0_B m c ⟨n + 1, hn⟩ h0
      rw [e2]
      dsimp only
      unfold sout0_B_0
      rfl

/-! ## One point, then a whole row tile -/

/-- What a row tile's first point leaves in the output's buffer. -/
theorem outs_first (t : Fin cfg0.N) (h0 : t.val % 11 = 0) : (outsAt0 m c t.val t.isLt).1
    = k0_pay2 (F := Ideal) (normed m c (t.val / 11)) (iblk m c 2 t) (iblk m c 3 t) (iblk m c 0 t) (iblk m c 4 t) := by
  rw [outsAt0_A m c t h0, ← pay_normed]
  dsimp only
  unfold out0_A_5
  frame_out

/-- What any other point leaves there. -/
theorem outs_later (t : Fin cfg0.N) (h0 : ¬t.val % 11 = 0) : (outsAt0 m c t.val t.isLt).1
    = k0_pay2 (F := Ideal) (normed m c (t.val / 11)) (iblk m c 2 t) (iblk m c 3 t)
        (outsAt0 m c (t.val - 1) (Nat.lt_of_le_of_lt (Nat.sub_le _ _) t.isLt)).1 (iblk m c 4 t) := by
  have e : (t.val - 1) / 11 = t.val / 11 := by omega
  rw [outsAt0_B m c t h0, ← e, ← scratch_eq m c (t.val - 1) (Nat.lt_of_le_of_lt (Nat.sub_le _ _) t.isLt)]
  dsimp only
  unfold out0_B_5
  frame_out
  exact congrArg (fun z => k0_pay2 (F := Ideal) z _ _ _ _) (Memref.IsWhole.read_unread (Memref.isWhole_whole cc0_scratch0) _)

/-- A point adds its block of the inner coordinate. -/
theorem added (t : Fin cfg0.N) (y : S544x2048.Idx → EReal) (r : Fin 544) (d : Fin 2048) :
    k0_pay2 (F := Ideal) (normed m c (t.val / 11)) (iblk m c 2 t) (iblk m c 3 t) y (iblk m c 4 t) (ix2 r d)
      = y (ix2 r d) + part (argX m c) (argG m c) (argU m c) (argD m c) (rowOf t r) d (t.val % 11) := by
  refine (pay2_apply _ (iblk m c 2 t) (iblk m c 3 t) y (iblk m c 4 t) r d).trans ?_
  refine congrArg (y (ix2 r d) + ·) (Finset.sum_congr rfl fun k _ => ?_)
  have hg : blkDot (normed m c (t.val / 11)) (iblk m c 2 t) r k
      = gu (argX m c) (argG m c) (argU m c) (rowOf t r) ⟨512 * (t.val % 11) + k.val, by omega⟩ :=
    Finset.sum_congr rfl fun n _ => congrArg₂ (fun p q : EReal => p * q) (normed_apply m c t r n) (gate_block m c t n k)
  have hu : blkDot (normed m c (t.val / 11)) (iblk m c 3 t) r k
      = gu (argX m c) (argG m c) (argU m c) (rowOf t r) ⟨5632 + (512 * (t.val % 11) + k.val), by omega⟩ :=
    Finset.sum_congr rfl fun n _ => congrArg₂ (fun p q : EReal => p * q) (normed_apply m c t r n) (up_block m c t n k)
  rw [hg, hu]
  refine (congrArg (fun q : EReal => _ * q) (down_block m c t k d)).trans ?_
  unfold term
  rw [dif_pos (show 512 * (t.val % 11) + k.val < 5632 by omega)]
  rfl

/-- After step `j` of a row tile the output's buffer holds the rows plus the blocks `0 … j`. -/
theorem acc_eq (q : Fin 16) (r : Fin 544) (d : Fin 2048) : ∀ (j : ℕ) (t : Fin cfg0.N) (_ : t.val / 11 = q.val) (_ : t.val % 11 = j),
    (outsAt0 m c t.val t.isLt).1 (ix2 r d) = argX m c (ix2 (⟨544 * q.val + r.val, by omega⟩ : Fin 8704) d)
      + ∑ b ∈ Finset.range (j + 1), part (argX m c) (argG m c) (argU m c) (argD m c) ⟨544 * q.val + r.val, by omega⟩ d b
  | 0, t, hq, ht => by
    have hrow : rowOf t r = ⟨544 * q.val + r.val, by omega⟩ := Fin.ext (by show 544 * (t.val / 11) + r.val = _; rw [hq])
    rw [outs_first m c t ht, added, rows_block, Finset.sum_range_one, ht, hrow]
  | j + 1, t, hq, ht => by
    have hrow : rowOf t r = ⟨544 * q.val + r.val, by omega⟩ := Fin.ext (by show 544 * (t.val / 11) + r.val = _; rw [hq])
    have ih := acc_eq q r d j ⟨t.val - 1, Nat.lt_of_le_of_lt (Nat.sub_le _ _) t.isLt⟩ (by show (t.val - 1) / 11 = _; omega) (by show (t.val - 1) % 11 = _; omega)
    rw [outs_later m c t (by omega), added, ih, Finset.sum_range_succ _ (j + 1), ht, hrow, add_assoc]

/-- The whole result. -/
def result : S8704x2048.Idx → EReal := fun i => ffn (argX m c) (argG m c) (argU m c) (argD m c) (i 0) (i 1)

/-- What a row tile's last point leaves in the output's buffer. -/
theorem last_block (t : Fin cfg0.N) (ht : t.val % 11 = 10) (r : Fin 544) (d : Fin 2048) :
    (outsAt0 m c t.val t.isLt).1 (ix2 r d) = result m c (ix2 (rowOf t r) d) := by
  have hN : t.val < 176 := t.isLt
  exact (acc_eq m c ⟨t.val / 11, by omega⟩ r d 10 t rfl ht).trans (parts_eq _ _ _ _ _ _)

theorem out_emb (t : Fin cfg0.N) (y : ((cfg0.win (5 : Fin 6)).xblock (cfg0.grid.coords t)).Idx) :
    ((cfg0.win (5 : Fin 6)).blk t).view.emb y
      = (ix2 (rowOf t ⟨(y 0).val, (y 0).isLt⟩) (⟨(y 1).val, (y 1).isLt⟩ : Fin 2048) : S8704x2048.Idx) := by
  have hv := row_val t
  have h : t.val < 176 := t.isLt
  refine funext fun x => Fin.ext ?_
  match x with
  | ⟨0, _⟩ =>
    show (BitVec.ofNat 32 (grid0.coords t 0).val).toNat * 544 + 1 * (y 0).val = 544 * (t.val / 11) + (y 0).val
    rw [word _ (by omega)]; omega
  | ⟨1, _⟩ => show 0 * 2048 + 1 * (y 1).val = (y 1).val; omega

/-- The array after the run. -/
theorem array_eq : (dats m 0 c).arrAt (5 : Fin 6) cfg0.N = result m c := by
  refine (dats m 0 c).arrAt_eq_of_cover (5 : Fin 6) (result m c) (fun t hf => funext fun y => ?_) fun i => ?_
  · have ht : t.val % 11 = 10 := (flush0_5 t).1 hf
    show _ = result m c (((cfg0.win (5 : Fin 6)).blk t).view.emb y)
    rw [out_emb t y]
    refine Eq.trans ?_ (last_block m c t ht ⟨(y 0).val, (y 0).isLt⟩ ⟨(y 1).val, (y 1).isLt⟩)
    refine (congrFun (after0_5 m c t) _).trans ?_
    generalize (outsAt0 m c t.val t.isLt).1 = f
    refine congrArg f (funext fun x => Fin.ext ?_)
    match x with
    | ⟨0, _⟩ => rfl
    | ⟨1, _⟩ => rfl
  · have h0 : ((i : S8704x2048.Idx) 0).val < 8704 := ((i : S8704x2048.Idx) 0).isLt
    let t : Fin cfg0.N := ⟨11 * (((i : S8704x2048.Idx) 0).val / 544) + 10, by show _ < 176; omega⟩
    have ht : t.val = 11 * (((i : S8704x2048.Idx) 0).val / 544) + 10 := rfl
    refine ⟨t, (flush0_5 t).2 (by omega), ?_⟩
    have e := out_emb t (fun x => match x with
      | ⟨0, _⟩ => ⟨((i : S8704x2048.Idx) 0).val % 544, Nat.mod_lt _ (by decide)⟩
      | ⟨1, _⟩ => ⟨((i : S8704x2048.Idx) 1).val, ((i : S8704x2048.Idx) 1).isLt⟩)
    have : (i : S8704x2048.Idx) = ix2 (rowOf t ⟨((i : S8704x2048.Idx) 0).val % 544, Nat.mod_lt _ (by decide)⟩) (((i : S8704x2048.Idx) 1)) := by
      refine funext fun x => Fin.ext ?_
      match x with
      | ⟨0, _⟩ => show ((i : S8704x2048.Idx) 0).val = 544 * (t.val / 11) + ((i : S8704x2048.Idx) 0).val % 544; omega
      | ⟨1, _⟩ => rfl
    rw [this]
    exact Finset.mem_map.2 ⟨_, Finset.mem_univ _, e⟩

end Cert.FfnIdeal.Dense

end
-- ==== Proof.FfnClaim.lean ====
/-
  The dense feed-forward's call and its plain reference leave the same result.
-/
module

public import proofs.«01_k».proof.Defs
public import proofs.«01_k».proof.Proof.FfnValue
public import proofs.«01_k».proof.Proof.Gen.FfnRefIdeal.Read
public import proofs.«01_k».proof.Proof.Gen.FfnRefIdeal.Run
public import Idealize.ShloMosaic.Lib.Quiescent
public import Idealize.ShloMosaic.Lib.ValueIdx
public import Idealize.ShloMosaic.Lib.IdealHost

@[expose] public section

noncomputable section

namespace Cert.FfnRefIdeal.Dense

open Cert.FfnRefIdeal Cert.FfnRefIdeal.Gen Cert.FfnRefIdeal.Read Cert.RmsMath Cert.FfnMath
open Idealize.ShloMosaic
open scoped BigOperators

/-- The normed rows. -/
theorem norm_read (x : S8704x2048.Idx → EReal) (g : S2048.Idx → EReal) (n : Fin 8704) (d : Fin 2048) :
    val_main_v12 (F := Ideal) x g (ix2 n d) = rms (fun k => x (ix2 n k)) (fun k => g (ix1 k)) d := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  unfold rms scale len eps
  rfl

/-- Their product with the joined weights. -/
theorem gu_read (x : S8704x2048.Idx → EReal) (g : S2048.Idx → EReal) (u : S2048x11264.Idx → EReal) (R : Fin 8704) (n : Fin 11264) :
    val_main_v13 (F := Ideal) x g u (ix2 R n) = gu x g u R n := by
  rw [val_main_v13_apply]
  unfold gu proj
  refine Finset.sum_congr rfl fun k _ => ?_
  refine congrArg₂ (fun p q : EReal => p * q) (Eq.trans (b := val_main_v12 (F := Ideal) x g (ix2 R k)) (congrArg _ (funext fun a => match a with | ⟨0, _⟩ => rfl | ⟨1, _⟩ => rfl)) (norm_read x g R k)) ?_
  exact congrArg u (funext fun a => match a with | ⟨0, _⟩ => rfl | ⟨1, _⟩ => rfl)

/-- The activation. -/
theorem act_read (x : S8704x2048.Idx → EReal) (g : S2048.Idx → EReal) (u : S2048x11264.Idx → EReal) (R : Fin 8704) (k : Fin 5632) :
    val_main_v17 (F := Ideal) x g u (ix2 R k) = act x g u R k := by
  have hg : val_main_v14 (F := Ideal) x g u (ix2 R k) = gu x g u R ⟨k.val, by omega⟩ := by
    rw [val_main_v14_apply, ← gu_read]
    exact congrArg _ (funext fun a => match a with | ⟨0, _⟩ => rfl | ⟨1, _⟩ => rfl)
  have hu : val_main_v16 (F := Ideal) x g u (ix2 R k) = gu x g u R ⟨5632 + k.val, by omega⟩ := by
    rw [val_main_v16_apply, ← gu_read]
    exact congrArg _ (funext fun a => match a with | ⟨0, _⟩ => rfl | ⟨1, _⟩ => rfl)
  rw [val_main_v17_apply, val_main_v15_apply, val_main_call0_v5_apply, val_main_call0_v4_apply, val_main_call0_cst_0_apply, val_main_call0_v3_apply, val_main_call0_v2_apply, val_main_call0_cst_apply,
    val_main_call0_v1_apply, val_main_call0_v0_apply, hg, hu]
  exact silu_eq _ _ _ _ Ideal.ofBits_one_f32 Ideal.ofBits_one_f32

/-- The reference's result at an element. -/
theorem result_read (x : S8704x2048.Idx → EReal) (g : S2048.Idx → EReal) (u : S2048x11264.Idx → EReal) (w : S5632x2048.Idx → EReal)
    (R : Fin 8704) (d : Fin 2048) : val_main_v19 (F := Ideal) x g u w (ix2 R d) = ffn x g u w R d := by
  rw [val_main_v19_apply, val_main_v18_apply]
  unfold ffn
  refine congrArg (fun q : EReal => x (ix2 R d) + q) (Finset.sum_congr rfl fun k _ => ?_)
  refine congrArg₂ (fun p q : EReal => p * q) (Eq.trans (b := val_main_v17 (F := Ideal) x g u (ix2 R k)) (congrArg _ (funext fun a => match a with | ⟨0, _⟩ => rfl | ⟨1, _⟩ => rfl)) (act_read x g u R k)) ?_
  exact congrArg w (funext fun a => match a with | ⟨0, _⟩ => rfl | ⟨1, _⟩ => rfl)

end Cert.FfnRefIdeal.Dense

namespace Cert.FfnIdeal.Dense

open Cert.FfnIdeal Cert.FfnIdeal.Gen
open Idealize.ShloMosaic
open Idealize.ShloMosaic.TcCoe Idealize.SL.Sem
open scoped BigOperators

/-- Every run ends with the result and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 (5 : Fin 6)).trans (array_eq m c), h.2 c⟩)
    (θ_run_and (run_main m g) (unchanged m g))

/-- The value claim. -/
theorem algebraic : Cert.algebraic_FfnIdeal_FfnRefIdeal := by
  intro m g m' g' _ hargs
  refine ⟨fun c => result m c, run m g, ?_⟩
  refine (θ_run _ _ _).mono (fun r h c => ⟨(h c).1.trans ?_, (h c).2⟩) (Cert.FfnRefIdeal.Value.run (F := Ideal) m' g')
  obtain ⟨h0, h1, h2, h3⟩ := hargs c
  have e (b : Ref Cert.FfnRefIdeal.sig .tc) : StableHlo.launchContents m' c (Proc.devRef .tc b)
      = m' ((c.tc : Thread Cert.FfnRefIdeal.nD Cert.FfnRefIdeal.τ).loc b) := rfl
  rw [Cert.FfnRefIdeal.Read.val_main_v19_eq, h0, h1, h2, h3]
  funext i
  rw [ValueIdx.eq_ix2 i]
  exact Cert.FfnRefIdeal.Dense.result_read _ _ _ _ (i 0) (i 1)

end Cert.FfnIdeal.Dense

end
-- ==== Proof.FinalValue.lean ====
/-
  What the final norm writes: every row of the result is that row of the joined tokens, normed.
-/
module

public import proofs.«01_k».proof.Proof.Gen.FinalIdeal.Frame
public import proofs.«01_k».proof.Proof.RmsMath
public import Idealize.ShloMosaic.Lib.Pipeline.Value
public import Idealize.ShloMosaic.Lib.Pointwise
public import Idealize.ShloMosaic.Lib.StableHlo.ReadAt

@[expose] public section

noncomputable section

namespace Cert.FinalIdeal.Norm

open Cert.FinalIdeal Cert.FinalIdeal.Gen Cert.RmsMath
open Idealize.ShloMosaic
open Idealize.ShloMosaic.TcCoe Idealize.SL.Sem
open scoped BigOperators

/-- The body's stored value at an element. -/
theorem pay1_apply (x0 : S544x2048.Idx → EReal) (x1 : S1x2048.Idx → EReal) (r : Fin 544) (d : Fin 2048) :
    k0_pay1 (F := Ideal) x0 x1 (ix2 r d) = rms (fun k => x0 (ix2 r k)) (fun k => x1 (ix2 (0 : Fin 1) k)) d := by
  unfold k0_pay1
  pointwise
  rfl

variable (m : (ℓ : Loc nD τ sig) → Buf (Elt Ideal) ℓ) (c : Dev nD)

/-- The three arrays the program is given. -/
abbrev argP : S2x4096x2048.Idx → EReal := m ((c : Thread nD τ).loc main_arg0)
abbrev argS : S128x4x2048.Idx → EReal := m ((c : Thread nD τ).loc main_arg1)
abbrev argG : S2048.Idx → EReal := m ((c : Thread nD τ).loc main_arg2)

/-- The joined tokens and the gain as the call finds them. -/
abbrev rows : S8704x2048.Idx → EReal := V m c main_v2
abbrev gain : S1x2048.Idx → EReal := V m c main_v3

theorem gain_read (d : Fin 2048) : gain m c (ix2 (0 : Fin 1) d) = argG m c (ix1 d) := by
  unfold gain V V0 hostOps0
  after_reads_at

theorem rows_at (i : S8704x2048.Idx) :
    rows m c i = concatenate S8704x2048 0 [⟨S8192x2048, shapeCast S8192x2048 (argP m c) shapeCasts_S2x4096x2048_S8192x2048⟩,
      ⟨S512x2048, shapeCast S512x2048 (argS m c) shapeCasts_S128x4x2048_S512x2048⟩] concatenates_S8192x2048_S512x2048_S8704x2048_d0 i := by
  unfold rows V V0 hostOps0
  after_reads_simp
  rfl

/-- The whole result: each joined row, normed. -/
def result : S8704x2048.Idx → EReal := fun i => rms (fun k => rows m c (ix2 (i 0) k)) (fun k => gain m c (ix2 (0 : Fin 1) k)) (i 1)

theorem row_val (t : Fin cfg0.N) : (grid0.coords t 0).val = t.val :=
  (Pipeline.Grid.coords_val (G := grid0) t 0 (S := 1) (B := 16) (by decide) rfl).trans (by have h : t.val < 16 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * t.val + r.val, by have h : t.val < 16 := t.isLt; omega⟩

theorem rows_block (t : Fin cfg0.N) (r : Fin 544) (k : Fin 2048) : iblk m c 0 t (ix2 r k) = rows m c (ix2 (rowOf t r) k) := by
  unfold iblk
  rw [View.read_apply]
  refine congrArg (rows m c) (funext fun x => Fin.ext ?_)
  have hv := row_val t
  have h : t.val < 16 := t.isLt
  match x with
  | ⟨0, _⟩ =>
    show (BitVec.ofNat 32 (grid0.coords t 0).val).toNat * 544 + 1 * r.val = 544 * t.val + r.val
    rw [word _ (by omega)]; omega
  | ⟨1, _⟩ => show 0 * 2048 + 1 * k.val = k.val; omega

theorem gain_block (t : Fin cfg0.N) (k : Fin 2048) : iblk m c 1 t (ix2 (0 : Fin 1) k) = gain m c (ix2 (0 : Fin 1) k) := by
  unfold iblk
  rw [View.read_apply]
  refine congrArg (gain m c) (funext fun x => Fin.ext ?_)
  match x with
  | ⟨0, _⟩ => rfl
  | ⟨1, _⟩ => show 0 * 2048 + 1 * k.val = k.val; omega

theorem out_emb (t : Fin cfg0.N) (y : ((cfg0.win (2 : Fin 3)).xblock (cfg0.grid.coords t)).Idx) :
    ((cfg0.win (2 : Fin 3)).blk t).view.emb y
      = (ix2 (rowOf t ⟨(y 0).val, (y 0).isLt⟩) (⟨(y 1).val, (y 1).isLt⟩ : Fin 2048) : S8704x2048.Idx) := by
  have hv := row_val t
  have h : t.val < 16 := t.isLt
  refine funext fun x => Fin.ext ?_
  match x with
  | ⟨0, _⟩ =>
    show (BitVec.ofNat 32 (grid0.coords t 0).val).toNat * 544 + 1 * (y 0).val = 544 * t.val + (y 0).val
    rw [word _ (by omega)]; omega
  | ⟨1, _⟩ => show 0 * 2048 + 1 * (y 1).val = (y 1).val; omega

theorem out_apply (x0 : S544x2048.Idx → EReal) (x1 : S1x2048.Idx → EReal) (r : Fin 544) (d : Fin 2048) :
    out0_2 (F := Ideal) x0 x1 (ix2 r d) = rms (fun k => x0 (ix2 r k)) (fun k => x1 (ix2 (0 : Fin 1) k)) d := by
  rw [← pay1_apply]
  unfold out0_2
  rw [View.canon_unit_zero (by funext a; fin_cases a <;> rfl), View.ld_unit_zero (by funext a; fin_cases a <;> rfl), View.ld_unit_zero (by funext a; fin_cases a <;> rfl)]

/-- What a point leaves in the output's buffer. -/
theorem block_eq (t : Fin cfg0.N) (r : Fin 544) (d : Fin 2048) :
    out0_2 (F := Ideal) (iblk m c 0 t) (iblk m c 1 t) (ix2 r d) = result m c (ix2 (rowOf t r) d) :=
  (out_apply (iblk m c 0 t) (iblk m c 1 t) r d).trans
    (congrArg₂ (fun p q => rms p q d) (funext fun k => rows_block m c t r k) (funext fun k => gain_block m c t k))

/-- The array after the run. -/
theorem array_eq : (dats m 0 c).arrAt (2 : Fin 3) cfg0.N = result m c := by
  refine (dats m 0 c).arrAt_eq_of_cover (2 : Fin 3) (result m c) (fun t hf => funext fun y => ?_) fun i => ?_
  · show _ = result m c (((cfg0.win (2 : Fin 3)).blk t).view.emb y)
    rw [out_emb t y]
    refine Eq.trans ?_ (block_eq m c t ⟨(y 0).val, (y 0).isLt⟩ ⟨(y 1).val, (y 1).isLt⟩)
    refine (congrFun (after0_2 m c t) _).trans ?_
    generalize out0_2 (F := Ideal) (iblk m c 0 t) (iblk m c 1 t) = f
    refine congrArg f (funext fun x => Fin.ext ?_)
    match x with
    | ⟨0, _⟩ => rfl
    | ⟨1, _⟩ => rfl
  · have h0 : ((i : S8704x2048.Idx) 0).val < 8704 := ((i : S8704x2048.Idx) 0).isLt
    let t : Fin cfg0.N := ⟨((i : S8704x2048.Idx) 0).val / 544, by show _ < 16; omega⟩
    have ht : t.val = ((i : S8704x2048.Idx) 0).val / 544 := rfl
    refine ⟨t, flush0_2 t, ?_⟩
    have e := out_emb t (fun x => match x with
      | ⟨0, _⟩ => ⟨((i : S8704x2048.Idx) 0).val % 544, Nat.mod_lt _ (by decide)⟩
      | ⟨1, _⟩ => ⟨((i : S8704x2048.Idx) 1).val, ((i : S8704x2048.Idx) 1).isLt⟩)
    have : (i : S8704x2048.Idx) = ix2 (rowOf t ⟨((i : S8704x2048.Idx) 0).val % 544, Nat.mod_lt _ (by decide)⟩) (((i : S8704x2048.Idx) 1)) := by
      refine funext fun x => Fin.ext ?_
      match x with
      | ⟨0, _⟩ => show ((i : S8704x2048.Idx) 0).val = 544 * t.val + ((i : S8704x2048.Idx) 0).val % 544; omega
      | ⟨1, _⟩ => rfl
    rw [this]
    exact Finset.mem_map.2 ⟨_, Finset.mem_univ _, e⟩

/-! ## The two results, after the lines that split the rows again -/

/-- What the program ends with in a buffer. -/
abbrev finalAt (b : Ref sig .tc) := Pipeline.afterTail₀ cfgs (dats m) 0 (V0 m) [hostOps1] c b

theorem split_array : (Pipeline.withArrays (cfgs 0).spec c (V0 m c) (fun w => (dats m 0 c).arrAt w (cfgs 0).N) (Proc.tc.devRef main_v4) : S8704x2048.Idx → EReal)
    = result m c := (Pipeline.withArrays_arr spec0 (by decide) c (V0 m c) _ (2 : Fin 3)).trans (array_eq m c)

theorem rows_prompt (b : Fin 2) (s : Fin 4096) (k : Fin 2048) (n : Fin 8704) (hn : n.val = b.val * 4096 + s.val) :
    rows m c (ix2 n k) = argP m c (ix3 b s k) := by
  refine (rows_at m c _).trans ((concatenate_pair_apply_left (s₁ := S8192x2048) (s₂ := S512x2048) (t := S8704x2048) (0 : Fin 2) _ _ _ (ix2 n k) rfl
    (ix2 (⟨b.val * 4096 + s.val, by omega⟩ : Fin 8192) k) (fun x => match x with | ⟨0, _⟩ => hn.symm | ⟨1, _⟩ => rfl)).trans ?_)
  pointwise

theorem rows_sample (b : Fin 128) (s : Fin 4) (k : Fin 2048) (n : Fin 8704) (hn : n.val = 8192 + (b.val * 4 + s.val)) :
    rows m c (ix2 n k) = argS m c (ix3 b s k) := by
  refine (rows_at m c _).trans ((concatenate_pair_apply_right (s₁ := S8192x2048) (s₂ := S512x2048) (t := S8704x2048) (0 : Fin 2) _ _ _ (ix2 n k) rfl rfl
    (ix2 (⟨b.val * 4 + s.val, by omega⟩ : Fin 512) k) (fun x hx => match x, hx with | ⟨0, _⟩, hx => absurd rfl hx | ⟨1, _⟩, _ => rfl)
    (by show b.val * 4 + s.val + 8192 = n.val; omega)).trans ?_)
  pointwise

theorem prompt_read (b : Fin 2) (s : Fin 4096) (d : Fin 2048) :
    (finalAt m c main_v6 : S2x4096x2048.Idx → EReal) (ix3 b s d) = rms (fun k => argP m c (ix3 b s k)) (fun k => argG m c (ix1 k)) d := by
  unfold finalAt Pipeline.afterTail₀ hostOps1
  simp only [List.flatten_cons, List.flatten_nil, List.append_nil]
  after_reads_at
  refine (congrFun (split_array m c) _).trans ?_
  exact congrArg₂ (fun p q => rms p q d) (funext fun k => rows_prompt m c b s k _ rfl) (funext fun k => gain_read m c k)

theorem sample_read (b : Fin 128) (s : Fin 4) (d : Fin 2048) :
    (finalAt m c main_v8 : S128x4x2048.Idx → EReal) (ix3 b s d) = rms (fun k => argS m c (ix3 b s k)) (fun k => argG m c (ix1 k)) d := by
  unfold finalAt Pipeline.afterTail₀ hostOps1
  simp only [List.flatten_cons, List.flatten_nil, List.append_nil]
  after_reads_at
  refine (congrFun (split_array m c) _).trans ?_
  refine congrArg₂ (fun p q => rms p q d) (funext fun k => rows_sample m c b s k _ rfl) (funext fun k => gain_read m c k)

end Cert.FinalIdeal.Norm

end
-- ==== Proof.FinalRefRead.lean ====
/-
  What the plain norm gives at an element of each of its two results.
-/
module

public import proofs.«01_k».proof.Proof.Gen.FinalRefIdeal.Read
public import proofs.«01_k».proof.Proof.RmsMath
public import Idealize.ShloMosaic.Lib.Pointwise

@[expose] public section

noncomputable section

namespace Cert.FinalRefIdeal.Norm

open Cert.FinalRefIdeal Cert.FinalRefIdeal.Gen Cert.FinalRefIdeal.Read Cert.RmsMath
open Idealize.ShloMosaic
open scoped BigOperators

/-- The prompt tokens, normed. -/
theorem prompt_read (x : S2x4096x2048.Idx → EReal) (g : S2048.Idx → EReal) (b : Fin 2) (s : Fin 4096) (d : Fin 2048) :
    val_main_v12 (F := Ideal) x g (ix3 b s d) = rms (fun k => x (ix3 b s k)) (fun k => g (ix1 k)) d := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  unfold rms scale len eps
  rfl

/-- The sample tokens, normed. -/
theorem sample_read (x : S128x4x2048.Idx → EReal) (g : S2048.Idx → EReal) (b : Fin 128) (s : Fin 4) (d : Fin 2048) :
    val_main_v25 (F := Ideal) x g (ix3 b s d) = rms (fun k => x (ix3 b s k)) (fun k => g (ix1 k)) d := by
  unfold val_main_v25 val_main_v24 val_main_v23 val_main_v22 val_main_v21 val_main_v20 val_main_v19 val_main_v18 val_main_cst_4 val_main_v17 val_main_v16 val_main_cst_3 val_main_v15 val_main_v14 val_main_cst_2 val_main_v13
  pointwise
  unfold rms scale len eps
  rfl

end Cert.FinalRefIdeal.Norm

end
-- ==== Proof.FinalClaim.lean ====
/-
  The final norm and its plain reference leave the same two results.
-/
module

public import proofs.«01_k».proof.Defs
public import proofs.«01_k».proof.Proof.FinalValue
public import proofs.«01_k».proof.Proof.FinalRefRead
public import proofs.«01_k».proof.Proof.Gen.FinalRefIdeal.Run
public import Idealize.ShloMosaic.Lib.Quiescent
public import Idealize.ShloMosaic.Lib.ValueIdx

@[expose] public section

noncomputable section

namespace Cert.FinalIdeal.Norm

open Cert.FinalIdeal Cert.FinalIdeal.Gen Cert.RmsMath
open Idealize.ShloMosaic
open Idealize.ShloMosaic.TcCoe Idealize.SL.Sem
open scoped BigOperators

/-- Every run ends with these contents and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6) = finalAt m c main_v6
      ∧ r.2.mem ((c.tc : Thread nD τ).loc main_v8) = finalAt m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c).2 main_v6 (Pipeline.mem_restRefs_of main_v6 (by decide) (by decide)), (h.1 c).2 main_v8 (Pipeline.mem_restRefs_of main_v8 (by decide) (by decide)), h.2 c⟩)
    (θ_run_and (run_main m g) (unchanged m g))

/-- The final norm's value claim. -/
theorem algebraic : Cert.algebraic_FinalIdeal_FinalRefIdeal := by
  intro m g m' g' _ hargs
  refine ⟨fun c => finalAt m c main_v6, fun c => finalAt m c main_v8, run m g, ?_⟩
  refine (θ_run _ _ _).mono (fun r h c => ⟨(h c).1.trans ?_, (h c).2.1.trans ?_, (h c).2.2⟩) (Cert.FinalRefIdeal.Value.run (F := Ideal) m' g')
  all_goals
    obtain ⟨h0, h1, h2⟩ := hargs c
    have e (b : Ref Cert.FinalRefIdeal.sig .tc) : StableHlo.launchContents m' c (Proc.devRef .tc b)
        = m' ((c.tc : Thread Cert.FinalRefIdeal.nD Cert.FinalRefIdeal.τ).loc b) := rfl
  · rw [Cert.FinalRefIdeal.Read.val_main_v12_eq, h0, h2]
    funext i
    rw [ValueIdx.eq_ix3 i]
    exact (Cert.FinalRefIdeal.Norm.prompt_read _ _ (i 0) (i 1) (i 2)).trans (prompt_read m c (i 0) (i 1) (i 2)).symm
  · rw [Cert.FinalRefIdeal.Read.val_main_v25_eq, h1, h2]
    funext i
    rw [ValueIdx.eq_ix3 i]
    exact (Cert.FinalRefIdeal.Norm.sample_read _ _ (i 0) (i 1) (i 2)).trans (sample_read m c (i 0) (i 1) (i 2)).symm

end Cert.FinalIdeal.Norm

end
-- ==== Proof.ProjTables.lean ====
/-
  What the lines before the in-projection's call make: the tables of cosines and sines.
-/
module

public import proofs.«01_k».proof.Proof.Gen.ProjIdeal.Frame
public import proofs.«01_k».proof.Proof.RmsMath
public import Idealize.ShloMosaic.Lib.Pipeline.Value
public import Idealize.ShloMosaic.Lib.Pipeline.ValueKit.Acc
public import Idealize.ShloMosaic.Lib.Pointwise
public import Idealize.ShloMosaic.Lib.KernelVsHost
public import Idealize.ShloMosaic.Lib.StableHlo.ReadAt

@[expose] public section

noncomputable section

namespace Cert.ProjIdeal.Heads

open Cert.ProjIdeal Cert.ProjIdeal.Gen Cert.RmsMath
open Idealize.ShloMosaic
open Idealize.ShloMosaic.TcCoe Idealize.SL.Sem
open scoped BigOperators

variable (W : Valuation τ sig (Elt Ideal))

/-- A buffer after the lines before the call. -/
abbrev tabAt (b : Ref sig .tc) := StableHlo.after hostOps0 W (Proc.devRef .tc b)
/-- The rows of the joined tokens, a head's two halves, and the joined positions. -/
abbrev promptRow (b : Fin 2) (s : Fin 4096) : Fin 8704 := ⟨b.val * 4096 + s.val, by omega⟩
abbrev sampleRow (b : Fin 128) (s : Fin 4) : Fin 8704 := ⟨8192 + (b.val * 4 + s.val), by omega⟩
abbrev lowHalf (i : Fin 32) : Fin 64 := ⟨i.val, by omega⟩
abbrev highHalf (i : Fin 32) : Fin 64 := ⟨32 + i.val, by omega⟩
abbrev sinHalf : S8704x32.Idx → EReal := tabAt W main_v27
abbrev posAt : S8704.Idx → BitVec 32 := tabAt W main_v13

set_option maxRecDepth 16384 in
/-- The positions: a prompt token's place, and 8192 further for a sample token. -/
theorem pos_prompt (b : Fin 2) (s : Fin 4096) : posAt W (ix1 (promptRow b s)) = BitVec.ofNat 32 s.val := by
  unfold posAt tabAt hostOps0
  after_reads_simp
  refine (concatenate_pair_apply_left (s₁ := S8192) (s₂ := S512) (t := S8704) (0 : Fin 1) _ _ _ (ix1 (promptRow b s)) rfl
    (ix1 (⟨b.val * 4096 + s.val, by omega⟩ : Fin 8192)) (fun x => match x with | ⟨0, _⟩ => rfl)).trans ?_
  pointwise

theorem pos_sample (b : Fin 128) (s : Fin 4) : posAt W (ix1 (sampleRow b s)) = IntOp.addi 8192#32 (BitVec.ofNat 32 s.val) := by
  unfold posAt tabAt hostOps0
  after_reads_simp
  refine (concatenate_pair_apply_right (s₁ := S8192) (s₂ := S512) (t := S8704) (0 : Fin 1) _ _ _ (ix1 (sampleRow b s)) rfl rfl
    (ix1 (⟨b.val * 4 + s.val, by omega⟩ : Fin 512)) (fun x hx => match x, hx with | ⟨0, _⟩, hx => absurd rfl hx) (Nat.add_comm _ _)).trans ?_
  pointwise

/-- The angles' table. -/
theorem half_apply (z : S8704.Idx → BitVec 32) (n : Fin 8704) (i : Fin 32) :
    mulf (F := Ideal) (φ := .f32) (broadcastInDim S8704x32 ![0, 1] bcast_S8704x1_S8704x32_0_1 (broadcastInDim S8704x1 ![0] bcast_S8704_S8704x1_0 (sitofp .f32 z)))
      (broadcastInDim S8704x32 ![0, 1] bcast_S1x32_S8704x32_0_1 (broadcastInDim S1x32 ![1] bcast_S32_S1x32_1
        (Host.powf (broadcastInDim S32 ![] bcast_S_S32 (constant S_ .f32 1176256512#32))
          (Host.divf (Host.negf (sitofp .f32 (iotaInDim S32 32 0))) (broadcastInDim S32 ![] bcast_S_S32 (constant S_ .f32 1107296256#32)))))) (ix2 n i)
      = angle 0x42000000#32 (z (ix1 n)) (BitVec.ofNat 32 i.val) := by
  pointwise
  rfl

abbrev angAt : S8704x32.Idx → EReal := tabAt W main_v25

theorem angle_read (n : Fin 8704) (i : Fin 32) : angAt W (ix2 n i) = angle 0x42000000#32 (posAt W (ix1 n)) (BitVec.ofNat 32 i.val) := by
  refine Eq.trans (congrFun ?_ _) (half_apply (posAt W) n i)
  unfold angAt posAt tabAt hostOps0
  after_reads_simp

theorem cos_half (n : Fin 8704) (i : Fin 32) : (tabAt W main_v26 : S8704x32.Idx → EReal) (ix2 n i) = Ideal.cos (angAt W (ix2 n i)) := by
  unfold angAt tabAt hostOps0
  after_reads_simp
  rfl

theorem sin_half (n : Fin 8704) (i : Fin 32) : (tabAt W main_v27 : S8704x32.Idx → EReal) (ix2 n i) = Ideal.sin (angAt W (ix2 n i)) := by
  unfold angAt tabAt hostOps0
  after_reads_simp
  rfl

/-- A row of a head's table laid out twice. -/
theorem lay_apply (z : S8704x64.Idx → EReal) (n : Fin 8704) (l : Fin 128) :
    shapeCast S8704x128 (broadcastInDim S1x8704x2x64 ![0, 1, 2, 3] bcast_S1x8704x1x64_S1x8704x2x64_0_1_2_3
      (shapeCast S1x8704x1x64 z shapeCasts_S8704x64_S1x8704x1x64)) shapeCasts_S1x8704x2x64_S8704x128 (ix2 n l)
      = z (ix2 n ⟨l.val % 64, Nat.mod_lt _ (by decide)⟩) := by
  pointwise

/-- Each table holds a head's row twice. -/
theorem cos_row (n : Fin 8704) (l : Fin 128) : (tabAt W main_v31 : S8704x128.Idx → EReal) (ix2 n l)
    = (tabAt W main_v28 : S8704x64.Idx → EReal) (ix2 n ⟨l.val % 64, Nat.mod_lt _ (by decide)⟩) := by
  refine Eq.trans (congrFun ?_ _) (lay_apply (tabAt W main_v28) n l)
  unfold tabAt hostOps0
  after_reads_simp
  rfl

theorem sin_row (n : Fin 8704) (l : Fin 128) : (tabAt W main_v36 : S8704x128.Idx → EReal) (ix2 n l)
    = (tabAt W main_v33 : S8704x64.Idx → EReal) (ix2 n ⟨l.val % 64, Nat.mod_lt _ (by decide)⟩) := by
  refine Eq.trans (congrFun ?_ _) (lay_apply (tabAt W main_v33) n l)
  unfold tabAt hostOps0
  after_reads_simp
  rfl

theorem cos_row_low (n : Fin 8704) (i : Fin 32) : (tabAt W main_v28 : S8704x64.Idx → EReal) (ix2 n (lowHalf i))
    = (tabAt W main_v26 : S8704x32.Idx → EReal) (ix2 n i) := by
  unfold tabAt hostOps0
  after_reads_simp
  refine (concatenate_pair_apply_left (s₁ := S8704x32) (s₂ := S8704x32) (t := S8704x64) (1 : Fin 2) _ _ _ (ix2 n (lowHalf i)) rfl
    (ix2 n i) (fun x => match x with | ⟨0, _⟩ => rfl | ⟨1, _⟩ => rfl)).trans ?_
  after_reads_simp

theorem cos_row_high (n : Fin 8704) (i : Fin 32) : (tabAt W main_v28 : S8704x64.Idx → EReal) (ix2 n (highHalf i))
    = (tabAt W main_v26 : S8704x32.Idx → EReal) (ix2 n i) := by
  unfold tabAt hostOps0
  after_reads_simp
  refine (concatenate_pair_apply_right (s₁ := S8704x32) (s₂ := S8704x32) (t := S8704x64) (1 : Fin 2) _ _ _ (ix2 n (highHalf i)) rfl rfl
    (ix2 n i) (fun x hx => match x, hx with | ⟨0, _⟩, _ => rfl | ⟨1, _⟩, hx => absurd rfl hx) (Nat.add_comm _ _)).trans ?_
  after_reads_simp

theorem sin_row_low (n : Fin 8704) (i : Fin 32) : (tabAt W main_v33 : S8704x64.Idx → EReal) (ix2 n (lowHalf i))
    = (tabAt W main_v32 : S8704x32.Idx → EReal) (ix2 n i) := by
  unfold tabAt hostOps0
  after_reads_simp
  refine (concatenate_pair_apply_left (s₁ := S8704x32) (s₂ := S8704x32) (t := S8704x64) (1 : Fin 2) _ _ _ (ix2 n (lowHalf i)) rfl
    (ix2 n i) (fun x => match x with | ⟨0, _⟩ => rfl | ⟨1, _⟩ => rfl)).trans ?_
  after_reads_simp

theorem sin_row_high (n : Fin 8704) (i : Fin 32) : (tabAt W main_v33 : S8704x64.Idx → EReal) (ix2 n (highHalf i))
    = (tabAt W main_v27 : S8704x32.Idx → EReal) (ix2 n i) := by
  unfold tabAt hostOps0
  after_reads_simp
  refine (concatenate_pair_apply_right (s₁ := S8704x32) (s₂ := S8704x32) (t := S8704x64) (1 : Fin 2) _ _ _ (ix2 n (highHalf i)) rfl rfl
    (ix2 n i) (fun x hx => match x, hx with | ⟨0, _⟩, _ => rfl | ⟨1, _⟩, hx => absurd rfl hx) (Nat.add_comm _ _)).trans ?_
  after_reads_simp

theorem sin_neg (n : Fin 8704) (i : Fin 32) : (tabAt W main_v32 : S8704x32.Idx → EReal) (ix2 n i)
    = -sinHalf W (ix2 n i) := by
  unfold sinHalf tabAt hostOps0
  after_reads_simp
  rfl

end Cert.ProjIdeal.Heads

end
-- ==== Proof.ProjBody.lean ====
/-
  The in-projection's body at an element: the normed rows, their product, and its turned heads.
-/
module

public import proofs.«01_k».proof.Proof.Gen.ProjIdeal.Frame
public import proofs.«01_k».proof.Proof.RmsMath
public import Idealize.ShloMosaic.Lib.Pipeline.Value
public import Idealize.ShloMosaic.Lib.Pipeline.ValueKit.Acc
public import Idealize.ShloMosaic.Lib.Pointwise
public import Idealize.ShloMosaic.Lib.KernelVsHost
public import Idealize.ShloMosaic.Lib.StableHlo.ReadAt

@[expose] public section

noncomputable section

namespace Cert.ProjIdeal.Heads

open Cert.ProjIdeal Cert.ProjIdeal.Gen Cert.RmsMath
open Idealize.ShloMosaic
open Idealize.ShloMosaic.TcCoe Idealize.SL.Sem
open scoped BigOperators

/-- The normed rows and their product with a block of weights. -/
theorem norm_apply (x0 : S544x2048.Idx → EReal) (x1 : S1x2048.Idx → EReal) (r : Fin 544) (k : Fin 2048) :
    k0_pay1 (F := Ideal) x0 x1 (ix2 r k) = rms (fun k => x0 (ix2 r k)) (fun k => x1 (ix2 (0 : Fin 1) k)) k := by
  unfold k0_pay1
  pointwise
  rfl

theorem prod_apply (z : S544x2048.Idx → EReal) (x2 : S2048x512.Idx → EReal) (r : Fin 544) (d : Fin 512) :
    k0_pay2 (F := Ideal) z x2 (ix2 r d) = ∑ k : Fin 2048, z (ix2 r k) * x2 (ix2 k d) := by
  unfold k0_pay2
  pointwise

/-- A table's row laid out four times along the block's columns. -/
theorem spread_apply (v : S544x128.Idx → EReal) (r : Fin 544) (q : Fin 512) :
    concatenate S544x512 1 [⟨S544x128, shapeCast S544x128 v shapeCasts_S544x128_S544x128⟩, ⟨S544x128, shapeCast S544x128 v shapeCasts_S544x128_S544x128⟩,
      ⟨S544x128, shapeCast S544x128 v shapeCasts_S544x128_S544x128⟩, ⟨S544x128, shapeCast S544x128 v shapeCasts_S544x128_S544x128⟩]
      concatenates_S544x128_S544x128_S544x128_S544x128_S544x512_d1 (ix2 r q) = v (ix2 r ⟨q.val % 128, Nat.mod_lt _ (by decide)⟩) := by
  refine (concatenate_replicate_apply (t := S544x512) (s₁ := S544x128) (1 : Fin 2) 4 (shapeCast S544x128 v shapeCasts_S544x128_S544x128) _ rfl (ix2 r q)
    (ix2 r ⟨q.val % 128, Nat.mod_lt _ (by decide)⟩) rfl (fun b hb => match b, hb with | ⟨0, _⟩, _ => rfl | ⟨1, _⟩, hb => absurd rfl hb)).trans ?_
  pointwise

/-- The bit the body picks an element's partner by: set in the first half of a head. -/
def side (q : Fin 512) : BitVec 1 :=
  IntOp.cmpi CmpIPredicate.slt
          (Scalar.select
            (IntOp.andi
              (IntOp.xori
                (IntOp.cmpi CmpIPredicate.slt
                  (IntOp.remsi ArithUnit.vector (BitVec.ofNat 32 q.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 q.val)
                  (Scalar.select (Scalar.cmpi CmpIPredicate.eq 64#32 0#32) 1#32 64#32))
                0#32))
            (IntOp.addi
              (IntOp.remsi ArithUnit.vector (BitVec.ofNat 32 q.val)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 q.val)
              (Scalar.select (Scalar.cmpi CmpIPredicate.eq 64#32 0#32) 1#32 64#32)))
          32#32

/-- Where an element of a block's head lies: in its first half or in its second. -/
abbrev lowAt (h : Fin 8) (i : Fin 32) : Fin 512 := ⟨h.val * 64 + i.val, by omega⟩
abbrev highAt (h : Fin 8) (i : Fin 32) : Fin 512 := ⟨h.val * 64 + (32 + i.val), by omega⟩

theorem side_low : ∀ (h : Fin 8) (i : Fin 32), side (lowAt h i) = 1#1 := by decide +kernel
theorem side_high : ∀ (h : Fin 8) (i : Fin 32), side (highAt h i) = 0#1 := by decide +kernel

/-- The turned block at an element. -/
theorem turn_apply (z : S544x2048.Idx → EReal) (x2 : S2048x512.Idx → EReal) (cs sn : S544x128.Idx → EReal) (r : Fin 544) (q : Fin 512) :
    k0_pay3 (F := Ideal) z x2 cs sn (ix2 r q)
      = k0_pay2 (F := Ideal) z x2 (ix2 r q) * cs (ix2 r ⟨q.val % 128, Nat.mod_lt _ (by decide)⟩)
        + Scalar.select (side q) (k0_pay2 (F := Ideal) z x2 (ix2 r ⟨(q.val + 512 - 480) % 512, Nat.mod_lt _ (by decide)⟩))
            (k0_pay2 (F := Ideal) z x2 (ix2 r ⟨(q.val + 512 - 32) % 512, Nat.mod_lt _ (by decide)⟩))
          * sn (ix2 r ⟨q.val % 128, Nat.mod_lt _ (by decide)⟩) := by
  rw [← spread_apply cs r q, ← spread_apply sn r q]
  unfold k0_pay3
  generalize k0_pay2 (F := Ideal) z x2 = y
  generalize concatenate S544x512 1 [⟨S544x128, shapeCast S544x128 cs shapeCasts_S544x128_S544x128⟩, ⟨S544x128, shapeCast S544x128 cs shapeCasts_S544x128_S544x128⟩,
      ⟨S544x128, shapeCast S544x128 cs shapeCasts_S544x128_S544x128⟩, ⟨S544x128, shapeCast S544x128 cs shapeCasts_S544x128_S544x128⟩]
      concatenates_S544x128_S544x128_S544x128_S544x128_S544x512_d1 = a
  generalize concatenate S544x512 1 [⟨S544x128, shapeCast S544x128 sn shapeCasts_S544x128_S544x128⟩, ⟨S544x128, shapeCast S544x128 sn shapeCasts_S544x128_S544x128⟩,
      ⟨S544x128, shapeCast S544x128 sn shapeCasts_S544x128_S544x128⟩, ⟨S544x128, shapeCast S544x128 sn shapeCasts_S544x128_S544x128⟩]
      concatenates_S544x128_S544x128_S544x128_S544x128_S544x512_d1 = b
  unfold side
  pointwise

theorem turn_low (z : S544x2048.Idx → EReal) (x2 : S2048x512.Idx → EReal) (cs sn : S544x128.Idx → EReal) (r : Fin 544) (h : Fin 8) (i : Fin 32) :
    k0_pay3 (F := Ideal) z x2 cs sn (ix2 r (lowAt h i))
      = k0_pay2 (F := Ideal) z x2 (ix2 r (lowAt h i)) * cs (ix2 r ⟨(lowAt h i).val % 128, Nat.mod_lt _ (by decide)⟩)
        + k0_pay2 (F := Ideal) z x2 (ix2 r (highAt h i)) * sn (ix2 r ⟨(lowAt h i).val % 128, Nat.mod_lt _ (by decide)⟩) := by
  rw [turn_apply, side_low]
  refine congrArg (fun e => _ + e * _) ((if_pos rfl).trans (congrArg (fun q => k0_pay2 (F := Ideal) z x2 (ix2 r q)) (Fin.ext ?_)))
  show (h.val * 64 + i.val + 512 - 480) % 512 = h.val * 64 + (32 + i.val)
  omega

theorem turn_high (z : S544x2048.Idx → EReal) (x2 : S2048x512.Idx → EReal) (cs sn : S544x128.Idx → EReal) (r : Fin 544) (h : Fin 8) (i : Fin 32) :
    k0_pay3 (F := Ideal) z x2 cs sn (ix2 r (highAt h i))
      = k0_pay2 (F := Ideal) z x2 (ix2 r (highAt h i)) * cs (ix2 r ⟨(highAt h i).val % 128, Nat.mod_lt _ (by decide)⟩)
        + k0_pay2 (F := Ideal) z x2 (ix2 r (lowAt h i)) * sn (ix2 r ⟨(highAt h i).val % 128, Nat.mod_lt _ (by decide)⟩) := by
  rw [turn_apply, side_high]
  refine congrArg (fun e => _ + e * _) ((if_neg (by decide)).trans (congrArg (fun q => k0_pay2 (F := Ideal) z x2 (ix2 r q)) (Fin.ext ?_)))
  show (h.val * 64 + (32 + i.val) + 512 - 32) % 512 = h.val * 64 + i.val
  omega

end Cert.ProjIdeal.Heads

end
-- ==== Proof.ProjValue.lean ====
/-
  What the in-projection's call writes: the product of the normed rows, its query and key heads turned.
-/
module

public import proofs.«01_k».proof.Proof.Gen.ProjIdeal.Frame
public import proofs.«01_k».proof.Proof.ProjTables
public import proofs.«01_k».proof.Proof.ProjBody
public import Idealize.ShloMosaic.Lib.Pipeline.Value
public import Idealize.ShloMosaic.Lib.Pipeline.ValueKit.Acc
public import Idealize.ShloMosaic.Lib.Pointwise
public import Idealize.ShloMosaic.Lib.KernelVsHost
public import Idealize.ShloMosaic.Lib.StableHlo.ReadAt

@[expose] public section

noncomputable section

namespace Cert.ProjIdeal.Heads

open Cert.ProjIdeal Cert.ProjIdeal.Gen Cert.RmsMath
open Idealize.ShloMosaic
open Idealize.ShloMosaic.TcCoe Idealize.SL.Sem
open scoped BigOperators

variable (m : (ℓ : Loc nD τ sig) → Buf (Elt Ideal) ℓ) (c : Dev nD)

/-- The arrays the call reads: tokens, gain and weights. -/
abbrev argP : S2x4096x2048.Idx → EReal := m ((c : Thread nD τ).loc main_arg0)
abbrev argS : S128x4x2048.Idx → EReal := m ((c : Thread nD τ).loc main_arg1)
abbrev argG : S2048.Idx → EReal := m ((c : Thread nD τ).loc main_arg5)
abbrev argW : S2048x4608.Idx → EReal := m ((c : Thread nD τ).loc main_arg6)

/-- The joined tokens, the gain, the weights and the two tables as the call finds them. -/
abbrev rows : S8704x2048.Idx → EReal := V m c main_v2
abbrev gain : S1x2048.Idx → EReal := V m c main_v37
abbrev wts : S2048x4608.Idx → EReal := V m c main_arg6
abbrev cosT : S8704x128.Idx → EReal := V m c main_v31
abbrev sinT : S8704x128.Idx → EReal := V m c main_v36

theorem gain_read (d : Fin 2048) : gain m c (ix2 (0 : Fin 1) d) = argG m c (ix1 d) := by
  unfold gain V V0 hostOps0
  after_reads_at

theorem rows_at (i : S8704x2048.Idx) :
    rows m c i = concatenate S8704x2048 0 [⟨S8192x2048, shapeCast S8192x2048 (argP m c) shapeCasts_S2x4096x2048_S8192x2048⟩,
      ⟨S512x2048, shapeCast S512x2048 (argS m c) shapeCasts_S128x4x2048_S512x2048⟩] concatenates_S8192x2048_S512x2048_S8704x2048_d0 i := by
  unfold rows V V0 hostOps0
  after_reads_simp
  rfl

theorem V_tab (b : Ref sig .tc) : V m c b = tabAt (fun b => m (c, b)) b := by
  unfold V V0 tabAt
  simp only [List.flatten_cons, List.flatten_nil, List.append_nil]

/-! ## The blocks -/

theorem row_val (t : Fin cfg0.N) : (grid0.coords t 0).val = t.val / 9 :=
  (Pipeline.Grid.coords_val (G := grid0) t 0 (S := 9) (B := 16) (by decide) rfl).trans (by have h : t.val < 144 := t.isLt; omega)

theorem col_val (t : Fin cfg0.N) : (grid0.coords t 1).val = t.val % 9 :=
  (Pipeline.Grid.coords_val (G := grid0) t 1 (S := 1) (B := 9) (by decide) rfl).trans (by have h : t.val < 144 := t.isLt; omega)

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * (t.val / 9) + r.val, by have h : t.val < 144 := t.isLt; omega⟩
abbrev colOf (t : Fin cfg0.N) (q : Fin 512) : Fin 4608 := ⟨512 * (t.val % 9) + q.val, by omega⟩

theorem rows_block (t : Fin cfg0.N) (r : Fin 544) (k : Fin 2048) : iblk m c 0 t (ix2 r k) = rows m c (ix2 (rowOf t r) k) := by
  unfold iblk
  rw [View.read_apply]
  refine congrArg (rows m c) (funext fun x => Fin.ext ?_)
  have hv := row_val t
  have h : t.val < 144 := t.isLt
  match x with
  | ⟨0, _⟩ =>
    show (BitVec.ofNat 32 (grid0.coords t 0).val).toNat * 544 + 1 * r.val = 544 * (t.val / 9) + r.val
    rw [word _ (by omega)]; omega
  | ⟨1, _⟩ => show 0 * 2048 + 1 * k.val = k.val; omega

theorem gain_block (t : Fin cfg0.N) (k : Fin 2048) : iblk m c 1 t (ix2 (0 : Fin 1) k) = gain m c (ix2 (0 : Fin 1) k) := by
  unfold iblk
  rw [View.read_apply]
  refine congrArg (gain m c) (funext fun x => Fin.ext ?_)
  match x with
  | ⟨0, _⟩ => rfl
  | ⟨1, _⟩ => show 0 * 2048 + 1 * k.val = k.val; omega

theorem wts_block (t : Fin cfg0.N) (k : Fin 2048) (q : Fin 512) : iblk m c 2 t (ix2 k q) = wts m c (ix2 k (colOf t q)) := by
  unfold iblk
  rw [View.read_apply]
  refine congrArg (wts m c) (funext fun x => Fin.ext ?_)
  have hv := col_val t
  have h : t.val < 144 := t.isLt
  match x with
  | ⟨0, _⟩ => show 0 * 2048 + 1 * k.val = k.val; omega
  | ⟨1, _⟩ =>
    show (BitVec.ofNat 32 (grid0.coords t 1).val).toNat * 512 + 1 * q.val = 512 * (t.val % 9) + q.val
    rw [word _ (by omega)]; omega

theorem cos_block (t : Fin cfg0.N) (r : Fin 544) (l : Fin 128) : iblk m c 3 t (ix2 r l) = cosT m c (ix2 (rowOf t r) l) := by
  unfold iblk
  rw [View.read_apply]
  refine congrArg (cosT m c) (funext fun x => Fin.ext ?_)
  have hv := row_val t
  have h : t.val < 144 := t.isLt
  match x with
  | ⟨0, _⟩ =>
    show (BitVec.ofNat 32 (grid0.coords t 0).val).toNat * 544 + 1 * r.val = 544 * (t.val / 9) + r.val
    rw [word _ (by omega)]; omega
  | ⟨1, _⟩ => show 0 * 128 + 1 * l.val = l.val; omega

theorem sin_block (t : Fin cfg0.N) (r : Fin 544) (l : Fin 128) : iblk m c 4 t (ix2 r l) = sinT m c (ix2 (rowOf t r) l) := by
  unfold iblk
  rw [View.read_apply]
  refine congrArg (sinT m c) (funext fun x => Fin.ext ?_)
  have hv := row_val t
  have h : t.val < 144 := t.isLt
  match x with
  | ⟨0, _⟩ =>
    show (BitVec.ofNat 32 (grid0.coords t 0).val).toNat * 544 + 1 * r.val = 544 * (t.val / 9) + r.val
    rw [word _ (by omega)]; omega
  | ⟨1, _⟩ => show 0 * 128 + 1 * l.val = l.val; omega

/-! ## The scratch holds the point's normed rows -/

/-- The normed rows of a row tile. -/
def normed (i : ℕ) : S544x2048.Idx → EReal := fun x =>
  rms (fun k => rows m c (ix2 (⟨(544 * i + (x 0).val) % 8704, Nat.mod_lt _ (by decide)⟩ : Fin 8704) k)) (fun k => gain m c (ix2 (0 : Fin 1) k)) (x 1)

theorem normed_apply (t : Fin cfg0.N) (r : Fin 544) (k : Fin 2048) : normed m c (t.val / 9) (ix2 r k)
    = rms (fun k => rows m c (ix2 (rowOf t r) k)) (fun k => gain m c (ix2 (0 : Fin 1) k)) k := by
  have h : t.val < 144 := t.isLt
  have e : (⟨(544 * (t.val / 9) + r.val) % 8704, Nat.mod_lt _ (by decide)⟩ : Fin 8704) = rowOf t r :=
    Fin.ext (Nat.mod_eq_of_lt (by omega))
  show rms (fun k => rows m c (ix2 (⟨(544 * (t.val / 9) + r.val) % 8704, Nat.mod_lt _ (by decide)⟩ : Fin 8704) k)) _ k = _
  rw [e]

theorem pay_normed (t : Fin cfg0.N) : k0_pay1 (F := Ideal) (iblk m c 0 t) (iblk m c 1 t) = normed m c (t.val / 9) := by
  funext x
  rw [ValueIdx.eq_ix2 x]
  refine (norm_apply (iblk m c 0 t) (iblk m c 1 t) (x 0) (x 1)).trans (Eq.trans ?_ (normed_apply m c t (x 0) (x 1)).symm)
  rw [show (fun k => iblk m c 0 t (ix2 (x 0) k)) = fun k => rows m c (ix2 (rowOf t (x 0)) k) from funext fun k => rows_block m c t (x 0) k,
    show (fun k => iblk m c 1 t (ix2 (0 : Fin 1) k)) = fun k => gain m c (ix2 (0 : Fin 1) k) from funext fun k => gain_block m c t k]

theorem scratch_A (t : Fin cfg0.N) (h0 : t.val % 9 = 0) : (outsAt0 m c t.val t.isLt).2 = normed m c (t.val / 9) := by
  rw [outsAt0_A m c t h0 (by omega) (by omega), ← pay_normed]
  dsimp only
  unfold sout0_A_0
  frame_out

theorem scratch_eq : ∀ (n : ℕ) (hn : n < cfg0.N), (outsAt0 m c n hn).2 = normed m c (n / 9)
  | 0, hn => scratch_A m c ⟨0, hn⟩ rfl
  | n + 1, hn => by
    by_cases h0 : (n + 1) % 9 = 0
    · exact scratch_A m c ⟨n + 1, hn⟩ h0
    · have ih := scratch_eq n (Nat.lt_of_succ_lt hn)
      have e : (n + 1) / 9 = n / 9 := by omega
      rw [e, ← ih]
      by_cases h1 : (n + 1) % 9 ≤ 5
      · have e2 : outsAt0 m c (n + 1) hn = _ := outsAt0_B m c ⟨n + 1, hn⟩ h0 h1 (by show ¬6 ≤ (n + 1) % 9; omega)
        rw [e2]
        dsimp only
        unfold sout0_B_0
        rfl
      · have e2 : outsAt0 m c (n + 1) hn = _ := outsAt0_C m c ⟨n + 1, hn⟩ h0 h1 (by show 6 ≤ (n + 1) % 9; omega)
        rw [e2]
        dsimp only
        unfold sout0_C_0
        rfl

/-- What a point of the first six column tiles leaves in the output's buffer. -/
theorem outs_turned (t : Fin cfg0.N) (h : t.val % 9 ≤ 5) :
    (outsAt0 m c t.val t.isLt).1 = k0_pay3 (F := Ideal) (normed m c (t.val / 9)) (iblk m c 2 t) (iblk m c 3 t) (iblk m c 4 t) := by
  by_cases h0 : t.val % 9 = 0
  · rw [outsAt0_A m c t h0 (by omega) (by omega), ← pay_normed]
    dsimp only
    unfold out0_A_5
    frame_out
  · have e : (t.val - 1) / 9 = t.val / 9 := by omega
    rw [outsAt0_B m c t h0 h (by omega), ← e, ← scratch_eq m c (t.val - 1) (Nat.lt_of_le_of_lt (Nat.sub_le _ _) t.isLt)]
    dsimp only
    unfold out0_B_5
    frame_out
    exact congrArg (fun z => k0_pay3 (F := Ideal) z _ _ _) (Memref.IsWhole.read_unread (Memref.isWhole_whole cc0_scratch0) _)

/-- And of the last three. -/
theorem outs_plain (t : Fin cfg0.N) (h : 6 ≤ t.val % 9) :
    (outsAt0 m c t.val t.isLt).1 = k0_pay2 (F := Ideal) (normed m c (t.val / 9)) (iblk m c 2 t) := by
  have e : (t.val - 1) / 9 = t.val / 9 := by omega
  rw [outsAt0_C m c t (by omega) (by omega) h, ← e, ← scratch_eq m c (t.val - 1) (Nat.lt_of_le_of_lt (Nat.sub_le _ _) t.isLt)]
  dsimp only
  unfold out0_C_5
  frame_out
  exact congrArg (fun z => k0_pay2 (F := Ideal) z _) (Memref.IsWhole.read_unread (Memref.isWhole_whole cc0_scratch0) _)

/-- An element of the product of the normed rows. -/
def prodAt (n : Fin 8704) (d : Fin 4608) : EReal :=
  proj (fun k => rows m c (ix2 n k)) (fun k => gain m c (ix2 (0 : Fin 1) k)) (fun k => wts m c (ix2 k d))

theorem block_prod (t : Fin cfg0.N) (r : Fin 544) (q : Fin 512) :
    k0_pay2 (F := Ideal) (normed m c (t.val / 9)) (iblk m c 2 t) (ix2 r q) = prodAt m c (rowOf t r) (colOf t q) := by
  refine (prod_apply (normed m c (t.val / 9)) (iblk m c 2 t) r q).trans ?_
  unfold prodAt proj
  refine Finset.sum_congr rfl fun k _ => ?_
  rw [normed_apply]
  exact congrArg (fun e => _ * e) (wts_block m c t k q)

/-! ## The array after the call -/

/-- The whole array: each element is its point's. -/
def result : S8704x4608.Idx → EReal := fun i =>
  (outsAt0 m c (9 * ((i 0).val / 544) + (i 1).val / 512) (by
      have h0 : (i 0).val < 8704 := (i 0).isLt
      have h1 : (i 1).val < 4608 := (i 1).isLt
      show _ < 144
      omega)).1
    (ix2 (⟨(i 0).val % 544, Nat.mod_lt _ (by decide)⟩ : Fin 544) (⟨(i 1).val % 512, Nat.mod_lt _ (by decide)⟩ : Fin 512))

theorem outs_congr (a b : ℕ) (ha : a < cfg0.N) (hb : b < cfg0.N) (x y : Fin 544) (p q : Fin 512) (hab : a = b) (hx : x = y) (hp : p = q) :
    (outsAt0 m c a ha).1 (ix2 x p) = (outsAt0 m c b hb).1 (ix2 y q) := by
  subst hab hx hp; rfl

theorem result_at (t : Fin cfg0.N) (r : Fin 544) (q : Fin 512) : result m c (ix2 (rowOf t r) (colOf t q)) = (outsAt0 m c t.val t.isLt).1 (ix2 r q) := by
  have h : t.val < 144 := t.isLt
  refine outs_congr m c _ _ _ _ _ _ _ _ ?_ (Fin.ext ?_) (Fin.ext ?_)
  · show 9 * ((544 * (t.val / 9) + r.val) / 544) + (512 * (t.val % 9) + q.val) / 512 = t.val
    omega
  · show (544 * (t.val / 9) + r.val) % 544 = r.val
    omega
  · show (512 * (t.val % 9) + q.val) % 512 = q.val
    omega

theorem out_emb (t : Fin cfg0.N) (y : ((cfg0.win (5 : Fin 6)).xblock (cfg0.grid.coords t)).Idx) :
    ((cfg0.win (5 : Fin 6)).blk t).view.emb y
      = (ix2 (rowOf t ⟨(y 0).val, (y 0).isLt⟩) (colOf t ⟨(y 1).val, (y 1).isLt⟩) : S8704x4608.Idx) := by
  have hv := row_val t
  have hw := col_val t
  have h : t.val < 144 := t.isLt
  refine funext fun x => Fin.ext ?_
  match x with
  | ⟨0, _⟩ =>
    show (BitVec.ofNat 32 (grid0.coords t 0).val).toNat * 544 + 1 * (y 0).val = 544 * (t.val / 9) + (y 0).val
    rw [word _ (by omega)]; omega
  | ⟨1, _⟩ =>
    show (BitVec.ofNat 32 (grid0.coords t 1).val).toNat * 512 + 1 * (y 1).val = 512 * (t.val % 9) + (y 1).val
    rw [word _ (by omega)]; omega

theorem array_eq : (dats m 0 c).arrAt (5 : Fin 6) cfg0.N = result m c := by
  refine (dats m 0 c).arrAt_eq_of_cover (5 : Fin 6) (result m c) (fun t hf => funext fun y => ?_) fun i => ?_
  · show _ = result m c (((cfg0.win (5 : Fin 6)).blk t).view.emb y)
    rw [out_emb t y]
    refine Eq.trans ?_ (result_at m c t ⟨(y 0).val, (y 0).isLt⟩ ⟨(y 1).val, (y 1).isLt⟩).symm
    refine (congrFun (after0_5 m c t) _).trans ?_
    generalize (outsAt0 m c t.val t.isLt).1 = f
    refine congrArg f (funext fun x => Fin.ext ?_)
    match x with
    | ⟨0, _⟩ => rfl
    | ⟨1, _⟩ => rfl
  · have h0 : ((i : S8704x4608.Idx) 0).val < 8704 := ((i : S8704x4608.Idx) 0).isLt
    have h1 : ((i : S8704x4608.Idx) 1).val < 4608 := ((i : S8704x4608.Idx) 1).isLt
    let t : Fin cfg0.N := ⟨9 * (((i : S8704x4608.Idx) 0).val / 544) + ((i : S8704x4608.Idx) 1).val / 512, by show _ < 144; omega⟩
    have ht : t.val = 9 * (((i : S8704x4608.Idx) 0).val / 544) + ((i : S8704x4608.Idx) 1).val / 512 := rfl
    refine ⟨t, flush0_5 t, ?_⟩
    have e := out_emb t (fun x => match x with
      | ⟨0, _⟩ => ⟨((i : S8704x4608.Idx) 0).val % 544, Nat.mod_lt _ (by decide)⟩
      | ⟨1, _⟩ => ⟨((i : S8704x4608.Idx) 1).val % 512, Nat.mod_lt _ (by decide)⟩)
    have : (i : S8704x4608.Idx) = ix2 (rowOf t ⟨((i : S8704x4608.Idx) 0).val % 544, Nat.mod_lt _ (by decide)⟩)
        (colOf t ⟨((i : S8704x4608.Idx) 1).val % 512, Nat.mod_lt _ (by decide)⟩) := by
      refine funext fun x => Fin.ext ?_
      match x with
      | ⟨0, _⟩ => show ((i : S8704x4608.Idx) 0).val = 544 * (t.val / 9) + ((i : S8704x4608.Idx) 0).val % 544; omega
      | ⟨1, _⟩ => show ((i : S8704x4608.Idx) 1).val = 512 * (t.val % 9) + ((i : S8704x4608.Idx) 1).val % 512; omega
    rw [this]
    exact Finset.mem_map.2 ⟨_, Finset.mem_univ _, e⟩

/-! ## Its elements -/

/-- The columns of an element of group `g`'s head `h`: the keys' and the values'. -/
abbrev keyCol (g : Fin 3) (h : Fin 8) (d : Fin 64) : Fin 4608 := ⟨1536 + g.val * 512 + h.val * 64 + d.val, by omega⟩
abbrev valCol (g : Fin 3) (h : Fin 8) (d : Fin 64) : Fin 4608 := ⟨3072 + g.val * 512 + h.val * 64 + d.val, by omega⟩

/-- The point that writes row `n`'s column tile `j`. -/
abbrev pointOf (n : Fin 8704) (j : Fin 9) : Fin cfg0.N := ⟨9 * (n.val / 544) + j.val, by show _ < 144; omega⟩
abbrev keyTile (g : Fin 3) : Fin 9 := ⟨3 + g.val, by omega⟩
abbrev valTile (g : Fin 3) : Fin 9 := ⟨6 + g.val, by omega⟩

theorem row_back (n : Fin 8704) (j : Fin 9) : rowOf (pointOf n j) ⟨n.val % 544, Nat.mod_lt _ (by decide)⟩ = n :=
  Fin.ext (by show 544 * ((9 * (n.val / 544) + j.val) / 9) + n.val % 544 = n.val; omega)

theorem col_key (n : Fin 8704) (g : Fin 3) (h : Fin 8) (d : Fin 64) (q : Fin 512) (hq : q.val = h.val * 64 + d.val) :
    colOf (pointOf n (keyTile g)) q = keyCol g h d :=
  Fin.ext (by show 512 * ((9 * (n.val / 544) + (3 + g.val)) % 9) + q.val = 1536 + g.val * 512 + h.val * 64 + d.val; omega)

theorem col_val' (n : Fin 8704) (g : Fin 3) (h : Fin 8) (d : Fin 64) (q : Fin 512) (hq : q.val = h.val * 64 + d.val) :
    colOf (pointOf n (valTile g)) q = valCol g h d :=
  Fin.ext (by show 512 * ((9 * (n.val / 544) + (6 + g.val)) % 9) + q.val = 3072 + g.val * 512 + h.val * 64 + d.val; omega)

theorem result_value (n : Fin 8704) (g : Fin 3) (h : Fin 8) (d : Fin 64) : result m c (ix2 n (valCol g h d)) = prodAt m c n (valCol g h d) := by
  have e := result_at m c (pointOf n (valTile g)) ⟨n.val % 544, Nat.mod_lt _ (by decide)⟩ ⟨h.val * 64 + d.val, by omega⟩
  rw [outs_plain m c (pointOf n (valTile g)) (by show 6 ≤ (9 * (n.val / 544) + (6 + g.val)) % 9; omega), block_prod, row_back, col_val' n g h d _ rfl] at e
  exact e

theorem tab_cos (n : Fin 8704) (l : Fin 128) : cosT m c (ix2 n l) = (tabAt (fun b => m (c, b)) main_v31 : S8704x128.Idx → EReal) (ix2 n l) :=
  congrFun (V_tab m c main_v31) _
theorem tab_sin (n : Fin 8704) (l : Fin 128) : sinT m c (ix2 n l) = (tabAt (fun b => m (c, b)) main_v36 : S8704x128.Idx → EReal) (ix2 n l) :=
  congrFun (V_tab m c main_v36) _

/-- A row's angle. -/
abbrev angOf (n : Fin 8704) (i : Fin 32) : EReal := angle 0x42000000#32 (posAt (fun b => m (c, b)) (ix1 n)) (BitVec.ofNat 32 i.val)

theorem cos_low (n : Fin 8704) (h : Fin 8) (i : Fin 32) :
    cosT m c (ix2 n ⟨(lowAt h i).val % 128, Nat.mod_lt _ (by decide)⟩) = Ideal.cos (angOf m c n i) := by
  rw [tab_cos, cos_row, show (⟨(h.val * 64 + i.val) % 128 % 64, Nat.mod_lt _ (by decide)⟩ : Fin 64) = lowHalf i from Fin.ext (by show (h.val * 64 + i.val) % 128 % 64 = i.val; omega),
    cos_row_low, cos_half, angle_read]

theorem cos_high (n : Fin 8704) (h : Fin 8) (i : Fin 32) :
    cosT m c (ix2 n ⟨(highAt h i).val % 128, Nat.mod_lt _ (by decide)⟩) = Ideal.cos (angOf m c n i) := by
  rw [tab_cos, cos_row, show (⟨(h.val * 64 + (32 + i.val)) % 128 % 64, Nat.mod_lt _ (by decide)⟩ : Fin 64) = highHalf i from Fin.ext (by show (h.val * 64 + (32 + i.val)) % 128 % 64 = 32 + i.val; omega),
    cos_row_high, cos_half, angle_read]

theorem sin_low (n : Fin 8704) (h : Fin 8) (i : Fin 32) :
    sinT m c (ix2 n ⟨(lowAt h i).val % 128, Nat.mod_lt _ (by decide)⟩) = -Ideal.sin (angOf m c n i) := by
  rw [tab_sin, sin_row, show (⟨(h.val * 64 + i.val) % 128 % 64, Nat.mod_lt _ (by decide)⟩ : Fin 64) = lowHalf i from Fin.ext (by show (h.val * 64 + i.val) % 128 % 64 = i.val; omega),
    sin_row_low, sin_neg]
  exact congrArg (fun e => -e) ((sin_half _ n i).trans (congrArg Ideal.sin (angle_read _ n i)))

theorem sin_high (n : Fin 8704) (h : Fin 8) (i : Fin 32) :
    sinT m c (ix2 n ⟨(highAt h i).val % 128, Nat.mod_lt _ (by decide)⟩) = Ideal.sin (angOf m c n i) := by
  rw [tab_sin, sin_row, show (⟨(h.val * 64 + (32 + i.val)) % 128 % 64, Nat.mod_lt _ (by decide)⟩ : Fin 64) = highHalf i from Fin.ext (by show (h.val * 64 + (32 + i.val)) % 128 % 64 = 32 + i.val; omega),
    sin_row_high, sin_half, angle_read]

/-- The keys: an element of the first half, and one of the second. -/
theorem result_key_low (n : Fin 8704) (g : Fin 3) (h : Fin 8) (i : Fin 32) : result m c (ix2 n (keyCol g h (lowHalf i)))
    = turnLow 0x42000000#32 (posAt (fun b => m (c, b)) (ix1 n)) (BitVec.ofNat 32 i.val) (prodAt m c n (keyCol g h (lowHalf i))) (prodAt m c n (keyCol g h (highHalf i))) := by
  have e := result_at m c (pointOf n (keyTile g)) ⟨n.val % 544, Nat.mod_lt _ (by decide)⟩ (lowAt h i)
  rw [outs_turned m c (pointOf n (keyTile g)) (by show (9 * (n.val / 544) + (3 + g.val)) % 9 ≤ 5; omega)] at e
  refine Eq.trans (Eq.trans ?_ (e.trans (turn_low _ _ _ _ _ h i))) ?_
  · rw [row_back, col_key n g h (lowHalf i) (lowAt h i) rfl]
  · rw [block_prod, block_prod, cos_block, sin_block, row_back, col_key n g h (lowHalf i) (lowAt h i) rfl, col_key n g h (highHalf i) (highAt h i) rfl, cos_low, sin_low, mul_neg]
    rfl

theorem result_key_high (n : Fin 8704) (g : Fin 3) (h : Fin 8) (i : Fin 32) : result m c (ix2 n (keyCol g h (highHalf i)))
    = turnHigh 0x42000000#32 (posAt (fun b => m (c, b)) (ix1 n)) (BitVec.ofNat 32 i.val) (prodAt m c n (keyCol g h (lowHalf i))) (prodAt m c n (keyCol g h (highHalf i))) := by
  have e := result_at m c (pointOf n (keyTile g)) ⟨n.val % 544, Nat.mod_lt _ (by decide)⟩ (highAt h i)
  rw [outs_turned m c (pointOf n (keyTile g)) (by show (9 * (n.val / 544) + (3 + g.val)) % 9 ≤ 5; omega)] at e
  refine Eq.trans (Eq.trans ?_ (e.trans (turn_high _ _ _ _ _ h i))) ?_
  · rw [row_back, col_key n g h (highHalf i) (highAt h i) rfl]
  · rw [block_prod, block_prod, cos_block, sin_block, row_back, col_key n g h (lowHalf i) (lowAt h i) rfl, col_key n g h (highHalf i) (highAt h i) rfl, cos_high, sin_high]
    rfl

/-! ## The joined rows are the given tokens -/

theorem rows_prompt (b : Fin 2) (s : Fin 4096) (k : Fin 2048) : rows m c (ix2 (promptRow b s) k) = argP m c (ix3 b s k) := by
  refine (rows_at m c _).trans ((concatenate_pair_apply_left (s₁ := S8192x2048) (s₂ := S512x2048) (t := S8704x2048) (0 : Fin 2) _ _ _ (ix2 (promptRow b s) k) rfl
    (ix2 (⟨b.val * 4096 + s.val, by omega⟩ : Fin 8192) k) (fun x => match x with | ⟨0, _⟩ => rfl | ⟨1, _⟩ => rfl)).trans ?_)
  pointwise

theorem rows_sample (b : Fin 128) (s : Fin 4) (k : Fin 2048) : rows m c (ix2 (sampleRow b s) k) = argS m c (ix3 b s k) := by
  refine (rows_at m c _).trans ((concatenate_pair_apply_right (s₁ := S8192x2048) (s₂ := S512x2048) (t := S8704x2048) (0 : Fin 2) _ _ _ (ix2 (sampleRow b s) k) rfl rfl
    (ix2 (⟨b.val * 4 + s.val, by omega⟩ : Fin 512) k) (fun x hx => match x, hx with | ⟨0, _⟩, hx => absurd rfl hx | ⟨1, _⟩, _ => rfl)
    (Nat.add_comm _ _)).trans ?_)
  pointwise

theorem prod_prompt (b : Fin 2) (s : Fin 4096) (d : Fin 4608) : prodAt m c (promptRow b s) d
    = proj (fun k => argP m c (ix3 b s k)) (fun k => argG m c (ix1 k)) (fun k => argW m c (ix2 k d)) :=
  proj_congr (fun k => rows_prompt m c b s k) (fun k => gain_read m c k) (fun k => congrFun (V_main_arg6 m c) (ix2 k d))

theorem prod_sample (b : Fin 128) (s : Fin 4) (d : Fin 4608) : prodAt m c (sampleRow b s) d
    = proj (fun k => argS m c (ix3 b s k)) (fun k => argG m c (ix1 k)) (fun k => argW m c (ix2 k d)) :=
  proj_congr (fun k => rows_sample m c b s k) (fun k => gain_read m c k) (fun k => congrFun (V_main_arg6 m c) (ix2 k d))

end Cert.ProjIdeal.Heads

end
-- ==== Proof.ProjTail.lean ====
/-
  What the lines after the in-projection's call do to its product: the keys and values of each head group, packed.
-/
module

public import proofs.«01_k».proof.Proof.ProjValue

@[expose] public section

noncomputable section

namespace Cert.ProjIdeal.Heads

open Cert.ProjIdeal Cert.ProjIdeal.Gen Cert.RmsMath
open Idealize.ShloMosaic
open Idealize.ShloMosaic.TcCoe Idealize.SL.Sem
open scoped BigOperators

/-! ## Slices and stacks -/

theorem prompt_first (x y : S2x4096x8x64.Idx → EReal) (b : Fin 2) (s : Fin 4096) (h : Fin 8) (d : Fin 64) :
    concatenate S2x4096x2x8x64 2 [⟨S2x4096x1x8x64, broadcastInDim S2x4096x1x8x64 ![0, 1, 3, 4] bcast_S2x4096x8x64_S2x4096x1x8x64_0_1_3_4 x⟩,
      ⟨S2x4096x1x8x64, broadcastInDim S2x4096x1x8x64 ![0, 1, 3, 4] bcast_S2x4096x8x64_S2x4096x1x8x64_0_1_3_4 y⟩]
      concatenates_S2x4096x1x8x64_S2x4096x1x8x64_S2x4096x2x8x64_d2 (ix5 b s (0 : Fin 2) h d) = x (ix4 b s h d) := by
  refine (concatenate_pair_apply_left (s₁ := S2x4096x1x8x64) (s₂ := S2x4096x1x8x64) (t := S2x4096x2x8x64) (2 : Fin 5) _ _ _ (ix5 b s (0 : Fin 2) h d) rfl
    (ix5 b s (0 : Fin 1) h d) (fun x => match x with | ⟨0, _⟩ => rfl | ⟨1, _⟩ => rfl | ⟨2, _⟩ => rfl | ⟨3, _⟩ => rfl | ⟨4, _⟩ => rfl)).trans ?_
  pointwise

theorem prompt_second (x y : S2x4096x8x64.Idx → EReal) (b : Fin 2) (s : Fin 4096) (h : Fin 8) (d : Fin 64) :
    concatenate S2x4096x2x8x64 2 [⟨S2x4096x1x8x64, broadcastInDim S2x4096x1x8x64 ![0, 1, 3, 4] bcast_S2x4096x8x64_S2x4096x1x8x64_0_1_3_4 x⟩,
      ⟨S2x4096x1x8x64, broadcastInDim S2x4096x1x8x64 ![0, 1, 3, 4] bcast_S2x4096x8x64_S2x4096x1x8x64_0_1_3_4 y⟩]
      concatenates_S2x4096x1x8x64_S2x4096x1x8x64_S2x4096x2x8x64_d2 (ix5 b s (1 : Fin 2) h d) = y (ix4 b s h d) := by
  refine (concatenate_pair_apply_right (s₁ := S2x4096x1x8x64) (s₂ := S2x4096x1x8x64) (t := S2x4096x2x8x64) (2 : Fin 5) _ _ _ (ix5 b s (1 : Fin 2) h d) rfl rfl
    (ix5 b s (0 : Fin 1) h d) (fun x hx => match x, hx with | ⟨0, _⟩, _ => rfl | ⟨1, _⟩, _ => rfl | ⟨2, _⟩, hx => absurd rfl hx | ⟨3, _⟩, _ => rfl | ⟨4, _⟩, _ => rfl) rfl).trans ?_
  pointwise

theorem sample_first (x y : S128x4x8x64.Idx → EReal) (b : Fin 128) (s : Fin 4) (h : Fin 8) (d : Fin 64) :
    concatenate S128x4x2x8x64 2 [⟨S128x4x1x8x64, broadcastInDim S128x4x1x8x64 ![0, 1, 3, 4] bcast_S128x4x8x64_S128x4x1x8x64_0_1_3_4 x⟩,
      ⟨S128x4x1x8x64, broadcastInDim S128x4x1x8x64 ![0, 1, 3, 4] bcast_S128x4x8x64_S128x4x1x8x64_0_1_3_4 y⟩]
      concatenates_S128x4x1x8x64_S128x4x1x8x64_S128x4x2x8x64_d2 (ix5 b s (0 : Fin 2) h d) = x (ix4 b s h d) := by
  refine (concatenate_pair_apply_left (s₁ := S128x4x1x8x64) (s₂ := S128x4x1x8x64) (t := S128x4x2x8x64) (2 : Fin 5) _ _ _ (ix5 b s (0 : Fin 2) h d) rfl
    (ix5 b s (0 : Fin 1) h d) (fun x => match x with | ⟨0, _⟩ => rfl | ⟨1, _⟩ => rfl | ⟨2, _⟩ => rfl | ⟨3, _⟩ => rfl | ⟨4, _⟩ => rfl)).trans ?_
  pointwise

theorem sample_second (x y : S128x4x8x64.Idx → EReal) (b : Fin 128) (s : Fin 4) (h : Fin 8) (d : Fin 64) :
    concatenate S128x4x2x8x64 2 [⟨S128x4x1x8x64, broadcastInDim S128x4x1x8x64 ![0, 1, 3, 4] bcast_S128x4x8x64_S128x4x1x8x64_0_1_3_4 x⟩,
      ⟨S128x4x1x8x64, broadcastInDim S128x4x1x8x64 ![0, 1, 3, 4] bcast_S128x4x8x64_S128x4x1x8x64_0_1_3_4 y⟩]
      concatenates_S128x4x1x8x64_S128x4x1x8x64_S128x4x2x8x64_d2 (ix5 b s (1 : Fin 2) h d) = y (ix4 b s h d) := by
  refine (concatenate_pair_apply_right (s₁ := S128x4x1x8x64) (s₂ := S128x4x1x8x64) (t := S128x4x2x8x64) (2 : Fin 5) _ _ _ (ix5 b s (1 : Fin 2) h d) rfl rfl
    (ix5 b s (0 : Fin 1) h d) (fun x hx => match x, hx with | ⟨0, _⟩, _ => rfl | ⟨1, _⟩, _ => rfl | ⟨2, _⟩, hx => absurd rfl hx | ⟨3, _⟩, _ => rfl | ⟨4, _⟩, _ => rfl) rfl).trans ?_
  pointwise

theorem recent0 (z : S2x4096x2x8x64.Idx → EReal) (b : Fin 2) (s : Fin 128) (u : Fin 2) (h : Fin 8) (d : Fin 64) :
    extractStridedSlice S2x128x2x8x64 ![0, 3968, 0, 0, 0] z slices_S2x4096x2x8x64_S2x128x2x8x64_0_3968_0_0_0 (ix5 b s u h d)
      = z (ix5 b (⟨3968 + s.val, by omega⟩ : Fin 4096) u h d) := by
  pointwise

theorem shifted0 (z : S128x132x2x8x64.Idx → EReal) (b : Fin 128) (s : Fin 128) (u : Fin 2) (h : Fin 8) (d : Fin 64) :
    extractStridedSlice S128x128x2x8x64 ![0, 4, 0, 0, 0] z slices_S128x132x2x8x64_S128x128x2x8x64_0_4_0_0_0 (ix5 b s u h d)
      = z (ix5 b (⟨4 + s.val, by omega⟩ : Fin 132) u h d) := by
  pointwise

theorem recent1 (z : S2x4096x2x8x64.Idx → EReal) (b : Fin 2) (s : Fin 512) (u : Fin 2) (h : Fin 8) (d : Fin 64) :
    extractStridedSlice S2x512x2x8x64 ![0, 3584, 0, 0, 0] z slices_S2x4096x2x8x64_S2x512x2x8x64_0_3584_0_0_0 (ix5 b s u h d)
      = z (ix5 b (⟨3584 + s.val, by omega⟩ : Fin 4096) u h d) := by
  pointwise

theorem shifted1 (z : S128x516x2x8x64.Idx → EReal) (b : Fin 128) (s : Fin 512) (u : Fin 2) (h : Fin 8) (d : Fin 64) :
    extractStridedSlice S128x512x2x8x64 ![0, 4, 0, 0, 0] z slices_S128x516x2x8x64_S128x512x2x8x64_0_4_0_0_0 (ix5 b s u h d)
      = z (ix5 b (⟨4 + s.val, by omega⟩ : Fin 516) u h d) := by
  pointwise

theorem recent2 (z : S2x4096x2x8x64.Idx → EReal) (b : Fin 2) (s : Fin 2048) (u : Fin 2) (h : Fin 8) (d : Fin 64) :
    extractStridedSlice S2x2048x2x8x64 ![0, 2048, 0, 0, 0] z slices_S2x4096x2x8x64_S2x2048x2x8x64_0_2048_0_0_0 (ix5 b s u h d)
      = z (ix5 b (⟨2048 + s.val, by omega⟩ : Fin 4096) u h d) := by
  pointwise

theorem shifted2 (z : S128x2052x2x8x64.Idx → EReal) (b : Fin 128) (s : Fin 2048) (u : Fin 2) (h : Fin 8) (d : Fin 64) :
    extractStridedSlice S128x2048x2x8x64 ![0, 4, 0, 0, 0] z slices_S128x2052x2x8x64_S128x2048x2x8x64_0_4_0_0_0 (ix5 b s u h d)
      = z (ix5 b (⟨4 + s.val, by omega⟩ : Fin 2052) u h d) := by
  pointwise

variable (W : Valuation τ sig (Elt Ideal))

/-- The product's contents before those lines, and a buffer's after. -/
abbrev zOf : S8704x4608.Idx → EReal := W (Proc.devRef .tc main_v38)
abbrev endAt (b : Ref sig .tc) := StableHlo.after hostOps1 W (Proc.devRef .tc b)

/-! ## The results -/

theorem prompt0_slice : (endAt W main_v57 : S2x128x2x8x64.Idx → EReal)
    = extractStridedSlice S2x128x2x8x64 ![0, 3968, 0, 0, 0] (endAt W main_v56 : S2x4096x2x8x64.Idx → EReal) slices_S2x4096x2x8x64_S2x128x2x8x64_0_3968_0_0_0 := by
  unfold endAt hostOps1
  after_reads_simp

set_option maxRecDepth 16384 in
theorem prompt0_stack0 (b : Fin 2) (s : Fin 4096) (h : Fin 8) (d : Fin 64) :
    (endAt W main_v56 : S2x4096x2x8x64.Idx → EReal) (ix5 b s (0 : Fin 2) h d) = zOf W (ix2 (promptRow b s) (keyCol (0 : Fin 3) h d)) := by
  unfold endAt hostOps1
  after_reads_simp
  refine (prompt_first _ _ b s h d).trans ?_
  pointwise
  refine congrArg (fun q => zOf W (ix2 (promptRow b s) q)) (Fin.ext ?_)
  show _ = 1536 + 0 * 512 + h.val * 64 + d.val
  dsimp only

theorem prompt0_0 (b : Fin 2) (s : Fin 128) (h : Fin 8) (d : Fin 64) :
    (endAt W main_v57 : S2x128x2x8x64.Idx → EReal) (ix5 b s (0 : Fin 2) h d)
      = zOf W (ix2 (promptRow b ⟨3968 + s.val, by omega⟩) (keyCol (0 : Fin 3) h d)) :=
  (congrFun (prompt0_slice W) _).trans ((recent0 _ b s (0 : Fin 2) h d).trans (prompt0_stack0 W b ⟨3968 + s.val, by omega⟩ h d))

set_option maxRecDepth 16384 in
theorem prompt0_stack1 (b : Fin 2) (s : Fin 4096) (h : Fin 8) (d : Fin 64) :
    (endAt W main_v56 : S2x4096x2x8x64.Idx → EReal) (ix5 b s (1 : Fin 2) h d) = zOf W (ix2 (promptRow b s) (valCol (0 : Fin 3) h d)) := by
  unfold endAt hostOps1
  after_reads_simp
  refine (prompt_second _ _ b s h d).trans ?_
  pointwise
  refine congrArg (fun q => zOf W (ix2 (promptRow b s) q)) (Fin.ext ?_)
  show _ = 3072 + 0 * 512 + h.val * 64 + d.val
  dsimp only

theorem prompt0_1 (b : Fin 2) (s : Fin 128) (h : Fin 8) (d : Fin 64) :
    (endAt W main_v57 : S2x128x2x8x64.Idx → EReal) (ix5 b s (1 : Fin 2) h d)
      = zOf W (ix2 (promptRow b ⟨3968 + s.val, by omega⟩) (valCol (0 : Fin 3) h d)) :=
  (congrFun (prompt0_slice W) _).trans ((recent0 _ b s (1 : Fin 2) h d).trans (prompt0_stack1 W b ⟨3968 + s.val, by omega⟩ h d))

theorem prompt1_slice : (endAt W main_v65 : S2x512x2x8x64.Idx → EReal)
    = extractStridedSlice S2x512x2x8x64 ![0, 3584, 0, 0, 0] (endAt W main_v64 : S2x4096x2x8x64.Idx → EReal) slices_S2x4096x2x8x64_S2x512x2x8x64_0_3584_0_0_0 := by
  unfold endAt hostOps1
  after_reads_simp

set_option maxRecDepth 16384 in
theorem prompt1_stack0 (b : Fin 2) (s : Fin 4096) (h : Fin 8) (d : Fin 64) :
    (endAt W main_v64 : S2x4096x2x8x64.Idx → EReal) (ix5 b s (0 : Fin 2) h d) = zOf W (ix2 (promptRow b s) (keyCol (1 : Fin 3) h d)) := by
  unfold endAt hostOps1
  after_reads_simp
  refine (prompt_first _ _ b s h d).trans ?_
  pointwise
  refine congrArg (fun q => zOf W (ix2 (promptRow b s) q)) (Fin.ext ?_)
  show _ = 1536 + 1 * 512 + h.val * 64 + d.val
  dsimp only

theorem prompt1_0 (b : Fin 2) (s : Fin 512) (h : Fin 8) (d : Fin 64) :
    (endAt W main_v65 : S2x512x2x8x64.Idx → EReal) (ix5 b s (0 : Fin 2) h d)
      = zOf W (ix2 (promptRow b ⟨3584 + s.val, by omega⟩) (keyCol (1 : Fin 3) h d)) :=
  (congrFun (prompt1_slice W) _).trans ((recent1 _ b s (0 : Fin 2) h d).trans (prompt1_stack0 W b ⟨3584 + s.val, by omega⟩ h d))

set_option maxRecDepth 16384 in
theorem prompt1_stack1 (b : Fin 2) (s : Fin 4096) (h : Fin 8) (d : Fin 64) :
    (endAt W main_v64 : S2x4096x2x8x64.Idx → EReal) (ix5 b s (1 : Fin 2) h d) = zOf W (ix2 (promptRow b s) (valCol (1 : Fin 3) h d)) := by
  unfold endAt hostOps1
  after_reads_simp
  refine (prompt_second _ _ b s h d).trans ?_
  pointwise
  refine congrArg (fun q => zOf W (ix2 (promptRow b s) q)) (Fin.ext ?_)
  show _ = 3072 + 1 * 512 + h.val * 64 + d.val
  dsimp only

theorem prompt1_1 (b : Fin 2) (s : Fin 512) (h : Fin 8) (d : Fin 64) :
    (endAt W main_v65 : S2x512x2x8x64.Idx → EReal) (ix5 b s (1 : Fin 2) h d)
      = zOf W (ix2 (promptRow b ⟨3584 + s.val, by omega⟩) (valCol (1 : Fin 3) h d)) :=
  (congrFun (prompt1_slice W) _).trans ((recent1 _ b s (1 : Fin 2) h d).trans (prompt1_stack1 W b ⟨3584 + s.val, by omega⟩ h d))

theorem prompt2_slice : (endAt W main_v73 : S2x2048x2x8x64.Idx → EReal)
    = extractStridedSlice S2x2048x2x8x64 ![0, 2048, 0, 0, 0] (endAt W main_v72 : S2x4096x2x8x64.Idx → EReal) slices_S2x4096x2x8x64_S2x2048x2x8x64_0_2048_0_0_0 := by
  unfold endAt hostOps1
  after_reads_simp

set_option maxRecDepth 16384 in
theorem prompt2_stack0 (b : Fin 2) (s : Fin 4096) (h : Fin 8) (d : Fin 64) :
    (endAt W main_v72 : S2x4096x2x8x64.Idx → EReal) (ix5 b s (0 : Fin 2) h d) = zOf W (ix2 (promptRow b s) (keyCol (2 : Fin 3) h d)) := by
  unfold endAt hostOps1
  after_reads_simp
  refine (prompt_first _ _ b s h d).trans ?_
  pointwise
  refine congrArg (fun q => zOf W (ix2 (promptRow b s) q)) (Fin.ext ?_)
  show _ = 1536 + 2 * 512 + h.val * 64 + d.val
  dsimp only

theorem prompt2_0 (b : Fin 2) (s : Fin 2048) (h : Fin 8) (d : Fin 64) :
    (endAt W main_v73 : S2x2048x2x8x64.Idx → EReal) (ix5 b s (0 : Fin 2) h d)
      = zOf W (ix2 (promptRow b ⟨2048 + s.val, by omega⟩) (keyCol (2 : Fin 3) h d)) :=
  (congrFun (prompt2_slice W) _).trans ((recent2 _ b s (0 : Fin 2) h d).trans (prompt2_stack0 W b ⟨2048 + s.val, by omega⟩ h d))

set_option maxRecDepth 16384 in
theorem prompt2_stack1 (b : Fin 2) (s : Fin 4096) (h : Fin 8) (d : Fin 64) :
    (endAt W main_v72 : S2x4096x2x8x64.Idx → EReal) (ix5 b s (1 : Fin 2) h d) = zOf W (ix2 (promptRow b s) (valCol (2 : Fin 3) h d)) := by
  unfold endAt hostOps1
  after_reads_simp
  refine (prompt_second _ _ b s h d).trans ?_
  pointwise
  refine congrArg (fun q => zOf W (ix2 (promptRow b s) q)) (Fin.ext ?_)
  show _ = 3072 + 2 * 512 + h.val * 64 + d.val
  dsimp only

theorem prompt2_1 (b : Fin 2) (s : Fin 2048) (h : Fin 8) (d : Fin 64) :
    (endAt W main_v73 : S2x2048x2x8x64.Idx → EReal) (ix5 b s (1 : Fin 2) h d)
      = zOf W (ix2 (promptRow b ⟨2048 + s.val, by omega⟩) (valCol (2 : Fin 3) h d)) :=
  (congrFun (prompt2_slice W) _).trans ((recent2 _ b s (1 : Fin 2) h d).trans (prompt2_stack1 W b ⟨2048 + s.val, by omega⟩ h d))

set_option maxRecDepth 16384 in
theorem sample0_old (b : Fin 128) (s : Fin 124) (u : Fin 2) (h : Fin 8) (d : Fin 64) :
    (endAt W main_v89 : S128x128x2x8x64.Idx → EReal) (ix5 b (⟨s.val, by omega⟩ : Fin 128) u h d)
      = (W (Proc.devRef .tc main_arg2) : S128x128x2x8x64.Idx → EReal) (ix5 b (⟨4 + s.val, by omega⟩ : Fin 128) u h d) := by
  unfold endAt hostOps1
  after_reads_simp
  refine (shifted0 _ b (⟨s.val, by omega⟩ : Fin 128) u h d).trans ((concatenate_pair_apply_left (s₁ := S128x128x2x8x64) (s₂ := S128x4x2x8x64) (t := S128x132x2x8x64) (1 : Fin 5) _ _ _ _ rfl
    (ix5 b (⟨4 + s.val, by omega⟩ : Fin 128) u h d) (fun x => match x with | ⟨0, _⟩ => rfl | ⟨1, _⟩ => rfl | ⟨2, _⟩ => rfl | ⟨3, _⟩ => rfl | ⟨4, _⟩ => rfl)).trans ?_)
  after_reads_simp

set_option maxRecDepth 16384 in
theorem sample0_0 (b : Fin 128) (s : Fin 4) (h : Fin 8) (d : Fin 64) :
    (endAt W main_v89 : S128x128x2x8x64.Idx → EReal) (ix5 b (⟨124 + s.val, by omega⟩ : Fin 128) (0 : Fin 2) h d)
      = zOf W (ix2 (sampleRow b s) (keyCol (0 : Fin 3) h d)) := by
  unfold endAt hostOps1
  after_reads_simp
  refine (shifted0 _ b (⟨124 + s.val, by omega⟩ : Fin 128) (0 : Fin 2) h d).trans ((concatenate_pair_apply_right (s₁ := S128x128x2x8x64) (s₂ := S128x4x2x8x64) (t := S128x132x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 128 = 4 + (124 + s.val); omega)).trans ?_)
  after_reads_simp
  refine (sample_first _ _ b s h d).trans ?_
  pointwise
  refine congrArg (fun q => zOf W (ix2 (sampleRow b s) q)) (Fin.ext ?_)
  show _ = 1536 + 0 * 512 + h.val * 64 + d.val
  dsimp only

set_option maxRecDepth 16384 in
theorem sample0_1 (b : Fin 128) (s : Fin 4) (h : Fin 8) (d : Fin 64) :
    (endAt W main_v89 : S128x128x2x8x64.Idx → EReal) (ix5 b (⟨124 + s.val, by omega⟩ : Fin 128) (1 : Fin 2) h d)
      = zOf W (ix2 (sampleRow b s) (valCol (0 : Fin 3) h d)) := by
  unfold endAt hostOps1
  after_reads_simp
  refine (shifted0 _ b (⟨124 + s.val, by omega⟩ : Fin 128) (1 : Fin 2) h d).trans ((concatenate_pair_apply_right (s₁ := S128x128x2x8x64) (s₂ := S128x4x2x8x64) (t := S128x132x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 128 = 4 + (124 + s.val); omega)).trans ?_)
  after_reads_simp
  refine (sample_second _ _ b s h d).trans ?_
  pointwise
  refine congrArg (fun q => zOf W (ix2 (sampleRow b s) q)) (Fin.ext ?_)
  show _ = 3072 + 0 * 512 + h.val * 64 + d.val
  dsimp only

set_option maxRecDepth 16384 in
theorem sample1_old (b : Fin 128) (s : Fin 508) (u : Fin 2) (h : Fin 8) (d : Fin 64) :
    (endAt W main_v98 : S128x512x2x8x64.Idx → EReal) (ix5 b (⟨s.val, by omega⟩ : Fin 512) u h d)
      = (W (Proc.devRef .tc main_arg3) : S128x512x2x8x64.Idx → EReal) (ix5 b (⟨4 + s.val, by omega⟩ : Fin 512) u h d) := by
  unfold endAt hostOps1
  after_reads_simp
  refine (shifted1 _ b (⟨s.val, by omega⟩ : Fin 512) u h d).trans ((concatenate_pair_apply_left (s₁ := S128x512x2x8x64) (s₂ := S128x4x2x8x64) (t := S128x516x2x8x64) (1 : Fin 5) _ _ _ _ rfl
    (ix5 b (⟨4 + s.val, by omega⟩ : Fin 512) u h d) (fun x => match x with | ⟨0, _⟩ => rfl | ⟨1, _⟩ => rfl | ⟨2, _⟩ => rfl | ⟨3, _⟩ => rfl | ⟨4, _⟩ => rfl)).trans ?_)
  after_reads_simp

set_option maxRecDepth 16384 in
theorem sample1_0 (b : Fin 128) (s : Fin 4) (h : Fin 8) (d : Fin 64) :
    (endAt W main_v98 : S128x512x2x8x64.Idx → EReal) (ix5 b (⟨508 + s.val, by omega⟩ : Fin 512) (0 : Fin 2) h d)
      = zOf W (ix2 (sampleRow b s) (keyCol (1 : Fin 3) h d)) := by
  unfold endAt hostOps1
  after_reads_simp
  refine (shifted1 _ b (⟨508 + s.val, by omega⟩ : Fin 512) (0 : Fin 2) h d).trans ((concatenate_pair_apply_right (s₁ := S128x512x2x8x64) (s₂ := S128x4x2x8x64) (t := S128x516x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 512 = 4 + (508 + s.val); omega)).trans ?_)
  after_reads_simp
  refine (sample_first _ _ b s h d).trans ?_
  pointwise
  refine congrArg (fun q => zOf W (ix2 (sampleRow b s) q)) (Fin.ext ?_)
  show _ = 1536 + 1 * 512 + h.val * 64 + d.val
  dsimp only

set_option maxRecDepth 16384 in
theorem sample1_1 (b : Fin 128) (s : Fin 4) (h : Fin 8) (d : Fin 64) :
    (endAt W main_v98 : S128x512x2x8x64.Idx → EReal) (ix5 b (⟨508 + s.val, by omega⟩ : Fin 512) (1 : Fin 2) h d)
      = zOf W (ix2 (sampleRow b s) (valCol (1 : Fin 3) h d)) := by
  unfold endAt hostOps1
  after_reads_simp
  refine (shifted1 _ b (⟨508 + s.val, by omega⟩ : Fin 512) (1 : Fin 2) h d).trans ((concatenate_pair_apply_right (s₁ := S128x512x2x8x64) (s₂ := S128x4x2x8x64) (t := S128x516x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 512 = 4 + (508 + s.val); omega)).trans ?_)
  after_reads_simp
  refine (sample_second _ _ b s h d).trans ?_
  pointwise
  refine congrArg (fun q => zOf W (ix2 (sampleRow b s) q)) (Fin.ext ?_)
  show _ = 3072 + 1 * 512 + h.val * 64 + d.val
  dsimp only

set_option maxRecDepth 16384 in
theorem sample2_old (b : Fin 128) (s : Fin 2044) (u : Fin 2) (h : Fin 8) (d : Fin 64) :
    (endAt W main_v107 : S128x2048x2x8x64.Idx → EReal) (ix5 b (⟨s.val, by omega⟩ : Fin 2048) u h d)
      = (W (Proc.devRef .tc main_arg4) : S128x2048x2x8x64.Idx → EReal) (ix5 b (⟨4 + s.val, by omega⟩ : Fin 2048) u h d) := by
  unfold endAt hostOps1
  after_reads_simp
  refine (shifted2 _ b (⟨s.val, by omega⟩ : Fin 2048) u h d).trans ((concatenate_pair_apply_left (s₁ := S128x2048x2x8x64) (s₂ := S128x4x2x8x64) (t := S128x2052x2x8x64) (1 : Fin 5) _ _ _ _ rfl
    (ix5 b (⟨4 + s.val, by omega⟩ : Fin 2048) u h d) (fun x => match x with | ⟨0, _⟩ => rfl | ⟨1, _⟩ => rfl | ⟨2, _⟩ => rfl | ⟨3, _⟩ => rfl | ⟨4, _⟩ => rfl)).trans ?_)
  after_reads_simp

set_option maxRecDepth 16384 in
theorem sample2_0 (b : Fin 128) (s : Fin 4) (h : Fin 8) (d : Fin 64) :
    (endAt W main_v107 : S128x2048x2x8x64.Idx → EReal) (ix5 b (⟨2044 + s.val, by omega⟩ : Fin 2048) (0 : Fin 2) h d)
      = zOf W (ix2 (sampleRow b s) (keyCol (2 : Fin 3) h d)) := by
  unfold endAt hostOps1
  after_reads_simp
  refine (shifted2 _ b (⟨2044 + s.val, by omega⟩ : Fin 2048) (0 : Fin 2) h d).trans ((concatenate_pair_apply_right (s₁ := S128x2048x2x8x64) (s₂ := S128x4x2x8x64) (t := S128x2052x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 2048 = 4 + (2044 + s.val); omega)).trans ?_)
  after_reads_simp
  refine (sample_first _ _ b s h d).trans ?_
  pointwise
  refine congrArg (fun q => zOf W (ix2 (sampleRow b s) q)) (Fin.ext ?_)
  show _ = 1536 + 2 * 512 + h.val * 64 + d.val
  dsimp only

set_option maxRecDepth 16384 in
theorem sample2_1 (b : Fin 128) (s : Fin 4) (h : Fin 8) (d : Fin 64) :
    (endAt W main_v107 : S128x2048x2x8x64.Idx → EReal) (ix5 b (⟨2044 + s.val, by omega⟩ : Fin 2048) (1 : Fin 2) h d)
      = zOf W (ix2 (sampleRow b s) (valCol (2 : Fin 3) h d)) := by
  unfold endAt hostOps1
  after_reads_simp
  refine (shifted2 _ b (⟨2044 + s.val, by omega⟩ : Fin 2048) (1 : Fin 2) h d).trans ((concatenate_pair_apply_right (s₁ := S128x2048x2x8x64) (s₂ := S128x4x2x8x64) (t := S128x2052x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 2048 = 4 + (2044 + s.val); omega)).trans ?_)
  after_reads_simp
  refine (sample_second _ _ b s h d).trans ?_
  pointwise
  refine congrArg (fun q => zOf W (ix2 (sampleRow b s) q)) (Fin.ext ?_)
  show _ = 3072 + 2 * 512 + h.val * 64 + d.val
  dsimp only

end Cert.ProjIdeal.Heads

end
-- ==== Proof.ProjRefRead.lean ====
/-
  What the plain in-projection gives at an element of its turned keys and of its values.
-/
module

public import proofs.«01_k».proof.Proof.Gen.ProjRefIdeal.Read
public import proofs.«01_k».proof.Proof.RmsMath
public import Idealize.ShloMosaic.Lib.Pointwise

@[expose] public section

noncomputable section

namespace Cert.ProjRefIdeal.Heads

open Cert.ProjRefIdeal Cert.ProjRefIdeal.Gen Cert.ProjRefIdeal.Read Cert.RmsMath
open Idealize.ShloMosaic
open scoped BigOperators

/-- A column of the weights, and the columns of an element of group `g`'s head `h`: the keys' and the values'. -/
abbrev colOf (w : S2048x4608.Idx → EReal) (n : Fin 4608) : Fin 2048 → EReal := fun k => w (ix2 k n)
abbrev keyCol (g : Fin 3) (h : Fin 8) (d : Fin 64) : Fin 4608 := ⟨1536 + g.val * 512 + h.val * 64 + d.val, by omega⟩
abbrev valCol (g : Fin 3) (h : Fin 8) (d : Fin 64) : Fin 4608 := ⟨3072 + g.val * 512 + h.val * 64 + d.val, by omega⟩
abbrev lowHalf (i : Fin 32) : Fin 64 := ⟨i.val, by omega⟩
abbrev highHalf (i : Fin 32) : Fin 64 := ⟨32 + i.val, by omega⟩

/-! ## The prompt tokens -/

/-- The normed rows. -/
theorem prompt_normed (x : S2x4096x2048.Idx → EReal) (g : S2048.Idx → EReal) (b : Fin 2) (s : Fin 4096) (d : Fin 2048) :
    val_main_v12 (F := Ideal) x g (ix3 b s d) = rms (fun k => x (ix3 b s k)) (fun k => g (ix1 k)) d := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  unfold rms scale len eps
  rfl

/-- An element of the product with the weights. -/
theorem prompt_product (x : S2x4096x2048.Idx → EReal) (g : S2048.Idx → EReal) (w : S2048x4608.Idx → EReal) (b : Fin 2) (s : Fin 4096) (n : Fin 4608) :
    val_main_v14 (F := Ideal) x g w (ix3 b s n) = proj (fun k => x (ix3 b s k)) (fun k => g (ix1 k)) (colOf w (n)) := by
  rw [val_main_v14_apply]
  refine Finset.sum_congr rfl fun k _ => ?_
  refine congrArg₂ (· * ·) ((congrArg _ ?_).trans (prompt_normed x g b s k)) (congrArg w ?_)
  · exact funext fun x => match x with | ⟨0, _⟩ => rfl | ⟨1, _⟩ => rfl | ⟨2, _⟩ => rfl
  · exact funext fun x => match x with | ⟨0, _⟩ => rfl | ⟨1, _⟩ => rfl

/-- The values. -/
theorem prompt_value (x : S2x4096x2048.Idx → EReal) (g : S2048.Idx → EReal) (w : S2048x4608.Idx → EReal) (b : Fin 2) (s : Fin 4096) (j : Fin 3) (h : Fin 8) (d : Fin 64) :
    val_main_v52 (F := Ideal) x g w (ix5 b s j h d) = proj (fun k => x (ix3 b s k)) (fun k => g (ix1 k)) (colOf w (valCol j h d)) := by
  refine Eq.trans ?_ (prompt_product x g w b s _)
  unfold val_main_v52 val_main_v51 val_main_v15
  generalize val_main_v14 (F := Ideal) x g w = z
  pointwise

set_option maxRecDepth 16384 in
/-- The keys, turned by their position: the first half and the second. -/
theorem prompt_key_low (x : S2x4096x2048.Idx → EReal) (g : S2048.Idx → EReal) (w : S2048x4608.Idx → EReal) (b : Fin 2) (s : Fin 4096) (j : Fin 3) (h : Fin 8) (i : Fin 32) :
    val_main_v50 (F := Ideal) x g w (ix5 b s j h (lowHalf i))
      = turnLow 0x42000000#32 (BitVec.ofNat 32 s.val) (BitVec.ofNat 32 i.val)
          (proj (fun k => x (ix3 b s k)) (fun k => g (ix1 k)) (colOf w (keyCol j h (lowHalf i))))
          (proj (fun k => x (ix3 b s k)) (fun k => g (ix1 k)) (colOf w (keyCol j h (highHalf i)))) := by
  refine Eq.trans ?_ (congrArg₂ (turnLow _ _ _) (prompt_product x g w b s _) (prompt_product x g w b s _))
  unfold val_main_v50
  refine (concatenate_pair_apply_left (s₁ := S2x4096x3x8x32) (s₂ := S2x4096x3x8x32) (t := S2x4096x3x8x64) (4 : Fin 5) _ _ _ (ix5 b s j h (lowHalf i)) rfl
    (ix5 b s j h i) (fun x => match x with | ⟨0, _⟩ => rfl | ⟨1, _⟩ => rfl | ⟨2, _⟩ => rfl | ⟨3, _⟩ => rfl | ⟨4, _⟩ => rfl)).trans ?_
  unfold val_main_v42 val_main_v41 val_main_v40 val_main_v39 val_main_v33 val_main_v32 val_main_v35 val_main_v38 val_main_v37 val_main_v36 val_main_v31 val_main_v30 val_main_v29 val_main_v28 val_main_v26 val_main_v23 val_main_v21 val_main_v20 val_main_cst_2 val_main_v19 val_main_v18 val_main_v22 val_main_cst_3 val_main_v27 val_main_v25 val_main_v24 val_main_v13 val_main_v34 val_main_v17 val_main_v16 val_main_v15
  generalize val_main_v14 (F := Ideal) x g w = z
  pointwise
  rfl

set_option maxRecDepth 16384 in
theorem prompt_key_high (x : S2x4096x2048.Idx → EReal) (g : S2048.Idx → EReal) (w : S2048x4608.Idx → EReal) (b : Fin 2) (s : Fin 4096) (j : Fin 3) (h : Fin 8) (i : Fin 32) :
    val_main_v50 (F := Ideal) x g w (ix5 b s j h (highHalf i))
      = turnHigh 0x42000000#32 (BitVec.ofNat 32 s.val) (BitVec.ofNat 32 i.val)
          (proj (fun k => x (ix3 b s k)) (fun k => g (ix1 k)) (colOf w (keyCol j h (lowHalf i))))
          (proj (fun k => x (ix3 b s k)) (fun k => g (ix1 k)) (colOf w (keyCol j h (highHalf i)))) := by
  refine Eq.trans ?_ (congrArg₂ (turnHigh _ _ _) (prompt_product x g w b s _) (prompt_product x g w b s _))
  unfold val_main_v50
  refine (concatenate_pair_apply_right (s₁ := S2x4096x3x8x32) (s₂ := S2x4096x3x8x32) (t := S2x4096x3x8x64) (4 : Fin 5) _ _ _ (ix5 b s j h (highHalf i)) rfl rfl
    (ix5 b s j h i) (fun x hx => match x, hx with | ⟨0, _⟩, _ => rfl | ⟨1, _⟩, _ => rfl | ⟨2, _⟩, _ => rfl | ⟨3, _⟩, _ => rfl | ⟨4, _⟩, hx => absurd rfl hx) (Nat.add_comm _ _)).trans ?_
  unfold val_main_v49 val_main_v48 val_main_v47 val_main_v46 val_main_v33 val_main_v32 val_main_v34 val_main_v45 val_main_v44 val_main_v43 val_main_v31 val_main_v30 val_main_v29 val_main_v28 val_main_v26 val_main_v23 val_main_v21 val_main_v20 val_main_cst_2 val_main_v19 val_main_v18 val_main_v22 val_main_cst_3 val_main_v27 val_main_v25 val_main_v24 val_main_v13 val_main_v35 val_main_v17 val_main_v16 val_main_v15
  generalize val_main_v14 (F := Ideal) x g w = z
  pointwise
  rfl

/-! ## The sample tokens -/

/-- The normed rows. -/
theorem sample_normed (x : S128x4x2048.Idx → EReal) (g : S2048.Idx → EReal) (b : Fin 128) (s : Fin 4) (d : Fin 2048) :
    val_main_v89 (F := Ideal) x g (ix3 b s d) = rms (fun k => x (ix3 b s k)) (fun k => g (ix1 k)) d := by
  unfold val_main_v89 val_main_v88 val_main_v87 val_main_v86 val_main_v85 val_main_v84 val_main_v83 val_main_v82 val_main_cst_6 val_main_v81 val_main_v80 val_main_cst_5 val_main_v79 val_main_v78 val_main_cst_4 val_main_v77
  pointwise
  unfold rms scale len eps
  rfl

/-- An element of the product with the weights. -/
theorem sample_product (x : S128x4x2048.Idx → EReal) (g : S2048.Idx → EReal) (w : S2048x4608.Idx → EReal) (b : Fin 128) (s : Fin 4) (n : Fin 4608) :
    val_main_v93 (F := Ideal) x g w (ix3 b s n) = proj (fun k => x (ix3 b s k)) (fun k => g (ix1 k)) (colOf w (n)) := by
  rw [val_main_v93_apply]
  refine Finset.sum_congr rfl fun k _ => ?_
  refine congrArg₂ (· * ·) ((congrArg _ ?_).trans (sample_normed x g b s k)) (congrArg w ?_)
  · exact funext fun x => match x with | ⟨0, _⟩ => rfl | ⟨1, _⟩ => rfl | ⟨2, _⟩ => rfl
  · exact funext fun x => match x with | ⟨0, _⟩ => rfl | ⟨1, _⟩ => rfl

/-- The values. -/
theorem sample_value (x : S128x4x2048.Idx → EReal) (g : S2048.Idx → EReal) (w : S2048x4608.Idx → EReal) (b : Fin 128) (s : Fin 4) (j : Fin 3) (h : Fin 8) (d : Fin 64) :
    val_main_v131 (F := Ideal) x g w (ix5 b s j h d) = proj (fun k => x (ix3 b s k)) (fun k => g (ix1 k)) (colOf w (valCol j h d)) := by
  refine Eq.trans ?_ (sample_product x g w b s _)
  unfold val_main_v131 val_main_v130 val_main_v94
  generalize val_main_v93 (F := Ideal) x g w = z
  pointwise

set_option maxRecDepth 16384 in
/-- The keys, turned by their position: the first half and the second. -/
theorem sample_key_low (x : S128x4x2048.Idx → EReal) (g : S2048.Idx → EReal) (w : S2048x4608.Idx → EReal) (b : Fin 128) (s : Fin 4) (j : Fin 3) (h : Fin 8) (i : Fin 32) :
    val_main_v129 (F := Ideal) x g w (ix5 b s j h (lowHalf i))
      = turnLow 0x42000000#32 (IntOp.addi 8192#32 (BitVec.ofNat 32 s.val)) (BitVec.ofNat 32 i.val)
          (proj (fun k => x (ix3 b s k)) (fun k => g (ix1 k)) (colOf w (keyCol j h (lowHalf i))))
          (proj (fun k => x (ix3 b s k)) (fun k => g (ix1 k)) (colOf w (keyCol j h (highHalf i)))) := by
  refine Eq.trans ?_ (congrArg₂ (turnLow _ _ _) (sample_product x g w b s _) (sample_product x g w b s _))
  unfold val_main_v129
  refine (concatenate_pair_apply_left (s₁ := S128x4x3x8x32) (s₂ := S128x4x3x8x32) (t := S128x4x3x8x64) (4 : Fin 5) _ _ _ (ix5 b s j h (lowHalf i)) rfl
    (ix5 b s j h i) (fun x => match x with | ⟨0, _⟩ => rfl | ⟨1, _⟩ => rfl | ⟨2, _⟩ => rfl | ⟨3, _⟩ => rfl | ⟨4, _⟩ => rfl)).trans ?_
  unfold val_main_v121 val_main_v120 val_main_v119 val_main_v118 val_main_v112 val_main_v111 val_main_v114 val_main_v117 val_main_v116 val_main_v115 val_main_v110 val_main_v109 val_main_v108 val_main_v107 val_main_v105 val_main_v102 val_main_v100 val_main_v99 val_main_cst_7 val_main_v98 val_main_v97 val_main_v101 val_main_cst_8 val_main_v106 val_main_v104 val_main_v103 val_main_v92 val_main_v90 val_main_v91 val_main_c val_main_v113 val_main_v96 val_main_v95 val_main_v94
  generalize val_main_v93 (F := Ideal) x g w = z
  pointwise
  rfl

set_option maxRecDepth 16384 in
theorem sample_key_high (x : S128x4x2048.Idx → EReal) (g : S2048.Idx → EReal) (w : S2048x4608.Idx → EReal) (b : Fin 128) (s : Fin 4) (j : Fin 3) (h : Fin 8) (i : Fin 32) :
    val_main_v129 (F := Ideal) x g w (ix5 b s j h (highHalf i))
      = turnHigh 0x42000000#32 (IntOp.addi 8192#32 (BitVec.ofNat 32 s.val)) (BitVec.ofNat 32 i.val)
          (proj (fun k => x (ix3 b s k)) (fun k => g (ix1 k)) (colOf w (keyCol j h (lowHalf i))))
          (proj (fun k => x (ix3 b s k)) (fun k => g (ix1 k)) (colOf w (keyCol j h (highHalf i)))) := by
  refine Eq.trans ?_ (congrArg₂ (turnHigh _ _ _) (sample_product x g w b s _) (sample_product x g w b s _))
  unfold val_main_v129
  refine (concatenate_pair_apply_right (s₁ := S128x4x3x8x32) (s₂ := S128x4x3x8x32) (t := S128x4x3x8x64) (4 : Fin 5) _ _ _ (ix5 b s j h (highHalf i)) rfl rfl
    (ix5 b s j h i) (fun x hx => match x, hx with | ⟨0, _⟩, _ => rfl | ⟨1, _⟩, _ => rfl | ⟨2, _⟩, _ => rfl | ⟨3, _⟩, _ => rfl | ⟨4, _⟩, hx => absurd rfl hx) (Nat.add_comm _ _)).trans ?_
  unfold val_main_v128 val_main_v127 val_main_v126 val_main_v125 val_main_v112 val_main_v111 val_main_v113 val_main_v124 val_main_v123 val_main_v122 val_main_v110 val_main_v109 val_main_v108 val_main_v107 val_main_v105 val_main_v102 val_main_v100 val_main_v99 val_main_cst_7 val_main_v98 val_main_v97 val_main_v101 val_main_cst_8 val_main_v106 val_main_v104 val_main_v103 val_main_v92 val_main_v90 val_main_v91 val_main_c val_main_v114 val_main_v96 val_main_v95 val_main_v94
  generalize val_main_v93 (F := Ideal) x g w = z
  pointwise
  rfl

end Cert.ProjRefIdeal.Heads

end
-- ==== Proof.ProjRefPack.lean ====
/-
  The plain in-projection's results: the keys and values of each head group, packed.
-/
module

public import proofs.«01_k».proof.Proof.ProjRefRead
public import Idealize.ShloMosaic.Lib.Pipeline.Value

@[expose] public section

noncomputable section

namespace Cert.ProjRefIdeal.Heads

open Cert.ProjRefIdeal Cert.ProjRefIdeal.Gen Cert.ProjRefIdeal.Read Cert.RmsMath
open Idealize.ShloMosaic
open scoped BigOperators

/-! ## Slices and stacks -/

theorem prompt_first (x y : S2x4096x8x64.Idx → EReal) (b : Fin 2) (s : Fin 4096) (h : Fin 8) (d : Fin 64) :
    concatenate S2x4096x2x8x64 2 [⟨S2x4096x1x8x64, broadcastInDim S2x4096x1x8x64 ![0, 1, 3, 4] bcast_S2x4096x8x64_S2x4096x1x8x64_0_1_3_4 x⟩,
      ⟨S2x4096x1x8x64, broadcastInDim S2x4096x1x8x64 ![0, 1, 3, 4] bcast_S2x4096x8x64_S2x4096x1x8x64_0_1_3_4 y⟩]
      concatenates_S2x4096x1x8x64_S2x4096x1x8x64_S2x4096x2x8x64_d2 (ix5 b s (0 : Fin 2) h d) = x (ix4 b s h d) := by
  refine (concatenate_pair_apply_left (s₁ := S2x4096x1x8x64) (s₂ := S2x4096x1x8x64) (t := S2x4096x2x8x64) (2 : Fin 5) _ _ _ (ix5 b s (0 : Fin 2) h d) rfl
    (ix5 b s (0 : Fin 1) h d) (fun x => match x with | ⟨0, _⟩ => rfl | ⟨1, _⟩ => rfl | ⟨2, _⟩ => rfl | ⟨3, _⟩ => rfl | ⟨4, _⟩ => rfl)).trans ?_
  pointwise

theorem prompt_second (x y : S2x4096x8x64.Idx → EReal) (b : Fin 2) (s : Fin 4096) (h : Fin 8) (d : Fin 64) :
    concatenate S2x4096x2x8x64 2 [⟨S2x4096x1x8x64, broadcastInDim S2x4096x1x8x64 ![0, 1, 3, 4] bcast_S2x4096x8x64_S2x4096x1x8x64_0_1_3_4 x⟩,
      ⟨S2x4096x1x8x64, broadcastInDim S2x4096x1x8x64 ![0, 1, 3, 4] bcast_S2x4096x8x64_S2x4096x1x8x64_0_1_3_4 y⟩]
      concatenates_S2x4096x1x8x64_S2x4096x1x8x64_S2x4096x2x8x64_d2 (ix5 b s (1 : Fin 2) h d) = y (ix4 b s h d) := by
  refine (concatenate_pair_apply_right (s₁ := S2x4096x1x8x64) (s₂ := S2x4096x1x8x64) (t := S2x4096x2x8x64) (2 : Fin 5) _ _ _ (ix5 b s (1 : Fin 2) h d) rfl rfl
    (ix5 b s (0 : Fin 1) h d) (fun x hx => match x, hx with | ⟨0, _⟩, _ => rfl | ⟨1, _⟩, _ => rfl | ⟨2, _⟩, hx => absurd rfl hx | ⟨3, _⟩, _ => rfl | ⟨4, _⟩, _ => rfl) rfl).trans ?_
  pointwise

theorem sample_first (x y : S128x4x8x64.Idx → EReal) (b : Fin 128) (s : Fin 4) (h : Fin 8) (d : Fin 64) :
    concatenate S128x4x2x8x64 2 [⟨S128x4x1x8x64, broadcastInDim S128x4x1x8x64 ![0, 1, 3, 4] bcast_S128x4x8x64_S128x4x1x8x64_0_1_3_4 x⟩,
      ⟨S128x4x1x8x64, broadcastInDim S128x4x1x8x64 ![0, 1, 3, 4] bcast_S128x4x8x64_S128x4x1x8x64_0_1_3_4 y⟩]
      concatenates_S128x4x1x8x64_S128x4x1x8x64_S128x4x2x8x64_d2 (ix5 b s (0 : Fin 2) h d) = x (ix4 b s h d) := by
  refine (concatenate_pair_apply_left (s₁ := S128x4x1x8x64) (s₂ := S128x4x1x8x64) (t := S128x4x2x8x64) (2 : Fin 5) _ _ _ (ix5 b s (0 : Fin 2) h d) rfl
    (ix5 b s (0 : Fin 1) h d) (fun x => match x with | ⟨0, _⟩ => rfl | ⟨1, _⟩ => rfl | ⟨2, _⟩ => rfl | ⟨3, _⟩ => rfl | ⟨4, _⟩ => rfl)).trans ?_
  pointwise

theorem sample_second (x y : S128x4x8x64.Idx → EReal) (b : Fin 128) (s : Fin 4) (h : Fin 8) (d : Fin 64) :
    concatenate S128x4x2x8x64 2 [⟨S128x4x1x8x64, broadcastInDim S128x4x1x8x64 ![0, 1, 3, 4] bcast_S128x4x8x64_S128x4x1x8x64_0_1_3_4 x⟩,
      ⟨S128x4x1x8x64, broadcastInDim S128x4x1x8x64 ![0, 1, 3, 4] bcast_S128x4x8x64_S128x4x1x8x64_0_1_3_4 y⟩]
      concatenates_S128x4x1x8x64_S128x4x1x8x64_S128x4x2x8x64_d2 (ix5 b s (1 : Fin 2) h d) = y (ix4 b s h d) := by
  refine (concatenate_pair_apply_right (s₁ := S128x4x1x8x64) (s₂ := S128x4x1x8x64) (t := S128x4x2x8x64) (2 : Fin 5) _ _ _ (ix5 b s (1 : Fin 2) h d) rfl rfl
    (ix5 b s (0 : Fin 1) h d) (fun x hx => match x, hx with | ⟨0, _⟩, _ => rfl | ⟨1, _⟩, _ => rfl | ⟨2, _⟩, hx => absurd rfl hx | ⟨3, _⟩, _ => rfl | ⟨4, _⟩, _ => rfl) rfl).trans ?_
  pointwise

theorem recent0 (z : S2x4096x2x8x64.Idx → EReal) (b : Fin 2) (s : Fin 128) (u : Fin 2) (h : Fin 8) (d : Fin 64) :
    extractStridedSlice S2x128x2x8x64 ![0, 3968, 0, 0, 0] z slices_S2x4096x2x8x64_S2x128x2x8x64_0_3968_0_0_0 (ix5 b s u h d)
      = z (ix5 b (⟨3968 + s.val, by omega⟩ : Fin 4096) u h d) := by
  pointwise

theorem shifted0 (z : S128x132x2x8x64.Idx → EReal) (b : Fin 128) (s : Fin 128) (u : Fin 2) (h : Fin 8) (d : Fin 64) :
    extractStridedSlice S128x128x2x8x64 ![0, 4, 0, 0, 0] z slices_S128x132x2x8x64_S128x128x2x8x64_0_4_0_0_0 (ix5 b s u h d)
      = z (ix5 b (⟨4 + s.val, by omega⟩ : Fin 132) u h d) := by
  pointwise

theorem recent1 (z : S2x4096x2x8x64.Idx → EReal) (b : Fin 2) (s : Fin 512) (u : Fin 2) (h : Fin 8) (d : Fin 64) :
    extractStridedSlice S2x512x2x8x64 ![0, 3584, 0, 0, 0] z slices_S2x4096x2x8x64_S2x512x2x8x64_0_3584_0_0_0 (ix5 b s u h d)
      = z (ix5 b (⟨3584 + s.val, by omega⟩ : Fin 4096) u h d) := by
  pointwise

theorem shifted1 (z : S128x516x2x8x64.Idx → EReal) (b : Fin 128) (s : Fin 512) (u : Fin 2) (h : Fin 8) (d : Fin 64) :
    extractStridedSlice S128x512x2x8x64 ![0, 4, 0, 0, 0] z slices_S128x516x2x8x64_S128x512x2x8x64_0_4_0_0_0 (ix5 b s u h d)
      = z (ix5 b (⟨4 + s.val, by omega⟩ : Fin 516) u h d) := by
  pointwise

theorem recent2 (z : S2x4096x2x8x64.Idx → EReal) (b : Fin 2) (s : Fin 2048) (u : Fin 2) (h : Fin 8) (d : Fin 64) :
    extractStridedSlice S2x2048x2x8x64 ![0, 2048, 0, 0, 0] z slices_S2x4096x2x8x64_S2x2048x2x8x64_0_2048_0_0_0 (ix5 b s u h d)
      = z (ix5 b (⟨2048 + s.val, by omega⟩ : Fin 4096) u h d) := by
  pointwise

theorem shifted2 (z : S128x2052x2x8x64.Idx → EReal) (b : Fin 128) (s : Fin 2048) (u : Fin 2) (h : Fin 8) (d : Fin 64) :
    extractStridedSlice S128x2048x2x8x64 ![0, 4, 0, 0, 0] z slices_S128x2052x2x8x64_S128x2048x2x8x64_0_4_0_0_0 (ix5 b s u h d)
      = z (ix5 b (⟨4 + s.val, by omega⟩ : Fin 2052) u h d) := by
  pointwise

theorem prompt0_0 (x : S2x4096x2048.Idx → EReal) (g : S2048.Idx → EReal) (w : S2048x4608.Idx → EReal) (b : Fin 2) (s : Fin 128) (h : Fin 8) (d : Fin 64) :
    val_main_v60 (F := Ideal) x g w (ix5 b s (0 : Fin 2) h d)
      = val_main_v50 (F := Ideal) x g w (ix5 b (⟨3968 + s.val, by omega⟩ : Fin 4096) (0 : Fin 3) h d) := by
  unfold val_main_v60
  refine (recent0 (val_main_v59 (F := Ideal) x g w) b s (0 : Fin 2) h d).trans ?_
  unfold val_main_v59 val_main_v57 val_main_v58
  refine (prompt_first (val_main_v54 (F := Ideal) x g w) (val_main_v56 (F := Ideal) x g w) b ⟨3968 + s.val, by omega⟩ h d).trans ?_
  unfold val_main_v54 val_main_v53
  generalize val_main_v50 (F := Ideal) x g w = z
  pointwise

theorem prompt0_1 (x : S2x4096x2048.Idx → EReal) (g : S2048.Idx → EReal) (w : S2048x4608.Idx → EReal) (b : Fin 2) (s : Fin 128) (h : Fin 8) (d : Fin 64) :
    val_main_v60 (F := Ideal) x g w (ix5 b s (1 : Fin 2) h d)
      = val_main_v52 (F := Ideal) x g w (ix5 b (⟨3968 + s.val, by omega⟩ : Fin 4096) (0 : Fin 3) h d) := by
  unfold val_main_v60
  refine (recent0 (val_main_v59 (F := Ideal) x g w) b s (1 : Fin 2) h d).trans ?_
  unfold val_main_v59 val_main_v57 val_main_v58
  refine (prompt_second (val_main_v54 (F := Ideal) x g w) (val_main_v56 (F := Ideal) x g w) b ⟨3968 + s.val, by omega⟩ h d).trans ?_
  unfold val_main_v56 val_main_v55
  generalize val_main_v52 (F := Ideal) x g w = z
  pointwise

theorem prompt1_0 (x : S2x4096x2048.Idx → EReal) (g : S2048.Idx → EReal) (w : S2048x4608.Idx → EReal) (b : Fin 2) (s : Fin 512) (h : Fin 8) (d : Fin 64) :
    val_main_v68 (F := Ideal) x g w (ix5 b s (0 : Fin 2) h d)
      = val_main_v50 (F := Ideal) x g w (ix5 b (⟨3584 + s.val, by omega⟩ : Fin 4096) (1 : Fin 3) h d) := by
  unfold val_main_v68
  refine (recent1 (val_main_v67 (F := Ideal) x g w) b s (0 : Fin 2) h d).trans ?_
  unfold val_main_v67 val_main_v65 val_main_v66
  refine (prompt_first (val_main_v62 (F := Ideal) x g w) (val_main_v64 (F := Ideal) x g w) b ⟨3584 + s.val, by omega⟩ h d).trans ?_
  unfold val_main_v62 val_main_v61
  generalize val_main_v50 (F := Ideal) x g w = z
  pointwise

theorem prompt1_1 (x : S2x4096x2048.Idx → EReal) (g : S2048.Idx → EReal) (w : S2048x4608.Idx → EReal) (b : Fin 2) (s : Fin 512) (h : Fin 8) (d : Fin 64) :
    val_main_v68 (F := Ideal) x g w (ix5 b s (1 : Fin 2) h d)
      = val_main_v52 (F := Ideal) x g w (ix5 b (⟨3584 + s.val, by omega⟩ : Fin 4096) (1 : Fin 3) h d) := by
  unfold val_main_v68
  refine (recent1 (val_main_v67 (F := Ideal) x g w) b s (1 : Fin 2) h d).trans ?_
  unfold val_main_v67 val_main_v65 val_main_v66
  refine (prompt_second (val_main_v62 (F := Ideal) x g w) (val_main_v64 (F := Ideal) x g w) b ⟨3584 + s.val, by omega⟩ h d).trans ?_
  unfold val_main_v64 val_main_v63
  generalize val_main_v52 (F := Ideal) x g w = z
  pointwise

theorem prompt2_0 (x : S2x4096x2048.Idx → EReal) (g : S2048.Idx → EReal) (w : S2048x4608.Idx → EReal) (b : Fin 2) (s : Fin 2048) (h : Fin 8) (d : Fin 64) :
    val_main_v76 (F := Ideal) x g w (ix5 b s (0 : Fin 2) h d)
      = val_main_v50 (F := Ideal) x g w (ix5 b (⟨2048 + s.val, by omega⟩ : Fin 4096) (2 : Fin 3) h d) := by
  unfold val_main_v76
  refine (recent2 (val_main_v75 (F := Ideal) x g w) b s (0 : Fin 2) h d).trans ?_
  unfold val_main_v75 val_main_v73 val_main_v74
  refine (prompt_first (val_main_v70 (F := Ideal) x g w) (val_main_v72 (F := Ideal) x g w) b ⟨2048 + s.val, by omega⟩ h d).trans ?_
  unfold val_main_v70 val_main_v69
  generalize val_main_v50 (F := Ideal) x g w = z
  pointwise

theorem prompt2_1 (x : S2x4096x2048.Idx → EReal) (g : S2048.Idx → EReal) (w : S2048x4608.Idx → EReal) (b : Fin 2) (s : Fin 2048) (h : Fin 8) (d : Fin 64) :
    val_main_v76 (F := Ideal) x g w (ix5 b s (1 : Fin 2) h d)
      = val_main_v52 (F := Ideal) x g w (ix5 b (⟨2048 + s.val, by omega⟩ : Fin 4096) (2 : Fin 3) h d) := by
  unfold val_main_v76
  refine (recent2 (val_main_v75 (F := Ideal) x g w) b s (1 : Fin 2) h d).trans ?_
  unfold val_main_v75 val_main_v73 val_main_v74
  refine (prompt_second (val_main_v70 (F := Ideal) x g w) (val_main_v72 (F := Ideal) x g w) b ⟨2048 + s.val, by omega⟩ h d).trans ?_
  unfold val_main_v72 val_main_v71
  generalize val_main_v52 (F := Ideal) x g w = z
  pointwise

theorem sample0_old (x : S128x4x2048.Idx → EReal) (a : S128x128x2x8x64.Idx → EReal) (g : S2048.Idx → EReal) (w : S2048x4608.Idx → EReal) (b : Fin 128) (s : Fin 124) (u : Fin 2) (h : Fin 8) (d : Fin 64) :
    val_main_v140 (F := Ideal) x a g w (ix5 b (⟨s.val, by omega⟩ : Fin 128) u h d) = a (ix5 b (⟨4 + s.val, by omega⟩ : Fin 128) u h d) := by
  unfold val_main_v140 val_main_v139
  exact (shifted0 _ b (⟨s.val, by omega⟩ : Fin 128) u h d).trans (concatenate_pair_apply_left (s₁ := S128x128x2x8x64) (s₂ := S128x4x2x8x64) (t := S128x132x2x8x64) (1 : Fin 5) _ _ _ _ rfl
    (ix5 b (⟨4 + s.val, by omega⟩ : Fin 128) u h d) (fun x => match x with | ⟨0, _⟩ => rfl | ⟨1, _⟩ => rfl | ⟨2, _⟩ => rfl | ⟨3, _⟩ => rfl | ⟨4, _⟩ => rfl))

theorem sample0_0 (x : S128x4x2048.Idx → EReal) (a : S128x128x2x8x64.Idx → EReal) (g : S2048.Idx → EReal) (w : S2048x4608.Idx → EReal) (b : Fin 128) (s : Fin 4) (h : Fin 8) (d : Fin 64) :
    val_main_v140 (F := Ideal) x a g w (ix5 b (⟨124 + s.val, by omega⟩ : Fin 128) (0 : Fin 2) h d)
      = val_main_v129 (F := Ideal) x g w (ix5 b s (0 : Fin 3) h d) := by
  unfold val_main_v140 val_main_v139
  refine (shifted0 _ b (⟨124 + s.val, by omega⟩ : Fin 128) (0 : Fin 2) h d).trans ((concatenate_pair_apply_right (s₁ := S128x128x2x8x64) (s₂ := S128x4x2x8x64) (t := S128x132x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 128 = 4 + (124 + s.val); omega)).trans ?_)
  unfold val_main_v138 val_main_v136 val_main_v137
  refine (sample_first (val_main_v133 (F := Ideal) x g w) (val_main_v135 (F := Ideal) x g w) b s h d).trans ?_
  unfold val_main_v133 val_main_v132
  generalize val_main_v129 (F := Ideal) x g w = z
  pointwise

theorem sample0_1 (x : S128x4x2048.Idx → EReal) (a : S128x128x2x8x64.Idx → EReal) (g : S2048.Idx → EReal) (w : S2048x4608.Idx → EReal) (b : Fin 128) (s : Fin 4) (h : Fin 8) (d : Fin 64) :
    val_main_v140 (F := Ideal) x a g w (ix5 b (⟨124 + s.val, by omega⟩ : Fin 128) (1 : Fin 2) h d)
      = val_main_v131 (F := Ideal) x g w (ix5 b s (0 : Fin 3) h d) := by
  unfold val_main_v140 val_main_v139
  refine (shifted0 _ b (⟨124 + s.val, by omega⟩ : Fin 128) (1 : Fin 2) h d).trans ((concatenate_pair_apply_right (s₁ := S128x128x2x8x64) (s₂ := S128x4x2x8x64) (t := S128x132x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 128 = 4 + (124 + s.val); omega)).trans ?_)
  unfold val_main_v138 val_main_v136 val_main_v137
  refine (sample_second (val_main_v133 (F := Ideal) x g w) (val_main_v135 (F := Ideal) x g w) b s h d).trans ?_
  unfold val_main_v135 val_main_v134
  generalize val_main_v131 (F := Ideal) x g w = z
  pointwise

theorem sample1_old (x : S128x4x2048.Idx → EReal) (a : S128x512x2x8x64.Idx → EReal) (g : S2048.Idx → EReal) (w : S2048x4608.Idx → EReal) (b : Fin 128) (s : Fin 508) (u : Fin 2) (h : Fin 8) (d : Fin 64) :
    val_main_v149 (F := Ideal) x a g w (ix5 b (⟨s.val, by omega⟩ : Fin 512) u h d) = a (ix5 b (⟨4 + s.val, by omega⟩ : Fin 512) u h d) := by
  unfold val_main_v149 val_main_v148
  exact (shifted1 _ b (⟨s.val, by omega⟩ : Fin 512) u h d).trans (concatenate_pair_apply_left (s₁ := S128x512x2x8x64) (s₂ := S128x4x2x8x64) (t := S128x516x2x8x64) (1 : Fin 5) _ _ _ _ rfl
    (ix5 b (⟨4 + s.val, by omega⟩ : Fin 512) u h d) (fun x => match x with | ⟨0, _⟩ => rfl | ⟨1, _⟩ => rfl | ⟨2, _⟩ => rfl | ⟨3, _⟩ => rfl | ⟨4, _⟩ => rfl))

theorem sample1_0 (x : S128x4x2048.Idx → EReal) (a : S128x512x2x8x64.Idx → EReal) (g : S2048.Idx → EReal) (w : S2048x4608.Idx → EReal) (b : Fin 128) (s : Fin 4) (h : Fin 8) (d : Fin 64) :
    val_main_v149 (F := Ideal) x a g w (ix5 b (⟨508 + s.val, by omega⟩ : Fin 512) (0 : Fin 2) h d)
      = val_main_v129 (F := Ideal) x g w (ix5 b s (1 : Fin 3) h d) := by
  unfold val_main_v149 val_main_v148
  refine (shifted1 _ b (⟨508 + s.val, by omega⟩ : Fin 512) (0 : Fin 2) h d).trans ((concatenate_pair_apply_right (s₁ := S128x512x2x8x64) (s₂ := S128x4x2x8x64) (t := S128x516x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 512 = 4 + (508 + s.val); omega)).trans ?_)
  unfold val_main_v147 val_main_v145 val_main_v146
  refine (sample_first (val_main_v142 (F := Ideal) x g w) (val_main_v144 (F := Ideal) x g w) b s h d).trans ?_
  unfold val_main_v142 val_main_v141
  generalize val_main_v129 (F := Ideal) x g w = z
  pointwise

theorem sample1_1 (x : S128x4x2048.Idx → EReal) (a : S128x512x2x8x64.Idx → EReal) (g : S2048.Idx → EReal) (w : S2048x4608.Idx → EReal) (b : Fin 128) (s : Fin 4) (h : Fin 8) (d : Fin 64) :
    val_main_v149 (F := Ideal) x a g w (ix5 b (⟨508 + s.val, by omega⟩ : Fin 512) (1 : Fin 2) h d)
      = val_main_v131 (F := Ideal) x g w (ix5 b s (1 : Fin 3) h d) := by
  unfold val_main_v149 val_main_v148
  refine (shifted1 _ b (⟨508 + s.val, by omega⟩ : Fin 512) (1 : Fin 2) h d).trans ((concatenate_pair_apply_right (s₁ := S128x512x2x8x64) (s₂ := S128x4x2x8x64) (t := S128x516x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 512 = 4 + (508 + s.val); omega)).trans ?_)
  unfold val_main_v147 val_main_v145 val_main_v146
  refine (sample_second (val_main_v142 (F := Ideal) x g w) (val_main_v144 (F := Ideal) x g w) b s h d).trans ?_
  unfold val_main_v144 val_main_v143
  generalize val_main_v131 (F := Ideal) x g w = z
  pointwise

theorem sample2_old (x : S128x4x2048.Idx → EReal) (a : S128x2048x2x8x64.Idx → EReal) (g : S2048.Idx → EReal) (w : S2048x4608.Idx → EReal) (b : Fin 128) (s : Fin 2044) (u : Fin 2) (h : Fin 8) (d : Fin 64) :
    val_main_v158 (F := Ideal) x a g w (ix5 b (⟨s.val, by omega⟩ : Fin 2048) u h d) = a (ix5 b (⟨4 + s.val, by omega⟩ : Fin 2048) u h d) := by
  unfold val_main_v158 val_main_v157
  exact (shifted2 _ b (⟨s.val, by omega⟩ : Fin 2048) u h d).trans (concatenate_pair_apply_left (s₁ := S128x2048x2x8x64) (s₂ := S128x4x2x8x64) (t := S128x2052x2x8x64) (1 : Fin 5) _ _ _ _ rfl
    (ix5 b (⟨4 + s.val, by omega⟩ : Fin 2048) u h d) (fun x => match x with | ⟨0, _⟩ => rfl | ⟨1, _⟩ => rfl | ⟨2, _⟩ => rfl | ⟨3, _⟩ => rfl | ⟨4, _⟩ => rfl))

theorem sample2_0 (x : S128x4x2048.Idx → EReal) (a : S128x2048x2x8x64.Idx → EReal) (g : S2048.Idx → EReal) (w : S2048x4608.Idx → EReal) (b : Fin 128) (s : Fin 4) (h : Fin 8) (d : Fin 64) :
    val_main_v158 (F := Ideal) x a g w (ix5 b (⟨2044 + s.val, by omega⟩ : Fin 2048) (0 : Fin 2) h d)
      = val_main_v129 (F := Ideal) x g w (ix5 b s (2 : Fin 3) h d) := by
  unfold val_main_v158 val_main_v157
  refine (shifted2 _ b (⟨2044 + s.val, by omega⟩ : Fin 2048) (0 : Fin 2) h d).trans ((concatenate_pair_apply_right (s₁ := S128x2048x2x8x64) (s₂ := S128x4x2x8x64) (t := S128x2052x2x8x64) (1 : Fin 5) _ _ _ _ rfl rfl
    (ix5 b s (0 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 2048 = 4 + (2044 + s.val); omega)).trans ?_)
  unfold val_main_v156 val_main_v154 val_main_v155
  refine (sample_first (val_main_v151 (F := Ideal) x g w) (val_main_v153 (F := Ideal) x g w) b s h d).trans ?_
  unfold val_main_v151 val_main_v150
  generalize val_main_v129 (F := Ideal) x g w = z
  pointwise

theorem sample2_1 (x : S128x4x2048.Idx → EReal) (a : S128x2048x2x8x64.Idx → EReal) (g : S2048.Idx → EReal) (w : S2048x4608.Idx → EReal) (b : Fin 128) (s : Fin 4) (h : Fin 8) (d : Fin 64) :
    val_main_v158 (F := Ideal) x a g w (ix5 b (⟨2044 + s.val, by omega⟩ : Fin 2048) (1 : Fin 2) h d)
      = val_main_v131 (F := Ideal) x g w (ix5 b s (2 : Fin 3) h d) := by
  unfold val_main_v158 val_main_v157
  refine (shifted2 _ b (⟨2044 + s.val, by omega⟩ : Fin 2048) (1 : Fin 2) h d).trans ((concatenate_pair_apply_right (s₁ := S128x2048x2x8x64) (s₂ := S128x4x2x8x64) (t := S128x2052x2x8x64) (1 : Fin 5) _ _ _ _ rfl rfl
    (ix5 b s (1 : Fin 2) h d) (fun x hx => match x, hx with | ⟨0, _⟩, _ => rfl | ⟨1, _⟩, hx => absurd rfl hx | ⟨2, _⟩, _ => rfl | ⟨3, _⟩, _ => rfl | ⟨4, _⟩, _ => rfl) (by show s.val + 2048 = 4 + (2044 + s.val); omega)).trans ?_)
  unfold val_main_v156 val_main_v154 val_main_v155
  refine (sample_second (val_main_v151 (F := Ideal) x g w) (val_main_v153 (F := Ideal) x g w) b s h d).trans ?_
  unfold val_main_v153 val_main_v152
  generalize val_main_v131 (F := Ideal) x g w = z
  pointwise

end Cert.ProjRefIdeal.Heads

end
-- ==== Proof.ProjClaim.lean ====
/-
  The in-projection and its plain reference leave the same keys and values.
-/
module

public import proofs.«01_k».proof.Defs
public import proofs.«01_k».proof.Proof.ProjTail
public import proofs.«01_k».proof.Proof.ProjRefPack
public import proofs.«01_k».proof.Proof.Gen.ProjRefIdeal.Run
public import Idealize.ShloMosaic.Lib.Quiescent
public import Idealize.ShloMosaic.Lib.ValueIdx

@[expose] public section

noncomputable section

namespace Cert.ProjIdeal.Heads

open Cert.ProjIdeal Cert.ProjIdeal.Gen Cert.RmsMath
open Idealize.ShloMosaic
open Idealize.ShloMosaic.TcCoe Idealize.SL.Sem
open scoped BigOperators

variable (m : (ℓ : Loc nD τ sig) → Buf (Elt Ideal) ℓ) (c : Dev nD)

/-- The three caches of the decode tokens. -/
abbrev cache0 : S128x128x2x8x64.Idx → EReal := m ((c : Thread nD τ).loc main_arg2)
abbrev cache1 : S128x512x2x8x64.Idx → EReal := m ((c : Thread nD τ).loc main_arg3)
abbrev cache2 : S128x2048x2x8x64.Idx → EReal := m ((c : Thread nD τ).loc main_arg4)

/-- The buffers as the call leaves them. -/
abbrev left : Valuation τ sig (Elt Ideal) := Pipeline.withArrays (cfgs 0).spec c (V0 m c) fun w => (dats m 0 c).arrAt w (cfgs 0).N

theorem left_product : zOf (left m c) = result m c :=
  (Pipeline.withArrays_arr spec0 (by decide) c (V0 m c) _ (5 : Fin 6)).trans (array_eq m c)

theorem left_cache0 : (left m c (Proc.devRef .tc main_arg2) : S128x128x2x8x64.Idx → EReal) = cache0 m c :=
  (Pipeline.withArrays_of_ne spec0 c (V0 m c) _ main_arg2 (by decide)).trans (V_main_arg2 m c)
theorem left_cache1 : (left m c (Proc.devRef .tc main_arg3) : S128x512x2x8x64.Idx → EReal) = cache1 m c :=
  (Pipeline.withArrays_of_ne spec0 c (V0 m c) _ main_arg3 (by decide)).trans (V_main_arg3 m c)
theorem left_cache2 : (left m c (Proc.devRef .tc main_arg4) : S128x2048x2x8x64.Idx → EReal) = cache2 m c :=
  (Pipeline.withArrays_of_ne spec0 c (V0 m c) _ main_arg4 (by decide)).trans (V_main_arg4 m c)

/-- What the program ends with in a buffer. -/
abbrev finalAt (b : Ref sig .tc) := Pipeline.afterTail₀ cfgs (dats m) 0 (V0 m) [hostOps1] c b

theorem final_eq (b : Ref sig .tc) : finalAt m c b = endAt (left m c) b := by
  unfold finalAt Pipeline.afterTail₀ endAt
  simp only [List.flatten_cons, List.flatten_nil, List.append_nil]

/-- An element of a head lies in its first half or in its second. -/
theorem half_cases (d : Fin 64) : (∃ i, d = lowHalf i) ∨ ∃ i, d = highHalf i := by
  by_cases h : d.val < 32
  · exact .inl ⟨⟨d.val, h⟩, rfl⟩
  · exact .inr ⟨⟨d.val - 32, by omega⟩, Fin.ext (by show d.val = 32 + (d.val - 32); omega)⟩

/-! ## The call's product against the reference's keys and values -/

theorem prompt_values (b : Fin 2) (s : Fin 4096) (g : Fin 3) (h : Fin 8) (d : Fin 64) : result m c (ix2 (promptRow b s) (valCol g h d))
    = Cert.ProjRefIdeal.Read.val_main_v52 (F := Ideal) (argP m c) (argG m c) (argW m c) (ix5 b s g h d) :=
  (result_value m c (promptRow b s) g h d).trans ((prod_prompt m c b s _).trans (Cert.ProjRefIdeal.Heads.prompt_value _ _ _ b s g h d).symm)

theorem prompt_keys (b : Fin 2) (s : Fin 4096) (g : Fin 3) (h : Fin 8) (d : Fin 64) : result m c (ix2 (promptRow b s) (keyCol g h d))
    = Cert.ProjRefIdeal.Read.val_main_v50 (F := Ideal) (argP m c) (argG m c) (argW m c) (ix5 b s g h d) := by
  obtain ⟨i, rfl⟩ | ⟨i, rfl⟩ := half_cases d
  · refine (result_key_low m c (promptRow b s) g h i).trans (Eq.trans ?_ (Cert.ProjRefIdeal.Heads.prompt_key_low _ _ _ b s g h i).symm)
    rw [pos_prompt]
    exact congrArg₂ (turnLow _ _ _) (prod_prompt m c b s _) (prod_prompt m c b s _)
  · refine (result_key_high m c (promptRow b s) g h i).trans (Eq.trans ?_ (Cert.ProjRefIdeal.Heads.prompt_key_high _ _ _ b s g h i).symm)
    rw [pos_prompt]
    exact congrArg₂ (turnHigh _ _ _) (prod_prompt m c b s _) (prod_prompt m c b s _)

theorem sample_values (b : Fin 128) (s : Fin 4) (g : Fin 3) (h : Fin 8) (d : Fin 64) : result m c (ix2 (sampleRow b s) (valCol g h d))
    = Cert.ProjRefIdeal.Read.val_main_v131 (F := Ideal) (argS m c) (argG m c) (argW m c) (ix5 b s g h d) :=
  (result_value m c (sampleRow b s) g h d).trans ((prod_sample m c b s _).trans (Cert.ProjRefIdeal.Heads.sample_value _ _ _ b s g h d).symm)

theorem sample_keys (b : Fin 128) (s : Fin 4) (g : Fin 3) (h : Fin 8) (d : Fin 64) : result m c (ix2 (sampleRow b s) (keyCol g h d))
    = Cert.ProjRefIdeal.Read.val_main_v129 (F := Ideal) (argS m c) (argG m c) (argW m c) (ix5 b s g h d) := by
  obtain ⟨i, rfl⟩ | ⟨i, rfl⟩ := half_cases d
  · refine (result_key_low m c (sampleRow b s) g h i).trans (Eq.trans ?_ (Cert.ProjRefIdeal.Heads.sample_key_low _ _ _ b s g h i).symm)
    rw [pos_sample]
    exact congrArg₂ (turnLow _ _ _) (prod_sample m c b s _) (prod_sample m c b s _)
  · refine (result_key_high m c (sampleRow b s) g h i).trans (Eq.trans ?_ (Cert.ProjRefIdeal.Heads.sample_key_high _ _ _ b s g h i).symm)
    rw [pos_sample]
    exact congrArg₂ (turnHigh _ _ _) (prod_sample m c b s _) (prod_sample m c b s _)

/-! ## The six results -/

theorem prompt_pack0 (b : Fin 2) (s : Fin 128) (u : Fin 2) (h : Fin 8) (d : Fin 64) :
    (finalAt m c main_v57 : S2x128x2x8x64.Idx → EReal) (ix5 b s u h d)
      = Cert.ProjRefIdeal.Read.val_main_v60 (F := Ideal) (argP m c) (argG m c) (argW m c) (ix5 b s u h d) := by
  rw [final_eq]
  obtain rfl | rfl : u = 0 ∨ u = 1 := by omega
  · refine (prompt0_0 (left m c) b s h d).trans ((congrFun (left_product m c) _).trans ?_)
    exact (prompt_keys m c b _ _ h d).trans (Cert.ProjRefIdeal.Heads.prompt0_0 _ _ _ b s h d).symm
  · refine (prompt0_1 (left m c) b s h d).trans ((congrFun (left_product m c) _).trans ?_)
    exact (prompt_values m c b _ _ h d).trans (Cert.ProjRefIdeal.Heads.prompt0_1 _ _ _ b s h d).symm

theorem prompt_pack1 (b : Fin 2) (s : Fin 512) (u : Fin 2) (h : Fin 8) (d : Fin 64) :
    (finalAt m c main_v65 : S2x512x2x8x64.Idx → EReal) (ix5 b s u h d)
      = Cert.ProjRefIdeal.Read.val_main_v68 (F := Ideal) (argP m c) (argG m c) (argW m c) (ix5 b s u h d) := by
  rw [final_eq]
  obtain rfl | rfl : u = 0 ∨ u = 1 := by omega
  · refine (prompt1_0 (left m c) b s h d).trans ((congrFun (left_product m c) _).trans ?_)
    exact (prompt_keys m c b _ _ h d).trans (Cert.ProjRefIdeal.Heads.prompt1_0 _ _ _ b s h d).symm
  · refine (prompt1_1 (left m c) b s h d).trans ((congrFun (left_product m c) _).trans ?_)
    exact (prompt_values m c b _ _ h d).trans (Cert.ProjRefIdeal.Heads.prompt1_1 _ _ _ b s h d).symm

theorem prompt_pack2 (b : Fin 2) (s : Fin 2048) (u : Fin 2) (h : Fin 8) (d : Fin 64) :
    (finalAt m c main_v73 : S2x2048x2x8x64.Idx → EReal) (ix5 b s u h d)
      = Cert.ProjRefIdeal.Read.val_main_v76 (F := Ideal) (argP m c) (argG m c) (argW m c) (ix5 b s u h d) := by
  rw [final_eq]
  obtain rfl | rfl : u = 0 ∨ u = 1 := by omega
  · refine (prompt2_0 (left m c) b s h d).trans ((congrFun (left_product m c) _).trans ?_)
    exact (prompt_keys m c b _ _ h d).trans (Cert.ProjRefIdeal.Heads.prompt2_0 _ _ _ b s h d).symm
  · refine (prompt2_1 (left m c) b s h d).trans ((congrFun (left_product m c) _).trans ?_)
    exact (prompt_values m c b _ _ h d).trans (Cert.ProjRefIdeal.Heads.prompt2_1 _ _ _ b s h d).symm

theorem sample_pack0 (b : Fin 128) (s : Fin 128) (u : Fin 2) (h : Fin 8) (d : Fin 64) :
    (finalAt m c main_v89 : S128x128x2x8x64.Idx → EReal) (ix5 b s u h d)
      = Cert.ProjRefIdeal.Read.val_main_v140 (F := Ideal) (argS m c) (cache0 m c) (argG m c) (argW m c) (ix5 b s u h d) := by
  rw [final_eq]
  by_cases hs : s.val < 124
  · refine (sample0_old (left m c) b ⟨s.val, hs⟩ u h d).trans ((congrFun (left_cache0 m c) _).trans ?_)
    exact (Cert.ProjRefIdeal.Heads.sample0_old _ _ _ _ b ⟨s.val, hs⟩ u h d).symm
  · obtain ⟨t, rfl⟩ : ∃ t : Fin 4, s = ⟨124 + t.val, Nat.add_lt_add_left t.isLt 124⟩ :=
      ⟨⟨s.val - 124, by omega⟩, Fin.ext (by show s.val = 124 + (s.val - 124); omega)⟩
    obtain rfl | rfl : u = 0 ∨ u = 1 := by omega
    · refine (sample0_0 (left m c) b t h d).trans ((congrFun (left_product m c) _).trans ?_)
      exact (sample_keys m c b t _ h d).trans (Cert.ProjRefIdeal.Heads.sample0_0 _ _ _ _ b t h d).symm
    · refine (sample0_1 (left m c) b t h d).trans ((congrFun (left_product m c) _).trans ?_)
      exact (sample_values m c b t _ h d).trans (Cert.ProjRefIdeal.Heads.sample0_1 _ _ _ _ b t h d).symm

theorem sample_pack1 (b : Fin 128) (s : Fin 512) (u : Fin 2) (h : Fin 8) (d : Fin 64) :
    (finalAt m c main_v98 : S128x512x2x8x64.Idx → EReal) (ix5 b s u h d)
      = Cert.ProjRefIdeal.Read.val_main_v149 (F := Ideal) (argS m c) (cache1 m c) (argG m c) (argW m c) (ix5 b s u h d) := by
  rw [final_eq]
  by_cases hs : s.val < 508
  · refine (sample1_old (left m c) b ⟨s.val, hs⟩ u h d).trans ((congrFun (left_cache1 m c) _).trans ?_)
    exact (Cert.ProjRefIdeal.Heads.sample1_old _ _ _ _ b ⟨s.val, hs⟩ u h d).symm
  · obtain ⟨t, rfl⟩ : ∃ t : Fin 4, s = ⟨508 + t.val, Nat.add_lt_add_left t.isLt 508⟩ :=
      ⟨⟨s.val - 508, by omega⟩, Fin.ext (by show s.val = 508 + (s.val - 508); omega)⟩
    obtain rfl | rfl : u = 0 ∨ u = 1 := by omega
    · refine (sample1_0 (left m c) b t h d).trans ((congrFun (left_product m c) _).trans ?_)
      exact (sample_keys m c b t _ h d).trans (Cert.ProjRefIdeal.Heads.sample1_0 _ _ _ _ b t h d).symm
    · refine (sample1_1 (left m c) b t h d).trans ((congrFun (left_product m c) _).trans ?_)
      exact (sample_values m c b t _ h d).trans (Cert.ProjRefIdeal.Heads.sample1_1 _ _ _ _ b t h d).symm

theorem sample_pack2 (b : Fin 128) (s : Fin 2048) (u : Fin 2) (h : Fin 8) (d : Fin 64) :
    (finalAt m c main_v107 : S128x2048x2x8x64.Idx → EReal) (ix5 b s u h d)
      = Cert.ProjRefIdeal.Read.val_main_v158 (F := Ideal) (argS m c) (cache2 m c) (argG m c) (argW m c) (ix5 b s u h d) := by
  rw [final_eq]
  by_cases hs : s.val < 2044
  · refine (sample2_old (left m c) b ⟨s.val, hs⟩ u h d).trans ((congrFun (left_cache2 m c) _).trans ?_)
    exact (Cert.ProjRefIdeal.Heads.sample2_old _ _ _ _ b ⟨s.val, hs⟩ u h d).symm
  · obtain ⟨t, rfl⟩ : ∃ t : Fin 4, s = ⟨2044 + t.val, Nat.add_lt_add_left t.isLt 2044⟩ :=
      ⟨⟨s.val - 2044, by omega⟩, Fin.ext (by show s.val = 2044 + (s.val - 2044); omega)⟩
    obtain rfl | rfl : u = 0 ∨ u = 1 := by omega
    · refine (sample2_0 (left m c) b t h d).trans ((congrFun (left_product m c) _).trans ?_)
      exact (sample_keys m c b t _ h d).trans (Cert.ProjRefIdeal.Heads.sample2_0 _ _ _ _ b t h d).symm
    · refine (sample2_1 (left m c) b t h d).trans ((congrFun (left_product m c) _).trans ?_)
      exact (sample_values m c b t _ h d).trans (Cert.ProjRefIdeal.Heads.sample2_1 _ _ _ _ b t h d).symm

/-- Every run ends with these contents and the arguments unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v57) = finalAt m c main_v57
      ∧ r.2.mem ((c.tc : Thread nD τ).loc main_v65) = finalAt m c main_v65
      ∧ r.2.mem ((c.tc : Thread nD τ).loc main_v73) = finalAt m c main_v73
      ∧ r.2.mem ((c.tc : Thread nD τ).loc main_v89) = finalAt m c main_v89
      ∧ r.2.mem ((c.tc : Thread nD τ).loc main_v98) = finalAt m c main_v98
      ∧ r.2.mem ((c.tc : Thread nD τ).loc main_v107) = finalAt m c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1 c).2 main_v57 (Pipeline.mem_restRefs_of main_v57 (by decide) (by decide)),
      (h.1 c).2 main_v65 (Pipeline.mem_restRefs_of main_v65 (by decide) (by decide)),
      (h.1 c).2 main_v73 (Pipeline.mem_restRefs_of main_v73 (by decide) (by decide)),
      (h.1 c).2 main_v89 (Pipeline.mem_restRefs_of main_v89 (by decide) (by decide)),
      (h.1 c).2 main_v98 (Pipeline.mem_restRefs_of main_v98 (by decide) (by decide)),
      (h.1 c).2 main_v107 (Pipeline.mem_restRefs_of main_v107 (by decide) (by decide)), h.2 c⟩)
    (θ_run_and (run_main m g) (unchanged m g))

/-- The in-projection's value claim. -/
theorem algebraic : Cert.algebraic_ProjIdeal_ProjRefIdeal := by
  intro m g m' g' _ hargs
  refine ⟨fun c => finalAt m c main_v57, fun c => finalAt m c main_v65, fun c => finalAt m c main_v73, fun c => finalAt m c main_v89, fun c => finalAt m c main_v98, fun c => finalAt m c main_v107, run m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ProjRefIdeal.Value.run (F := Ideal) m' g')
  all_goals
    obtain ⟨h0, h1, h2, h3, h4, h5, h6⟩ := hargs c
  · rw [Cert.ProjRefIdeal.Read.val_main_v60_eq, h0, h5, h6]
    funext i
    rw [ValueIdx.eq_ix5 i]
    exact (prompt_pack0 m c (i 0) (i 1) (i 2) (i 3) (i 4)).symm
  · rw [Cert.ProjRefIdeal.Read.val_main_v68_eq, h0, h5, h6]
    funext i
    rw [ValueIdx.eq_ix5 i]
    exact (prompt_pack1 m c (i 0) (i 1) (i 2) (i 3) (i 4)).symm
  · rw [Cert.ProjRefIdeal.Read.val_main_v76_eq, h0, h5, h6]
    funext i
    rw [ValueIdx.eq_ix5 i]
    exact (prompt_pack2 m c (i 0) (i 1) (i 2) (i 3) (i 4)).symm
  · rw [Cert.ProjRefIdeal.Read.val_main_v140_eq, h1, h2, h5, h6]
    funext i
    rw [ValueIdx.eq_ix5 i]
    exact (sample_pack0 m c (i 0) (i 1) (i 2) (i 3) (i 4)).symm
  · rw [Cert.ProjRefIdeal.Read.val_main_v149_eq, h1, h3, h5, h6]
    funext i
    rw [ValueIdx.eq_ix5 i]
    exact (sample_pack1 m c (i 0) (i 1) (i 2) (i 3) (i 4)).symm
  · rw [Cert.ProjRefIdeal.Read.val_main_v158_eq, h1, h4, h5, h6]
    funext i
    rw [ValueIdx.eq_ix5 i]
    exact (sample_pack2 m c (i 0) (i 1) (i 2) (i 3) (i 4)).symm

end Cert.ProjIdeal.Heads

end
-- ==== Proof.LatValue.lean ====
/-
  What the latent projection writes: every row of its product is that row of the joined tokens, normed, times the weights.
-/
module

public import proofs.«01_k».proof.Proof.Gen.LatIdeal.Frame
public import proofs.«01_k».proof.Proof.RmsMath
public import Idealize.ShloMosaic.Lib.Pipeline.Value
public import Idealize.ShloMosaic.Lib.Pipeline.ValueKit.Acc
public import Idealize.ShloMosaic.Lib.Pointwise
public import Idealize.ShloMosaic.Lib.StableHlo.ReadAt

@[expose] public section

noncomputable section

namespace Cert.LatIdeal.Latent

open Cert.LatIdeal Cert.LatIdeal.Gen Cert.RmsMath
open Idealize.ShloMosaic
open Idealize.ShloMosaic.TcCoe Idealize.SL.Sem
open scoped BigOperators

/-- The body's stored value at an element. -/
theorem pay_apply (x0 : S544x2048.Idx → EReal) (x1 : S1x2048.Idx → EReal) (x2 : S2048x1344.Idx → EReal) (r : Fin 544) (d : Fin 1344) :
    k0_pay2 (F := Ideal) (k0_pay1 (F := Ideal) x0 x1) x2 (ix2 r d)
      = proj (fun k => x0 (ix2 r k)) (fun k => x1 (ix2 (0 : Fin 1) k)) (fun k => x2 (ix2 k d)) := by
  unfold k0_pay2 k0_pay1
  pointwise
  rfl

variable (m : (ℓ : Loc nD τ sig) → Buf (Elt Ideal) ℓ) (c : Dev nD)

/-- The five arrays the program is given. -/
abbrev argP : S2x4096x2048.Idx → EReal := m ((c : Thread nD τ).loc main_arg0)
abbrev argS : S128x4x2048.Idx → EReal := m ((c : Thread nD τ).loc main_arg1)
abbrev argG : S2048.Idx → EReal := m ((c : Thread nD τ).loc main_arg2)
abbrev argW : S2048x1344.Idx → EReal := m ((c : Thread nD τ).loc main_arg3)
abbrev argK : S512.Idx → EReal := m ((c : Thread nD τ).loc main_arg4)

/-- The joined tokens, the gain and the weights as the call finds them. -/
abbrev rows : S8704x2048.Idx → EReal := V m c main_v2
abbrev gain : S1x2048.Idx → EReal := V m c main_v4
abbrev wts : S2048x1344.Idx → EReal := V m c main_arg3

theorem gain_read (d : Fin 2048) : gain m c (ix2 (0 : Fin 1) d) = argG m c (ix1 d) := by
  unfold gain V V0 hostOps0
  after_reads_at

theorem rows_at (i : S8704x2048.Idx) :
    rows m c i = concatenate S8704x2048 0 [⟨S8192x2048, shapeCast S8192x2048 (argP m c) shapeCasts_S2x4096x2048_S8192x2048⟩,
      ⟨S512x2048, shapeCast S512x2048 (argS m c) shapeCasts_S128x4x2048_S512x2048⟩] concatenates_S8192x2048_S512x2048_S8704x2048_d0 i := by
  unfold rows V V0 hostOps0
  after_reads_simp
  rfl

/-- The whole product. -/
def result : S8704x1344.Idx → EReal := fun i =>
  proj (fun k => rows m c (ix2 (i 0) k)) (fun k => gain m c (ix2 (0 : Fin 1) k)) (fun k => wts m c (ix2 k (i 1)))

theorem result_apply (n : Fin 8704) (d : Fin 1344) : result m c (ix2 n d)
    = proj (fun k => rows m c (ix2 n k)) (fun k => gain m c (ix2 (0 : Fin 1) k)) (fun k => wts m c (ix2 k d)) := rfl

theorem row_val (t : Fin cfg0.N) : (grid0.coords t 0).val = t.val :=
  (Pipeline.Grid.coords_val (G := grid0) t 0 (S := 1) (B := 16) (by decide) rfl).trans (by have h : t.val < 16 := t.isLt; omega)

theorem col_val (t : Fin cfg0.N) : (grid0.coords t 1).val = 0 := by
  have h : (grid0.coords t 1).val < 1 := (grid0.coords t 1).isLt
  omega

theorem word (n : ℕ) (h : n < 4294967296) : (BitVec.ofNat 32 n).toNat = n := by
  rw [BitVec.toNat_ofNat]; exact Nat.mod_eq_of_lt h

abbrev rowOf (t : Fin cfg0.N) (r : Fin 544) : Fin 8704 := ⟨544 * t.val + r.val, by have h : t.val < 16 := t.isLt; omega⟩

theorem rows_block (t : Fin cfg0.N) (r : Fin 544) (k : Fin 2048) : iblk m c 0 t (ix2 r k) = rows m c (ix2 (rowOf t r) k) := by
  unfold iblk
  rw [View.read_apply]
  refine congrArg (rows m c) (funext fun x => Fin.ext ?_)
  have hv := row_val t
  have h : t.val < 16 := t.isLt
  match x with
  | ⟨0, _⟩ =>
    show (BitVec.ofNat 32 (grid0.coords t 0).val).toNat * 544 + 1 * r.val = 544 * t.val + r.val
    rw [word _ (by omega)]; omega
  | ⟨1, _⟩ => show 0 * 2048 + 1 * k.val = k.val; omega

theorem gain_block (t : Fin cfg0.N) (k : Fin 2048) : iblk m c 1 t (ix2 (0 : Fin 1) k) = gain m c (ix2 (0 : Fin 1) k) := by
  unfold iblk
  rw [View.read_apply]
  refine congrArg (gain m c) (funext fun x => Fin.ext ?_)
  match x with
  | ⟨0, _⟩ => rfl
  | ⟨1, _⟩ => show 0 * 2048 + 1 * k.val = k.val; omega

theorem wts_block (t : Fin cfg0.N) (k : Fin 2048) (d : Fin 1344) : iblk m c 2 t (ix2 k d) = wts m c (ix2 k d) := by
  unfold iblk
  rw [View.read_apply]
  refine congrArg (wts m c) (funext fun x => Fin.ext ?_)
  have hv := col_val t
  match x with
  | ⟨0, _⟩ => show 0 * 2048 + 1 * k.val = k.val; omega
  | ⟨1, _⟩ =>
    show (BitVec.ofNat 32 (grid0.coords t 1).val).toNat * 1344 + 1 * d.val = d.val
    rw [word _ (by omega)]; omega

theorem out_emb (t : Fin cfg0.N) (y : ((cfg0.win (5 : Fin 6)).xblock (cfg0.grid.coords t)).Idx) :
    ((cfg0.win (5 : Fin 6)).blk t).view.emb y
      = (ix2 (rowOf t ⟨(y 0).val, (y 0).isLt⟩) (⟨(y 1).val, (y 1).isLt⟩ : Fin 1344) : S8704x1344.Idx) := by
  have hv := row_val t
  have hw := col_val t
  have h : t.val < 16 := t.isLt
  refine funext fun x => Fin.ext ?_
  match x with
  | ⟨0, _⟩ =>
    show (BitVec.ofNat 32 (grid0.coords t 0).val).toNat * 544 + 1 * (y 0).val = 544 * t.val + (y 0).val
    rw [word _ (by omega)]; omega
  | ⟨1, _⟩ =>
    show (BitVec.ofNat 32 (grid0.coords t 1).val).toNat * 1344 + 1 * (y 1).val = (y 1).val
    rw [word _ (by omega)]; omega

/-- What a point leaves in the output's buffer: the body's value of the point's blocks. -/
theorem outs_eq (t : Fin cfg0.N) :
    outsAt0 m c t = k0_pay2 (F := Ideal) (k0_pay1 (F := Ideal) (iblk m c 0 t) (iblk m c 1 t)) (iblk m c 2 t) := by
  unfold outsAt0
  frame_out

theorem block_eq (t : Fin cfg0.N) (r : Fin 544) (d : Fin 1344) : outsAt0 m c t (ix2 r d) = result m c (ix2 (rowOf t r) d) := by
  rw [outs_eq]
  exact (pay_apply (iblk m c 0 t) (iblk m c 1 t) (iblk m c 2 t) r d).trans ((proj_congr (fun k => rows_block m c t r k)
    (fun k => gain_block m c t k) (fun k => wts_block m c t k d)).trans (result_apply m c (rowOf t r) d).symm)

/-- The array after the run. -/
theorem array_eq : (dats m 0 c).arrAt (5 : Fin 6) cfg0.N = result m c := by
  refine (dats m 0 c).arrAt_eq_of_cover (5 : Fin 6) (result m c) (fun t hf => funext fun y => ?_) fun i => ?_
  · show _ = result m c (((cfg0.win (5 : Fin 6)).blk t).view.emb y)
    rw [out_emb t y]
    refine Eq.trans ?_ (block_eq m c t ⟨(y 0).val, (y 0).isLt⟩ ⟨(y 1).val, (y 1).isLt⟩)
    refine (congrFun (after0_5 m c t) _).trans ?_
    generalize outsAt0 m c t = f
    refine congrArg f (funext fun x => Fin.ext ?_)
    match x with
    | ⟨0, _⟩ => rfl
    | ⟨1, _⟩ => rfl
  · have h0 : ((i : S8704x1344.Idx) 0).val < 8704 := ((i : S8704x1344.Idx) 0).isLt
    let t : Fin cfg0.N := ⟨((i : S8704x1344.Idx) 0).val / 544, by show _ < 16; omega⟩
    have ht : t.val = ((i : S8704x1344.Idx) 0).val / 544 := rfl
    refine ⟨t, flush0_5 t, ?_⟩
    have e := out_emb t (fun x => match x with
      | ⟨0, _⟩ => ⟨((i : S8704x1344.Idx) 0).val % 544, Nat.mod_lt _ (by decide)⟩
      | ⟨1, _⟩ => ⟨((i : S8704x1344.Idx) 1).val, ((i : S8704x1344.Idx) 1).isLt⟩)
    have : (i : S8704x1344.Idx) = ix2 (rowOf t ⟨((i : S8704x1344.Idx) 0).val % 544, Nat.mod_lt _ (by decide)⟩) (((i : S8704x1344.Idx) 1)) := by
      refine funext fun x => Fin.ext ?_
      match x with
      | ⟨0, _⟩ => show ((i : S8704x1344.Idx) 0).val = 544 * t.val + ((i : S8704x1344.Idx) 0).val % 544; omega
      | ⟨1, _⟩ => rfl
    rw [this]
    exact Finset.mem_map.2 ⟨_, Finset.mem_univ _, e⟩

/-! ## The joined rows are the given tokens -/

theorem rows_prompt (b : Fin 2) (s : Fin 4096) (k : Fin 2048) (n : Fin 8704) (hn : n.val = b.val * 4096 + s.val) :
    rows m c (ix2 n k) = argP m c (ix3 b s k) := by
  refine (rows_at m c _).trans ((concatenate_pair_apply_left (s₁ := S8192x2048) (s₂ := S512x2048) (t := S8704x2048) (0 : Fin 2) _ _ _ (ix2 n k) rfl
    (ix2 (⟨b.val * 4096 + s.val, by omega⟩ : Fin 8192) k) (fun x => match x with | ⟨0, _⟩ => hn.symm | ⟨1, _⟩ => rfl)).trans ?_)
  pointwise

theorem rows_sample (b : Fin 128) (s : Fin 4) (k : Fin 2048) (n : Fin 8704) (hn : n.val = 8192 + (b.val * 4 + s.val)) :
    rows m c (ix2 n k) = argS m c (ix3 b s k) := by
  refine (rows_at m c _).trans ((concatenate_pair_apply_right (s₁ := S8192x2048) (s₂ := S512x2048) (t := S8704x2048) (0 : Fin 2) _ _ _ (ix2 n k) rfl rfl
    (ix2 (⟨b.val * 4 + s.val, by omega⟩ : Fin 512) k) (fun x hx => match x, hx with | ⟨0, _⟩, hx => absurd rfl hx | ⟨1, _⟩, _ => rfl)
    (by show b.val * 4 + s.val + 8192 = n.val; omega)).trans ?_)
  pointwise

theorem result_prompt (b : Fin 2) (s : Fin 4096) (d : Fin 1344) (n : Fin 8704) (hn : n.val = b.val * 4096 + s.val) :
    result m c (ix2 n d) = proj (fun k => argP m c (ix3 b s k)) (fun k => argG m c (ix1 k)) (fun k => argW m c (ix2 k d)) :=
  (result_apply m c n d).trans (proj_congr (fun k => rows_prompt m c b s k n hn) (fun k => gain_read m c k)
    (fun k => congrFun (V_main_arg3 m c) (ix2 k d)))

theorem result_sample (b : Fin 128) (s : Fin 4) (d : Fin 1344) (n : Fin 8704) (hn : n.val = 8192 + (b.val * 4 + s.val)) :
    result m c (ix2 n d) = proj (fun k => argS m c (ix3 b s k)) (fun k => argG m c (ix1 k)) (fun k => argW m c (ix2 k d)) :=
  (result_apply m c n d).trans (proj_congr (fun k => rows_sample m c b s k n hn) (fun k => gain_read m c k)
    (fun k => congrFun (V_main_arg3 m c) (ix2 k d)))

end Cert.LatIdeal.Latent

end
-- ==== Proof.LatTail.lean ====
/-
  What the lines after the latent projection's call do to its product: the latent's norm and the key's turn.
-/
module

public import proofs.«01_k».proof.Proof.LatValue

@[expose] public section

noncomputable section

namespace Cert.LatIdeal.Latent

open Cert.LatIdeal Cert.LatIdeal.Gen Cert.RmsMath
open Idealize.ShloMosaic
open Idealize.ShloMosaic.TcCoe Idealize.SL.Sem
open scoped BigOperators

/-- The rows of the joined tokens. -/
abbrev promptRow (b : Fin 2) (s : Fin 4096) : Fin 8704 := ⟨b.val * 4096 + s.val, by omega⟩
abbrev sampleRow (b : Fin 128) (s : Fin 4) : Fin 8704 := ⟨8192 + (b.val * 4 + s.val), by omega⟩
/-- Where the latent and the key begin, and the two halves of the key. -/
abbrev latCol (k : Fin 512) : Fin 1344 := ⟨768 + k.val, by omega⟩
abbrev keyCol (k : Fin 64) : Fin 1344 := ⟨1280 + k.val, by omega⟩
abbrev lowHalf (i : Fin 32) : Fin 64 := ⟨i.val, by omega⟩
abbrev highHalf (i : Fin 32) : Fin 64 := ⟨32 + i.val, by omega⟩

variable (W : Valuation τ sig (Elt Ideal))

/-- A buffer's contents before those lines, and after. -/
abbrev zOf : S8704x1344.Idx → EReal := W (Proc.devRef .tc main_v5)
abbrev kvOf : S512.Idx → EReal := W (Proc.devRef .tc main_arg4)
abbrev tailAt (b : Ref sig .tc) := StableHlo.after hostOps1 W (Proc.devRef .tc b)

theorem prompt_latent_tail (b : Fin 2) (s : Fin 4096) (d : Fin 512) :
    (tailAt W main_v21 : S2x4096x512.Idx → EReal) (ix3 b s d) = lat (fun j => zOf W (ix2 (promptRow b s) (latCol j))) (fun k => kvOf W (ix1 k)) d := by
  unfold tailAt hostOps1
  after_reads_simp
  pointwise
  unfold lat len512 eps
  rfl

set_option maxRecDepth 16384 in
theorem prompt_key_low_tail (b : Fin 2) (s : Fin 4096) (i : Fin 32) :
    (tailAt W main_v60 : S2x4096x64.Idx → EReal) (ix3 b s (lowHalf i))
      = turnLow 0x42000000#32 (BitVec.ofNat 32 s.val) (BitVec.ofNat 32 i.val) (zOf W (ix2 (promptRow b s) (keyCol (lowHalf i)))) (zOf W (ix2 (promptRow b s) (keyCol (highHalf i)))) := by
  unfold tailAt hostOps1
  after_reads_simp
  refine (concatenate_pair_apply_left (s₁ := S2x4096x32) (s₂ := S2x4096x32) (t := S2x4096x64) (2 : Fin 3) _ _ _ (ix3 b s (lowHalf i)) rfl
    (ix3 b s i) (fun x => match x with | ⟨0, _⟩ => rfl | ⟨1, _⟩ => rfl | ⟨2, _⟩ => rfl)).trans ?_
  pointwise
  rfl

set_option maxRecDepth 16384 in
theorem prompt_key_high_tail (b : Fin 2) (s : Fin 4096) (i : Fin 32) :
    (tailAt W main_v60 : S2x4096x64.Idx → EReal) (ix3 b s (highHalf i))
      = turnHigh 0x42000000#32 (BitVec.ofNat 32 s.val) (BitVec.ofNat 32 i.val) (zOf W (ix2 (promptRow b s) (keyCol (lowHalf i)))) (zOf W (ix2 (promptRow b s) (keyCol (highHalf i)))) := by
  unfold tailAt hostOps1
  after_reads_simp
  refine (concatenate_pair_apply_right (s₁ := S2x4096x32) (s₂ := S2x4096x32) (t := S2x4096x64) (2 : Fin 3) _ _ _ (ix3 b s (highHalf i)) rfl rfl
    (ix3 b s i) (fun x hx => match x, hx with | ⟨0, _⟩, _ => rfl | ⟨1, _⟩, _ => rfl | ⟨2, _⟩, hx => absurd rfl hx) (Nat.add_comm _ _)).trans ?_
  pointwise
  rfl

theorem sample_latent_tail (b : Fin 128) (s : Fin 4) (d : Fin 512) :
    (tailAt W main_v23 : S128x4x512.Idx → EReal) (ix3 b s d) = lat (fun j => zOf W (ix2 (sampleRow b s) (latCol j))) (fun k => kvOf W (ix1 k)) d := by
  unfold tailAt hostOps1
  after_reads_simp
  pointwise
  unfold lat len512 eps
  rfl

theorem sample_key_low_tail (b : Fin 128) (s : Fin 4) (i : Fin 32) :
    (tailAt W main_v94 : S128x4x64.Idx → EReal) (ix3 b s (lowHalf i))
      = turnLow 0x42000000#32 (IntOp.addi 8192#32 (BitVec.ofNat 32 s.val)) (BitVec.ofNat 32 i.val) (zOf W (ix2 (sampleRow b s) (keyCol (lowHalf i)))) (zOf W (ix2 (sampleRow b s) (keyCol (highHalf i)))) := by
  unfold tailAt hostOps1
  after_reads_simp
  refine (concatenate_pair_apply_left (s₁ := S128x4x32) (s₂ := S128x4x32) (t := S128x4x64) (2 : Fin 3) _ _ _ (ix3 b s (lowHalf i)) rfl
    (ix3 b s i) (fun x => match x with | ⟨0, _⟩ => rfl | ⟨1, _⟩ => rfl | ⟨2, _⟩ => rfl)).trans ?_
  pointwise
  rfl

theorem sample_key_high_tail (b : Fin 128) (s : Fin 4) (i : Fin 32) :
    (tailAt W main_v94 : S128x4x64.Idx → EReal) (ix3 b s (highHalf i))
      = turnHigh 0x42000000#32 (IntOp.addi 8192#32 (BitVec.ofNat 32 s.val)) (BitVec.ofNat 32 i.val) (zOf W (ix2 (sampleRow b s) (keyCol (lowHalf i)))) (zOf W (ix2 (sampleRow b s) (keyCol (highHalf i)))) := by
  unfold tailAt hostOps1
  after_reads_simp
  refine (concatenate_pair_apply_right (s₁ := S128x4x32) (s₂ := S128x4x32) (t := S128x4x64) (2 : Fin 3) _ _ _ (ix3 b s (highHalf i)) rfl rfl
    (ix3 b s i) (fun x hx => match x, hx with | ⟨0, _⟩, _ => rfl | ⟨1, _⟩, _ => rfl | ⟨2, _⟩, hx => absurd rfl hx) (Nat.add_comm _ _)).trans ?_
  pointwise
  rfl

end Cert.LatIdeal.Latent

end
-- ==== Proof.LatRefRead.lean ====
/-
  What the plain latent projection gives at an element of each of its four results.
-/
module

public import proofs.«01_k».proof.Proof.Gen.LatRefIdeal.Read
public import proofs.«01_k».proof.Proof.RmsMath
public import Idealize.ShloMosaic.Lib.Pointwise

@[expose] public section

noncomputable section

namespace Cert.LatRefIdeal.Latent

open Cert.LatRefIdeal Cert.LatRefIdeal.Gen Cert.LatRefIdeal.Read Cert.RmsMath
open Idealize.ShloMosaic
open scoped BigOperators

/-- A column of the weights, and where the latent and the key begin. -/
abbrev colOf (w : S2048x1344.Idx → EReal) (n : Fin 1344) : Fin 2048 → EReal := fun k => w (ix2 k n)
abbrev latCol (k : Fin 512) : Fin 1344 := ⟨768 + k.val, by omega⟩
abbrev keyCol (k : Fin 64) : Fin 1344 := ⟨1280 + k.val, by omega⟩
abbrev lowHalf (i : Fin 32) : Fin 64 := ⟨i.val, by omega⟩
abbrev highHalf (i : Fin 32) : Fin 64 := ⟨32 + i.val, by omega⟩

/-! ## The prompt tokens -/

/-- The normed rows. -/
theorem prompt_normed (x : S2x4096x2048.Idx → EReal) (g : S2048.Idx → EReal) (b : Fin 2) (s : Fin 4096) (d : Fin 2048) :
    val_main_v12 (F := Ideal) x g (ix3 b s d) = rms (fun k => x (ix3 b s k)) (fun k => g (ix1 k)) d := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  unfold rms scale len eps
  rfl

/-- An element of the product with the weights. -/
theorem prompt_product (x : S2x4096x2048.Idx → EReal) (g : S2048.Idx → EReal) (w : S2048x1344.Idx → EReal) (b : Fin 2) (s : Fin 4096) (n : Fin 1344) :
    val_main_v14 (F := Ideal) x g w (ix3 b s n) = proj (fun k => x (ix3 b s k)) (fun k => g (ix1 k)) (colOf w n) := by
  rw [val_main_v14_apply]
  refine Finset.sum_congr rfl fun k _ => ?_
  refine congrArg₂ (· * ·) ((congrArg _ ?_).trans (prompt_normed x g b s k)) (congrArg w ?_)
  · exact funext fun x => match x with | ⟨0, _⟩ => rfl | ⟨1, _⟩ => rfl | ⟨2, _⟩ => rfl
  · exact funext fun x => match x with | ⟨0, _⟩ => rfl | ⟨1, _⟩ => rfl

/-- The latent: the normed slice of the product. -/
theorem prompt_latent (x : S2x4096x2048.Idx → EReal) (g : S2048.Idx → EReal) (w : S2048x1344.Idx → EReal) (kv : S512.Idx → EReal) (b : Fin 2) (s : Fin 4096) (d : Fin 512) :
    val_main_v28 (F := Ideal) x g w kv (ix3 b s d)
      = lat (fun j => proj (fun k => x (ix3 b s k)) (fun k => g (ix1 k)) (colOf w (latCol j))) (fun k => kv (ix1 k)) d := by
  have e : val_main_v28 (F := Ideal) x g w kv (ix3 b s d)
      = lat (fun j => val_main_v14 (F := Ideal) x g w (ix3 b s (latCol j))) (fun k => kv (ix1 k)) d := by
    unfold val_main_v28 val_main_v27 val_main_v26 val_main_v25 val_main_v24 val_main_v23 val_main_v22 val_main_v21 val_main_cst_4 val_main_v20 val_main_v19 val_main_cst_3 val_main_v18 val_main_v17 val_main_cst_2 val_main_v16 val_main_v15
    generalize val_main_v14 (F := Ideal) x g w = z
    pointwise
    unfold lat len512 eps
    rfl
  rw [e]
  exact congrArg (fun p => lat p _ d) (funext fun j => prompt_product x g w b s (latCol j))

/-- The key, turned by its position: the first half and the second. -/
theorem prompt_key_low (x : S2x4096x2048.Idx → EReal) (g : S2048.Idx → EReal) (w : S2048x1344.Idx → EReal) (b : Fin 2) (s : Fin 4096) (i : Fin 32) :
    val_main_v60 (F := Ideal) x g w (ix3 b s (lowHalf i))
      = turnLow 0x42000000#32 (BitVec.ofNat 32 s.val) (BitVec.ofNat 32 i.val)
          (proj (fun k => x (ix3 b s k)) (fun k => g (ix1 k)) (colOf w (keyCol (lowHalf i))))
          (proj (fun k => x (ix3 b s k)) (fun k => g (ix1 k)) (colOf w (keyCol (highHalf i)))) := by
  refine Eq.trans ?_ (congrArg₂ (turnLow _ _ _) (prompt_product x g w b s _) (prompt_product x g w b s _))
  unfold val_main_v60
  refine (concatenate_pair_apply_left (s₁ := S2x4096x32) (s₂ := S2x4096x32) (t := S2x4096x64) (2 : Fin 3) _ _ _ (ix3 b s (lowHalf i)) rfl
    (ix3 b s i) (fun x => match x with | ⟨0, _⟩ => rfl | ⟨1, _⟩ => rfl | ⟨2, _⟩ => rfl)).trans ?_
  unfold val_main_v52 val_main_v51 val_main_v50 val_main_v49 val_main_v43 val_main_v45 val_main_v48 val_main_v47 val_main_v46 val_main_v42 val_main_v41 val_main_v40 val_main_v38 val_main_v35 val_main_v33 val_main_v32 val_main_cst_5 val_main_v31 val_main_v30 val_main_v34 val_main_cst_6 val_main_v39 val_main_v37 val_main_v36 val_main_v13 val_main_v44 val_main_v29
  generalize val_main_v14 (F := Ideal) x g w = z
  pointwise
  rfl

theorem prompt_key_high (x : S2x4096x2048.Idx → EReal) (g : S2048.Idx → EReal) (w : S2048x1344.Idx → EReal) (b : Fin 2) (s : Fin 4096) (i : Fin 32) :
    val_main_v60 (F := Ideal) x g w (ix3 b s (highHalf i))
      = turnHigh 0x42000000#32 (BitVec.ofNat 32 s.val) (BitVec.ofNat 32 i.val)
          (proj (fun k => x (ix3 b s k)) (fun k => g (ix1 k)) (colOf w (keyCol (lowHalf i))))
          (proj (fun k => x (ix3 b s k)) (fun k => g (ix1 k)) (colOf w (keyCol (highHalf i)))) := by
  refine Eq.trans ?_ (congrArg₂ (turnHigh _ _ _) (prompt_product x g w b s _) (prompt_product x g w b s _))
  unfold val_main_v60
  refine (concatenate_pair_apply_right (s₁ := S2x4096x32) (s₂ := S2x4096x32) (t := S2x4096x64) (2 : Fin 3) _ _ _ (ix3 b s (highHalf i)) rfl rfl
    (ix3 b s i) (fun x hx => match x, hx with | ⟨0, _⟩, _ => rfl | ⟨1, _⟩, _ => rfl | ⟨2, _⟩, hx => absurd rfl hx) (Nat.add_comm _ _)).trans ?_
  unfold val_main_v59 val_main_v58 val_main_v57 val_main_v56 val_main_v43 val_main_v44 val_main_v55 val_main_v54 val_main_v53 val_main_v42 val_main_v41 val_main_v40 val_main_v38 val_main_v35 val_main_v33 val_main_v32 val_main_cst_5 val_main_v31 val_main_v30 val_main_v34 val_main_cst_6 val_main_v39 val_main_v37 val_main_v36 val_main_v13 val_main_v45 val_main_v29
  generalize val_main_v14 (F := Ideal) x g w = z
  pointwise
  rfl

/-! ## The sample tokens -/

/-- The normed rows. -/
theorem sample_normed (x : S128x4x2048.Idx → EReal) (g : S2048.Idx → EReal) (b : Fin 128) (s : Fin 4) (d : Fin 2048) :
    val_main_v73 (F := Ideal) x g (ix3 b s d) = rms (fun k => x (ix3 b s k)) (fun k => g (ix1 k)) d := by
  unfold val_main_v73 val_main_v72 val_main_v71 val_main_v70 val_main_v69 val_main_v68 val_main_v67 val_main_v66 val_main_cst_9 val_main_v65 val_main_v64 val_main_cst_8 val_main_v63 val_main_v62 val_main_cst_7 val_main_v61
  pointwise
  unfold rms scale len eps
  rfl

/-- An element of the product with the weights. -/
theorem sample_product (x : S128x4x2048.Idx → EReal) (g : S2048.Idx → EReal) (w : S2048x1344.Idx → EReal) (b : Fin 128) (s : Fin 4) (n : Fin 1344) :
    val_main_v77 (F := Ideal) x g w (ix3 b s n) = proj (fun k => x (ix3 b s k)) (fun k => g (ix1 k)) (colOf w n) := by
  rw [val_main_v77_apply]
  refine Finset.sum_congr rfl fun k _ => ?_
  refine congrArg₂ (· * ·) ((congrArg _ ?_).trans (sample_normed x g b s k)) (congrArg w ?_)
  · exact funext fun x => match x with | ⟨0, _⟩ => rfl | ⟨1, _⟩ => rfl | ⟨2, _⟩ => rfl
  · exact funext fun x => match x with | ⟨0, _⟩ => rfl | ⟨1, _⟩ => rfl

/-- The latent: the normed slice of the product. -/
theorem sample_latent (x : S128x4x2048.Idx → EReal) (g : S2048.Idx → EReal) (w : S2048x1344.Idx → EReal) (kv : S512.Idx → EReal) (b : Fin 128) (s : Fin 4) (d : Fin 512) :
    val_main_v91 (F := Ideal) x g w kv (ix3 b s d)
      = lat (fun j => proj (fun k => x (ix3 b s k)) (fun k => g (ix1 k)) (colOf w (latCol j))) (fun k => kv (ix1 k)) d := by
  have e : val_main_v91 (F := Ideal) x g w kv (ix3 b s d)
      = lat (fun j => val_main_v77 (F := Ideal) x g w (ix3 b s (latCol j))) (fun k => kv (ix1 k)) d := by
    unfold val_main_v91 val_main_v90 val_main_v89 val_main_v88 val_main_v87 val_main_v86 val_main_v85 val_main_v84 val_main_cst_12 val_main_v83 val_main_v82 val_main_cst_11 val_main_v81 val_main_v80 val_main_cst_10 val_main_v79 val_main_v78
    generalize val_main_v77 (F := Ideal) x g w = z
    pointwise
    unfold lat len512 eps
    rfl
  rw [e]
  exact congrArg (fun p => lat p _ d) (funext fun j => sample_product x g w b s (latCol j))

/-- The key, turned by its position: the first half and the second. -/
theorem sample_key_low (x : S128x4x2048.Idx → EReal) (g : S2048.Idx → EReal) (w : S2048x1344.Idx → EReal) (b : Fin 128) (s : Fin 4) (i : Fin 32) :
    val_main_v123 (F := Ideal) x g w (ix3 b s (lowHalf i))
      = turnLow 0x42000000#32 (IntOp.addi 8192#32 (BitVec.ofNat 32 s.val)) (BitVec.ofNat 32 i.val)
          (proj (fun k => x (ix3 b s k)) (fun k => g (ix1 k)) (colOf w (keyCol (lowHalf i))))
          (proj (fun k => x (ix3 b s k)) (fun k => g (ix1 k)) (colOf w (keyCol (highHalf i)))) := by
  refine Eq.trans ?_ (congrArg₂ (turnLow _ _ _) (sample_product x g w b s _) (sample_product x g w b s _))
  unfold val_main_v123
  refine (concatenate_pair_apply_left (s₁ := S128x4x32) (s₂ := S128x4x32) (t := S128x4x64) (2 : Fin 3) _ _ _ (ix3 b s (lowHalf i)) rfl
    (ix3 b s i) (fun x => match x with | ⟨0, _⟩ => rfl | ⟨1, _⟩ => rfl | ⟨2, _⟩ => rfl)).trans ?_
  unfold val_main_v115 val_main_v114 val_main_v113 val_main_v112 val_main_v106 val_main_v108 val_main_v111 val_main_v110 val_main_v109 val_main_v105 val_main_v104 val_main_v103 val_main_v101 val_main_v98 val_main_v96 val_main_v95 val_main_cst_13 val_main_v94 val_main_v93 val_main_v97 val_main_cst_14 val_main_v102 val_main_v100 val_main_v99 val_main_v76 val_main_v74 val_main_v75 val_main_c val_main_v107 val_main_v92
  generalize val_main_v77 (F := Ideal) x g w = z
  pointwise
  rfl

theorem sample_key_high (x : S128x4x2048.Idx → EReal) (g : S2048.Idx → EReal) (w : S2048x1344.Idx → EReal) (b : Fin 128) (s : Fin 4) (i : Fin 32) :
    val_main_v123 (F := Ideal) x g w (ix3 b s (highHalf i))
      = turnHigh 0x42000000#32 (IntOp.addi 8192#32 (BitVec.ofNat 32 s.val)) (BitVec.ofNat 32 i.val)
          (proj (fun k => x (ix3 b s k)) (fun k => g (ix1 k)) (colOf w (keyCol (lowHalf i))))
          (proj (fun k => x (ix3 b s k)) (fun k => g (ix1 k)) (colOf w (keyCol (highHalf i)))) := by
  refine Eq.trans ?_ (congrArg₂ (turnHigh _ _ _) (sample_product x g w b s _) (sample_product x g w b s _))
  unfold val_main_v123
  refine (concatenate_pair_apply_right (s₁ := S128x4x32) (s₂ := S128x4x32) (t := S128x4x64) (2 : Fin 3) _ _ _ (ix3 b s (highHalf i)) rfl rfl
    (ix3 b s i) (fun x hx => match x, hx with | ⟨0, _⟩, _ => rfl | ⟨1, _⟩, _ => rfl | ⟨2, _⟩, hx => absurd rfl hx) (Nat.add_comm _ _)).trans ?_
  unfold val_main_v122 val_main_v121 val_main_v120 val_main_v119 val_main_v106 val_main_v107 val_main_v118 val_main_v117 val_main_v116 val_main_v105 val_main_v104 val_main_v103 val_main_v101 val_main_v98 val_main_v96 val_main_v95 val_main_cst_13 val_main_v94 val_main_v93 val_main_v97 val_main_cst_14 val_main_v102 val_main_v100 val_main_v99 val_main_v76 val_main_v74 val_main_v75 val_main_c val_main_v108 val_main_v92
  generalize val_main_v77 (F := Ideal) x g w = z
  pointwise
  rfl

end Cert.LatRefIdeal.Latent

end
-- ==== Proof.LatClaim.lean ====
/-
  The latent projection and its plain reference leave the same latents and keys.
-/
module

public import proofs.«01_k».proof.Defs
public import proofs.«01_k».proof.Proof.LatTail
public import proofs.«01_k».proof.Proof.LatRefRead
public import proofs.«01_k».proof.Proof.Gen.LatRefIdeal.Run
public import Idealize.ShloMosaic.Lib.Quiescent
public import Idealize.ShloMosaic.Lib.ValueIdx

@[expose] public section

noncomputable section

namespace Cert.LatIdeal.Latent

open Cert.LatIdeal Cert.LatIdeal.Gen Cert.RmsMath
open Idealize.ShloMosaic
open Idealize.ShloMosaic.TcCoe Idealize.SL.Sem
open scoped BigOperators

variable (m : (ℓ : Loc nD τ sig) → Buf (Elt Ideal) ℓ) (c : Dev nD)

/-- The buffers as the call leaves them. -/
abbrev left : Valuation τ sig (Elt Ideal) := Pipeline.withArrays (cfgs 0).spec c (V0 m c) fun w => (dats m 0 c).arrAt w (cfgs 0).N

theorem left_product : zOf (left m c) = result m c :=
  (Pipeline.withArrays_arr_shared spec0 c (V0 m c) _ (Pipeline.Dat.arrAt_sharedIn (dats m 0 c) sharedIn0 (V0 m c) (A_eq m c) _) (5 : Fin 6)).trans (array_eq m c)

theorem left_gain : kvOf (left m c) = argK m c :=
  (Pipeline.withArrays_of_ne spec0 c (V0 m c) _ main_arg4 (by decide)).trans (V_main_arg4 m c)

/-- What the program ends with in a buffer. -/
abbrev finalAt (b : Ref sig .tc) := Pipeline.afterTail₀ cfgs (dats m) 0 (V0 m) [hostOps1] c b

theorem final_eq (b : Ref sig .tc) : finalAt m c b = tailAt (left m c) b := by
  unfold finalAt Pipeline.afterTail₀ tailAt
  simp only [List.flatten_cons, List.flatten_nil, List.append_nil]

theorem prompt_latent (b : Fin 2) (s : Fin 4096) (d : Fin 512) : (finalAt m c main_v21 : S2x4096x512.Idx → EReal) (ix3 b s d)
    = Cert.LatRefIdeal.Read.val_main_v28 (F := Ideal) (argP m c) (argG m c) (argW m c) (argK m c) (ix3 b s d) := by
  rw [final_eq, prompt_latent_tail, left_product, left_gain, Cert.LatRefIdeal.Latent.prompt_latent]
  exact congrArg (fun p => lat p _ d) (funext fun j => result_prompt m c b s _ _ rfl)

theorem sample_latent (b : Fin 128) (s : Fin 4) (d : Fin 512) : (finalAt m c main_v23 : S128x4x512.Idx → EReal) (ix3 b s d)
    = Cert.LatRefIdeal.Read.val_main_v91 (F := Ideal) (argS m c) (argG m c) (argW m c) (argK m c) (ix3 b s d) := by
  rw [final_eq, sample_latent_tail, left_product, left_gain, Cert.LatRefIdeal.Latent.sample_latent]
  exact congrArg (fun p => lat p _ d) (funext fun j => result_sample m c b s _ _ rfl)

/-- An element of a key lies in its first half or in its second. -/
theorem half_cases (d : Fin 64) : (∃ i, d = lowHalf i) ∨ ∃ i, d = highHalf i := by
  by_cases h : d.val < 32
  · exact .inl ⟨⟨d.val, h⟩, rfl⟩
  · exact .inr ⟨⟨d.val - 32, by omega⟩, Fin.ext (by show d.val = 32 + (d.val - 32); omega)⟩

theorem prompt_key (b : Fin 2) (s : Fin 4096) (d : Fin 64) : (finalAt m c main_v60 : S2x4096x64.Idx → EReal) (ix3 b s d)
    = Cert.LatRefIdeal.Read.val_main_v60 (F := Ideal) (argP m c) (argG m c) (argW m c) (ix3 b s d) := by
  rw [final_eq]
  obtain ⟨i, rfl⟩ | ⟨i, rfl⟩ := half_cases d
  · rw [prompt_key_low_tail, left_product]
    refine Eq.trans ?_ (Cert.LatRefIdeal.Latent.prompt_key_low _ _ _ b s i).symm
    exact congrArg₂ (turnLow _ _ _) (result_prompt m c b s _ _ rfl) (result_prompt m c b s _ _ rfl)
  · rw [prompt_key_high_tail, left_product]
    refine Eq.trans ?_ (Cert.LatRefIdeal.Latent.prompt_key_high _ _ _ b s i).symm
    exact congrArg₂ (turnHigh _ _ _) (result_prompt m c b s _ _ rfl) (result_prompt m c b s _ _ rfl)

theorem sample_key (b : Fin 128) (s : Fin 4) (d : Fin 64) : (finalAt m c main_v94 : S128x4x64.Idx → EReal) (ix3 b s d)
    = Cert.LatRefIdeal.Read.val_main_v123 (F := Ideal) (argS m c) (argG m c) (argW m c) (ix3 b s d) := by
  rw [final_eq]
  obtain ⟨i, rfl⟩ | ⟨i, rfl⟩ := half_cases d
  · rw [sample_key_low_tail, left_product]
    refine Eq.trans ?_ (Cert.LatRefIdeal.Latent.sample_key_low _ _ _ b s i).symm
    exact congrArg₂ (turnLow _ _ _) (result_sample m c b s _ _ rfl) (result_sample m c b s _ _ rfl)
  · rw [sample_key_high_tail, left_product]
    refine Eq.trans ?_ (Cert.LatRefIdeal.Latent.sample_key_high _ _ _ b s i).symm
    exact congrArg₂ (turnHigh _ _ _) (result_sample m c b s _ _ rfl) (result_sample m c b s _ _ rfl)

/-- Every run ends with these contents and the arguments unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v21) = finalAt m c main_v21
      ∧ r.2.mem ((c.tc : Thread nD τ).loc main_v60) = finalAt m c main_v60
      ∧ r.2.mem ((c.tc : Thread nD τ).loc main_v23) = finalAt m c main_v23
      ∧ r.2.mem ((c.tc : Thread nD τ).loc main_v94) = finalAt m c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c).2 main_v21 (Pipeline.mem_restRefs_of main_v21 (by decide) (by decide)), (h.1 c).2 main_v60 (Pipeline.mem_restRefs_of main_v60 (by decide) (by decide)),
      (h.1 c).2 main_v23 (Pipeline.mem_restRefs_of main_v23 (by decide) (by decide)), (h.1 c).2 main_v94 (Pipeline.mem_restRefs_of main_v94 (by decide) (by decide)), h.2 c⟩)
    (θ_run_and (run_main m g) (unchanged m g))

/-- The latent projection's value claim. -/
theorem algebraic : Cert.algebraic_LatIdeal_LatRefIdeal := by
  intro m g m' g' _ hargs
  refine ⟨fun c => finalAt m c main_v21, fun c => finalAt m c main_v60, fun c => finalAt m c main_v23, fun c => finalAt m c main_v94, run m g, ?_⟩
  refine (θ_run _ _ _).mono (fun r h c => ⟨(h c).1.trans ?_, (h c).2.1.trans ?_, (h c).2.2.1.trans ?_, (h c).2.2.2.1.trans ?_, (h c).2.2.2.2⟩) (Cert.LatRefIdeal.Value.run (F := Ideal) m' g')
  all_goals
    obtain ⟨h0, h1, h2, h3, h4⟩ := hargs c
    have e (b : Ref Cert.LatRefIdeal.sig .tc) : StableHlo.launchContents m' c (Proc.devRef .tc b)
        = m' ((c.tc : Thread Cert.LatRefIdeal.nD Cert.LatRefIdeal.τ).loc b) := rfl
  · rw [Cert.LatRefIdeal.Read.val_main_v28_eq, h0, h2, h3, h4]
    funext i
    rw [ValueIdx.eq_ix3 i]
    exact (prompt_latent m c (i 0) (i 1) (i 2)).symm
  · rw [Cert.LatRefIdeal.Read.val_main_v60_eq, h0, h2, h3]
    funext i
    rw [ValueIdx.eq_ix3 i]
    exact (prompt_key m c (i 0) (i 1) (i 2)).symm
  · rw [Cert.LatRefIdeal.Read.val_main_v91_eq, h1, h2, h3, h4]
    funext i
    rw [ValueIdx.eq_ix3 i]
    exact (sample_latent m c (i 0) (i 1) (i 2)).symm
  · rw [Cert.LatRefIdeal.Read.val_main_v123_eq, h1, h2, h3]
    funext i
    rw [ValueIdx.eq_ix3 i]
    exact (sample_key m c (i 0) (i 1) (i 2)).symm

end Cert.LatIdeal.Latent

end
-- ==== Proof.lean ====
/-
  The claims about the grouped expert call, the final norm, two attention layers' in-projections, an out-projection, the
  router's call and the latent attention's two up-projections: each runs and
  leaves its arguments as they were, its idealization is the program itself, and over the reals it computes what its
  plain reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.MoeTables
public import proofs.«01_k».proof.Proof.MoeValue
public import proofs.«01_k».proof.Proof.MoeRef
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Lat
public import proofs.«01_k».proof.Proof.Gen.Lat.Frame
public import proofs.«01_k».proof.Proof.Gen.LatIdeal
public import proofs.«01_k».proof.Proof.Gen.LatIdeal.Frame
public import proofs.«01_k».proof.Proof.Gen.LatRefIdeal
public import proofs.«01_k».proof.Proof.Gen.LatRefIdeal.Run
public import proofs.«01_k».proof.Proof.Gen.LatRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.OutClaim
public import proofs.«01_k».proof.Proof.RouterClaim
public import proofs.«01_k».proof.Proof.UpClaim
public import proofs.«01_k».proof.Proof.KvClaim
public import proofs.«01_k».proof.Proof.FfnClaim
public import proofs.«01_k».proof.Proof.FinalClaim
public import proofs.«01_k».proof.Proof.ProjClaim
public import proofs.«01_k».proof.Proof.LatClaim
public import Idealize.ShloMosaic.Lib.Quiescent
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The call runs on its own arguments and leaves them as they were. -/
theorem frame_kernel : Cert.quiescent_Kernel := fun m g hpre =>
  have hlt := Cert.Kernel.Moe.words_lt (F := Bits) _ _ _ _ _ _ (hpre 0)
  (θ_run _ _ _).mono (fun _ h => ⟨fun c => (h.1 c).2, h.2⟩)
    (Cert.Kernel.Moe.run (F := Bits) (Cert.Kernel.Moe.adm m hlt) m g (Cert.Kernel.Moe.tables_agree m))

theorem frame_ideal : Cert.quiescent_KernelIdeal := fun m g hpre =>
  have hlt := Cert.KernelIdeal.Moe.words_lt (F := Ideal) _ _ _ _ _ _ (hpre 0)
  (θ_run _ _ _).mono (fun _ h => ⟨fun c => (h.1 c).2, h.2⟩)
    (Cert.KernelIdeal.Moe.run (F := Ideal) (Cert.KernelIdeal.Moe.adm m hlt) m g (Cert.KernelIdeal.Moe.tables_agree m))

/-- The reference is host code with no semaphore. -/
theorem frame_reference : Cert.quiescent_ReferenceIdeal := fun m g _ =>
  (θ_run _ _ _).mono (fun r h => ⟨fun c => (h c).2, sem_eq_zero_of_no_sems rfl r.2⟩) (Cert.ReferenceIdeal.Value.run (F := Ideal) m g)

/-- Both give every row its expert's gated output, and zero on tiles that are not in use. -/
theorem algebraic : Cert.algebraic_KernelIdeal_ReferenceIdeal := by
  intro m g m' g' hpre hargs
  have hlt := Cert.KernelIdeal.Moe.words_lt (F := Ideal) _ _ _ _ _ _ (hpre 0)
  let a := Cert.KernelIdeal.Moe.adm m hlt
  refine ⟨fun c => Cert.KernelIdeal.Moe.result a m c, ?_, ?_⟩
  · exact (θ_run _ _ _).mono (fun r h c => ⟨(h.1 c).1.trans (Cert.KernelIdeal.Moe.array_eq a m c hlt), (h.1 c).2⟩)
      (Cert.KernelIdeal.Moe.run (F := Ideal) a m g (Cert.KernelIdeal.Moe.tables_agree m))
  · refine (θ_run _ _ _).mono (fun r h c => ⟨(h c).1.trans ?_, (h c).2⟩) (Cert.ReferenceIdeal.Value.run (F := Ideal) m' g')
    rw [Cert.ReferenceIdeal.Read.val_main_v159_eq]
    obtain ⟨h0, h1, h2, h3, h4, h5⟩ := hargs c
    have e (b : Ref Cert.ReferenceIdeal.sig .tc) : StableHlo.launchContents m' c (Proc.devRef .tc b)
        = m' ((c.tc : Thread Cert.ReferenceIdeal.nD Cert.ReferenceIdeal.τ).loc b) := rfl
    rw [e, e, e, e, e, e, h0, h1, h2, h3, h4, h5]
    funext i
    refine (congrArg _ (ValueIdx.eq_ix2 i)).trans ((Cert.ReferenceIdeal.Moe.result_read _ _ _ _ _ _ (i 0) (i 1)).trans ?_)
    have e2 : m ((c.tc : Thread _ _).loc Cert.KernelIdeal.main_arg2) = a.1 (0 : Fin 2) := Cert.KernelIdeal.Moe.tables_agree m c 0
    have e3 : m ((c.tc : Thread _ _).loc Cert.KernelIdeal.main_arg3) = a.1 (1 : Fin 2) := Cert.KernelIdeal.Moe.tables_agree m c 1
    rw [e2, e3]
    rfl

/-- The plain references are host code with no semaphore. -/
theorem frame_final_reference : Cert.quiescent_FinalRefIdeal := fun m g _ =>
  (θ_run _ _ _).mono (fun r h => ⟨fun c => (h c).2.2, sem_eq_zero_of_no_sems rfl r.2⟩) (Cert.FinalRefIdeal.Value.run (F := Ideal) m g)

theorem frame_proj_reference : Cert.quiescent_ProjRefIdeal := fun m g _ =>
  (θ_run _ _ _).mono (fun r h => ⟨fun c => (h c).2.2.2.2.2.2, sem_eq_zero_of_no_sems rfl r.2⟩) (Cert.ProjRefIdeal.Value.run (F := Ideal) m g)

theorem frame_lat_reference : Cert.quiescent_LatRefIdeal := fun m g _ =>
  (θ_run _ _ _).mono (fun r h => ⟨fun c => (h c).2.2.2.2, sem_eq_zero_of_no_sems rfl r.2⟩) (Cert.LatRefIdeal.Value.run (F := Ideal) m g)

theorem frame_out_reference : Cert.quiescent_OutRefIdeal := fun m g _ =>
  (θ_run _ _ _).mono (fun r h => ⟨fun c => (h c).2, sem_eq_zero_of_no_sems rfl r.2⟩) (Cert.OutRefIdeal.Value.run (F := Ideal) m g)

theorem frame_router_reference : Cert.quiescent_RouterRefIdeal := fun m g _ =>
  (θ_run _ _ _).mono (fun r h => ⟨fun c => (h c).2.2, sem_eq_zero_of_no_sems rfl r.2⟩) (Cert.RouterRefIdeal.Value.run (F := Ideal) m g)

theorem frame_up_reference : Cert.quiescent_UpRefIdeal := fun m g _ =>
  (θ_run _ _ _).mono (fun r h => ⟨fun c => (h c).2, sem_eq_zero_of_no_sems rfl r.2⟩) (Cert.UpRefIdeal.Value.run (F := Ideal) m g)

theorem frame_kv_reference : Cert.quiescent_KvRefIdeal := fun m g _ =>
  (θ_run _ _ _).mono (fun r h => ⟨fun c => (h c).2, sem_eq_zero_of_no_sems rfl r.2⟩) (Cert.KvRefIdeal.Value.run (F := Ideal) m g)

theorem frame_ffn_reference : Cert.quiescent_FfnRefIdeal := fun m g _ =>
  (θ_run _ _ _).mono (fun r h => ⟨fun c => (h c).2, sem_eq_zero_of_no_sems rfl r.2⟩) (Cert.FfnRefIdeal.Value.run (F := Ideal) m g)

/-- Everything claimed: of each call its three frames, then for each that its idealization is the program itself and its value. -/
theorem claim : Cert.Claim := ⟨Cert.Kernel.Gen.facts, Cert.KernelIdeal.Gen.facts, Cert.ReferenceIdeal.Gen.facts,
  Cert.Final.Gen.facts, Cert.FinalIdeal.Gen.facts, Cert.FinalRefIdeal.Gen.facts,
  Cert.Proj.Gen.facts, Cert.ProjIdeal.Gen.facts, Cert.ProjRefIdeal.Gen.facts,
  Cert.Lat.Gen.facts, Cert.LatIdeal.Gen.facts, Cert.LatRefIdeal.Gen.facts,
  Cert.Out.Gen.facts, Cert.OutIdeal.Gen.facts, Cert.OutRefIdeal.Gen.facts,
  Cert.Router.Gen.facts, Cert.RouterIdeal.Gen.facts, Cert.RouterRefIdeal.Gen.facts,
  Cert.Up.Gen.facts, Cert.UpIdeal.Gen.facts, Cert.UpRefIdeal.Gen.facts,
  Cert.Kv.Gen.facts, Cert.KvIdeal.Gen.facts, Cert.KvRefIdeal.Gen.facts,
  Cert.Ffn.Gen.facts, Cert.FfnIdeal.Gen.facts, Cert.FfnRefIdeal.Gen.facts,
  Cert.Pre_in_range.Gen.facts,
  frame_kernel, frame_ideal, frame_reference,
  fun m g _ => Cert.Final.Gen.frame m g, fun m g _ => Cert.FinalIdeal.Gen.frame m g, frame_final_reference,
  fun m g _ => Cert.Proj.Gen.frame m g, fun m g _ => Cert.ProjIdeal.Gen.frame m g, frame_proj_reference,
  fun m g _ => Cert.Lat.Gen.frame m g, fun m g _ => Cert.LatIdeal.Gen.frame m g, frame_lat_reference,
  fun m g _ => Cert.Out.Gen.frame m g, fun m g _ => Cert.OutIdeal.Gen.frame m g, frame_out_reference,
  fun m g _ => Cert.Router.Gen.frame m g, fun m g _ => Cert.RouterIdeal.Gen.frame m g, frame_router_reference,
  fun m g _ => Cert.Up.Gen.frame m g, fun m g _ => Cert.UpIdeal.Gen.frame m g, frame_up_reference,
  fun m g _ => Cert.Kv.Gen.frame m g, fun m g _ => Cert.KvIdeal.Gen.frame m g, frame_kv_reference,
  fun m g _ => Cert.Ffn.Gen.frame m g, fun m g _ => Cert.FfnIdeal.Gen.frame m g, frame_ffn_reference,
  trivial, algebraic, trivial, Cert.FinalIdeal.Norm.algebraic, trivial, Cert.ProjIdeal.Heads.algebraic, trivial, Cert.LatIdeal.Latent.algebraic,
  trivial, Cert.OutIdeal.Resid.algebraic, trivial, Cert.RouterIdeal.Logits.algebraic, trivial, Cert.UpIdeal.Query.algebraic, trivial, Cert.KvIdeal.KeyValue.algebraic,
  trivial, Cert.FfnIdeal.Dense.algebraic⟩

end Cert.Proof

end
